-- ==== Defs.lean ====
def Pre_Kernel [hPre_labels_in_range : Cert.Pre_labels_in_range.Facts] (m : (ℓ : Loc Cert.Kernel.nD Cert.Kernel.τ Cert.Kernel.sig) → Buf (Elt Bits) ℓ) : Prop :=
  ∀ c : Dev Cert.Kernel.nD,
    (Cert.Pre_labels_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_labels_in_range : Cert.Pre_labels_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_labels_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_KernelIdeal_in_range_and_valid [hPre_in_range_and_valid : Cert.Pre_in_range_and_valid.Facts] (m : (ℓ : Loc Cert.KernelIdeal.nD Cert.KernelIdeal.τ Cert.KernelIdeal.sig) → Buf (Elt Ideal) ℓ) : Prop :=
  ∀ c : Dev Cert.KernelIdeal.nD,
    (Cert.Pre_in_range_and_valid.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range_and_valid [hPre_in_range_and_valid : Cert.Pre_in_range_and_valid.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range_and_valid.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] [hPre_labels_in_range : Cert.Pre_labels_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_labels_in_range : Cert.Pre_labels_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_in_range_and_valid [hKernelIdeal : Cert.KernelIdeal.Facts] [hPre_in_range_and_valid : Cert.Pre_in_range_and_valid.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range_and_valid m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_in_range_and_valid [hReferenceIdeal : Cert.ReferenceIdeal.Facts] [hPre_in_range_and_valid : Cert.Pre_in_range_and_valid.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range_and_valid m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_in_range_and_valid [hKernelIdeal : Cert.KernelIdeal.Facts] [hReferenceIdeal : Cert.ReferenceIdeal.Facts] [hPre_in_range_and_valid : Cert.Pre_in_range_and_valid.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range_and_valid m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_labels_in_range : Cert.Pre_labels_in_range.Facts) (hPre_in_range_and_valid : Cert.Pre_in_range_and_valid.Facts),
    quiescent_Kernel (hKernel := hKernel) (hPre_labels_in_range := hPre_labels_in_range)
    ∧ quiescent_KernelIdeal (hKernelIdeal := hKernelIdeal) (hPre_labels_in_range := hPre_labels_in_range)
    ∧ quiescent_KernelIdeal_pre_in_range_and_valid (hKernelIdeal := hKernelIdeal) (hPre_in_range_and_valid := hPre_in_range_and_valid)
    ∧ quiescent_ReferenceIdeal (hReferenceIdeal := hReferenceIdeal)
    ∧ quiescent_ReferenceIdeal_pre_in_range_and_valid (hReferenceIdeal := hReferenceIdeal) (hPre_in_range_and_valid := hPre_in_range_and_valid)
    ∧ preserves_Kernel_KernelIdeal
    ∧ algebraic_KernelIdeal_ReferenceIdeal_pre_in_range_and_valid (hKernelIdeal := hKernelIdeal) (hReferenceIdeal := hReferenceIdeal) (hPre_in_range_and_valid := hPre_in_range_and_valid)
-- ==== Pre_in_range_and_valid.lean ====
abbrev S4x128x30x2048 : Shape := ⟨4, ![4, 128, 30, 2048]⟩
abbrev S4x30x2048 : Shape := ⟨3, ![4, 30, 2048]⟩
abbrev S_ : Shape := ⟨0, ![]⟩

class Facts : Prop where
  bcast_S_S4x30x2048 : S_.BroadcastsInDim S4x30x2048 (![] : Fin 0 → Fin S4x30x2048.rank)
  reducesTo_S4x30x2048_S_d0_1_2 : S4x30x2048.ReducesTo [0, 1, 2] S_
  h_S_ : 0 < S_.numel

variable [Facts]

def fn {F : FTy → Type} [FloatOps F] (main_arg0 : FVec F S4x128x30x2048 .f32) (main_arg1 : IVec S4x30x2048 32) (main_arg2 : IVec S4x30x2048 1) : IVec S_ 1 :=
  let main_c : IVec S_ 32 := constantI S_ 32 0#32
  let main_v0 : IVec S4x30x2048 32 := broadcastInDim S4x30x2048 ![] bcast_S_S4x30x2048 main_c
  let main_v1 : IVec S4x30x2048 1 := cmpi .sge main_arg1 main_v0
  let main_c_0 : IVec S_ 32 := constantI S_ 32 16#32
  let main_v2 : IVec S4x30x2048 32 := broadcastInDim S4x30x2048 ![] bcast_S_S4x30x2048 main_c_0
  let main_v3 : IVec S4x30x2048 1 := cmpi .slt main_arg1 main_v2
  let main_v4 : IVec S4x30x2048 1 := andi main_v1 main_v3
  let main_c_1 : IVec S_ 1 := constantI S_ 1 1#1
  let main_v5 : IVec S_ 1 := (fun x v => Host.reduce IntOp.andi x v reducesTo_S4x30x2048_S_d0_1_2 h_S_) main_v4 main_c_1
  let main_c_2 : IVec S_ 1 := constantI S_ 1 1#1
  let main_v6 : IVec S_ 1 := (fun x v => Host.reduce IntOp.andi x v reducesTo_S4x30x2048_S_d0_1_2 h_S_) main_arg2 main_c_2
  let main_v7 : IVec S_ 1 := andi main_v5 main_v6
  main_v7
-- ==== Pre_labels_in_range.lean ====
abbrev S4x128x30x2048 : Shape := ⟨4, ![4, 128, 30, 2048]⟩
abbrev S4x30x2048 : Shape := ⟨3, ![4, 30, 2048]⟩
abbrev S_ : Shape := ⟨0, ![]⟩

class Facts : Prop where
  bcast_S_S4x30x2048 : S_.BroadcastsInDim S4x30x2048 (![] : Fin 0 → Fin S4x30x2048.rank)
  reducesTo_S4x30x2048_S_d0_1_2 : S4x30x2048.ReducesTo [0, 1, 2] S_
  h_S_ : 0 < S_.numel

variable [Facts]

def fn {F : FTy → Type} [FloatOps F] (main_arg0 : FVec F S4x128x30x2048 .f32) (main_arg1 : IVec S4x30x2048 32) (main_arg2 : IVec S4x30x2048 1) : IVec S_ 1 :=
  let main_c : IVec S_ 32 := constantI S_ 32 0#32
  let main_v0 : IVec S4x30x2048 32 := broadcastInDim S4x30x2048 ![] bcast_S_S4x30x2048 main_c
  let main_v1 : IVec S4x30x2048 1 := cmpi .sge main_arg1 main_v0
  let main_c_0 : IVec S_ 32 := constantI S_ 32 16#32
  let main_v2 : IVec S4x30x2048 32 := broadcastInDim S4x30x2048 ![] bcast_S_S4x30x2048 main_c_0
  let main_v3 : IVec S4x30x2048 1 := cmpi .slt main_arg1 main_v2
  let main_v4 : IVec S4x30x2048 1 := andi main_v1 main_v3
  let main_c_1 : IVec S_ 1 := constantI S_ 1 1#1
  let main_v5 : IVec S_ 1 := (fun x v => Host.reduce IntOp.andi x v reducesTo_S4x30x2048_S_d0_1_2 h_S_) main_v4 main_c_1
  main_v5
-- ==== Kernel.lean ====
abbrev S4x128x30x2048 : Shape := ⟨4, ![4, 128, 30, 2048]⟩
abbrev S4x30x2048 : Shape := ⟨3, ![4, 30, 2048]⟩
abbrev S2056 : Shape := ⟨1, ![2056]⟩
abbrev S_ : Shape := ⟨0, ![]⟩
abbrev S120x16x128 : Shape := ⟨3, ![120, 16, 128]⟩
abbrev S128x529 : Shape := ⟨2, ![128, 529]⟩
abbrev S512 : Shape := ⟨1, ![512]⟩
abbrev S768 : Shape := ⟨1, ![768]⟩
abbrev S16 : Shape := ⟨1, ![16]⟩
abbrev S16x16 : Shape := ⟨2, ![16, 16]⟩
abbrev S16x128 : Shape := ⟨2, ![16, 128]⟩
abbrev S1x16 : Shape := ⟨2, ![1, 16]⟩
abbrev S128x512 : Shape := ⟨2, ![128, 512]⟩
abbrev S1x128x1x512 : Shape := ⟨4, ![1, 128, 1, 512]⟩
abbrev S1x1x512 : Shape := ⟨3, ![1, 1, 512]⟩
abbrev S1 : Shape := ⟨1, ![1]⟩
abbrev S1x16x128 : Shape := ⟨3, ![1, 16, 128]⟩
abbrev S4x30x16x128 : Shape := ⟨4, ![4, 30, 16, 128]⟩
abbrev S4x128x30x16 : Shape := ⟨4, ![4, 128, 30, 16]⟩

abbrev nBuf : Table → Nat
  | .hbm => 21
  | .local .scVector .vmem => 24
  | _ => 0

abbrev bufTy : (tb : Table) → Fin (nBuf tb) → BufTy
  | .hbm, ⟨0, _⟩ => ⟨S4x128x30x2048, .f32⟩
  | .hbm, ⟨1, _⟩ => ⟨S4x30x2048, .i32⟩
  | .hbm, ⟨2, _⟩ => ⟨S4x30x2048, .i1⟩
  | .hbm, ⟨3, _⟩ => ⟨S2056, .i32⟩
  | .hbm, ⟨4, _⟩ => ⟨S_, .i32⟩
  | .hbm, ⟨5, _⟩ => ⟨S2056, .i32⟩
  | .hbm, ⟨6, _⟩ => ⟨S2056, .i32⟩
  | .hbm, ⟨7, _⟩ => ⟨S2056, .f32⟩
  | .hbm, ⟨8, _⟩ => ⟨S_, .i32⟩
  | .hbm, ⟨9, _⟩ => ⟨S2056, .i32⟩
  | .hbm, ⟨10, _⟩ => ⟨S2056, .i1⟩
  | .hbm, ⟨11, _⟩ => ⟨S_, .f32⟩
  | .hbm, ⟨12, _⟩ => ⟨S2056, .f32⟩
  | .hbm, ⟨13, _⟩ => ⟨S2056, .f32⟩
  | .hbm, ⟨14, _⟩ => ⟨S_, .f32⟩
  | .hbm, ⟨15, _⟩ => ⟨S_, .f32⟩
  | .hbm, ⟨16, _⟩ => ⟨S2056, .f32⟩
  | .hbm, ⟨17, _⟩ => ⟨S2056, .f32⟩
  | .hbm, ⟨18, _⟩ => ⟨S120x16x128, .f32⟩
  | .hbm, ⟨19, _⟩ => ⟨S4x30x16x128, .f32⟩
  | .hbm, ⟨20, _⟩ => ⟨S4x128x30x16, .f32⟩
  | .local .scVector .vmem, ⟨0, _⟩ => ⟨S128x529, .f32⟩
  | .local .scVector .vmem, ⟨1, _⟩ => ⟨S512, .i32⟩
  | .local .scVector .vmem, ⟨2, _⟩ => ⟨S768, .i32⟩
  | .local .scVector .vmem, ⟨3, _⟩ => ⟨S768, .i32⟩
  | .local .scVector .vmem, ⟨4, _⟩ => ⟨S16, .i32⟩
  | .local .scVector .vmem, ⟨5, _⟩ => ⟨S16, .i32⟩
  | .local .scVector .vmem, ⟨6, _⟩ => ⟨S16x16, .f32⟩
  | .local .scVector .vmem, ⟨7, _⟩ => ⟨S16x16, .f32⟩
  | .local .scVector .vmem, ⟨8, _⟩ => ⟨S16x16, .f32⟩
  | .local .scVector .vmem, ⟨9, _⟩ => ⟨S16x16, .f32⟩
  | .local .scVector .vmem, ⟨10, _⟩ => ⟨S16x16, .f32⟩
  | .local .scVector .vmem, ⟨11, _⟩ => ⟨S16x16, .f32⟩
  | .local .scVector .vmem, ⟨12, _⟩ => ⟨S16x16, .f32⟩
  | .local .scVector .vmem, ⟨13, _⟩ => ⟨S16x16, .f32⟩
  | .local .scVector .vmem, ⟨14, _⟩ => ⟨S16x16, .f32⟩
  | .local .scVector .vmem, ⟨15, _⟩ => ⟨S16x16, .f32⟩
  | .local .scVector .vmem, ⟨16, _⟩ => ⟨S16x16, .f32⟩
  | .local .scVector .vmem, ⟨17, _⟩ => ⟨S16x16, .f32⟩
  | .local .scVector .vmem, ⟨18, _⟩ => ⟨S16x16, .f32⟩
  | .local .scVector .vmem, ⟨19, _⟩ => ⟨S16x16, .f32⟩
  | .local .scVector .vmem, ⟨20, _⟩ => ⟨S16x16, .f32⟩
  | .local .scVector .vmem, ⟨21, _⟩ => ⟨S16x16, .f32⟩
  | .local .scVector .vmem, ⟨22, _⟩ => ⟨S2056, .f32⟩
  | .local .scVector .vmem, ⟨23, _⟩ => ⟨S16x128, .f32⟩
  | _, _ => ⟨S4x128x30x2048, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_call0_v0 : Ref sig .tc := ⟨.hbm, 15, rfl⟩
abbrev main_call0_v1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_arg0_scv : Ref sig .scVector := ⟨.hbm, 0, rfl⟩
abbrev main_arg1_scv : Ref sig .scVector := ⟨.hbm, 1, rfl⟩
abbrev main_v8_scv : Ref sig .scVector := ⟨.hbm, 17, rfl⟩
abbrev main_v9_scv : Ref sig .scVector := ⟨.hbm, 18, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc0_scratch8 : Ref sig .scVector := ⟨.vmem, 8, rfl⟩
abbrev cc0_scratch9 : Ref sig .scVector := ⟨.vmem, 9, rfl⟩
abbrev cc0_scratch10 : Ref sig .scVector := ⟨.vmem, 10, rfl⟩
abbrev cc0_scratch11 : Ref sig .scVector := ⟨.vmem, 11, rfl⟩
abbrev cc0_scratch12 : Ref sig .scVector := ⟨.vmem, 12, rfl⟩
abbrev cc0_scratch13 : Ref sig .scVector := ⟨.vmem, 13, rfl⟩
abbrev cc0_scratch14 : Ref sig .scVector := ⟨.vmem, 14, rfl⟩
abbrev cc0_scratch15 : Ref sig .scVector := ⟨.vmem, 15, rfl⟩
abbrev cc0_scratch16 : Ref sig .scVector := ⟨.vmem, 16, rfl⟩
abbrev cc0_scratch17 : Ref sig .scVector := ⟨.vmem, 17, rfl⟩
abbrev cc0_scratch18 : Ref sig .scVector := ⟨.vmem, 18, rfl⟩
abbrev cc0_scratch19 : Ref sig .scVector := ⟨.vmem, 19, rfl⟩
abbrev cc0_scratch20 : Ref sig .scVector := ⟨.vmem, 20, rfl⟩
abbrev cc0_scratch21 : Ref sig .scVector := ⟨.vmem, 21, rfl⟩
abbrev cc0_scratch22 : Ref sig .scVector := ⟨.vmem, 22, rfl⟩
abbrev cc0_scratch23 : Ref sig .scVector := ⟨.vmem, 23, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_chk1 (v4 : IVec S16 32) (v5 : IVec S16 32) : Prop :=
  (∀ a x, ((![v4, v5] : Fin 2 → IVec S16 32) a x).toNat < S128x529.size a)
theorem k0_idx1_inb : ∀ (v4 : IVec S16 32) (v5 : IVec S16 32) (k0_hw1 : k0_chk1 v4 v5), ∀ a x, ((![v4, v5] : Fin 2 → IVec S16 32) a x).toNat < S128x529.size a := fun v4 v5 k0_hw1 => k0_hw1

def k0_chk2 (v8 : IVec S16 32) (v9 : IVec S16 32) : Prop :=
  (∀ a x, ((![v8, v9] : Fin 2 → IVec S16 32) a x).toNat < S128x529.size a)
theorem k0_idx2_inb : ∀ (v8 : IVec S16 32) (v9 : IVec S16 32) (k0_hw2 : k0_chk2 v8 v9), ∀ a x, ((![v8, v9] : Fin 2 → IVec S16 32) a x).toNat < S128x529.size a := fun v8 v9 k0_hw2 => k0_hw2

def k0_chk3 (v12 : IVec S16 32) (v13 : IVec S16 32) : Prop :=
  (∀ a x, ((![v12, v13] : Fin 2 → IVec S16 32) a x).toNat < S128x529.size a)
theorem k0_idx3_inb : ∀ (v12 : IVec S16 32) (v13 : IVec S16 32) (k0_hw3 : k0_chk3 v12 v13), ∀ a x, ((![v12, v13] : Fin 2 → IVec S16 32) a x).toNat < S128x529.size a := fun v12 v13 k0_hw3 => k0_hw3

def k0_chk4 (v16 : IVec S16 32) (v17 : IVec S16 32) : Prop :=
  (∀ a x, ((![v16, v17] : Fin 2 → IVec S16 32) a x).toNat < S128x529.size a)
theorem k0_idx4_inb : ∀ (v16 : IVec S16 32) (v17 : IVec S16 32) (k0_hw4 : k0_chk4 v16 v17), ∀ a x, ((![v16, v17] : Fin 2 → IVec S16 32) a x).toNat < S128x529.size a := fun v16 v17 k0_hw4 => k0_hw4

def k0_chk5 (v20 : IVec S16 32) (v21 : IVec S16 32) : Prop :=
  (∀ a x, ((![v20, v21] : Fin 2 → IVec S16 32) a x).toNat < S128x529.size a)
theorem k0_idx5_inb : ∀ (v20 : IVec S16 32) (v21 : IVec S16 32) (k0_hw5 : k0_chk5 v20 v21), ∀ a x, ((![v20, v21] : Fin 2 → IVec S16 32) a x).toNat < S128x529.size a := fun v20 v21 k0_hw5 => k0_hw5

def k0_chk6 (v24 : IVec S16 32) (v25 : IVec S16 32) : Prop :=
  (∀ a x, ((![v24, v25] : Fin 2 → IVec S16 32) a x).toNat < S128x529.size a)
theorem k0_idx6_inb : ∀ (v24 : IVec S16 32) (v25 : IVec S16 32) (k0_hw6 : k0_chk6 v24 v25), ∀ a x, ((![v24, v25] : Fin 2 → IVec S16 32) a x).toNat < S128x529.size a := fun v24 v25 k0_hw6 => k0_hw6

def k0_chk7 (v28 : IVec S16 32) (v29 : IVec S16 32) : Prop :=
  (∀ a x, ((![v28, v29] : Fin 2 → IVec S16 32) a x).toNat < S128x529.size a)
theorem k0_idx7_inb : ∀ (v28 : IVec S16 32) (v29 : IVec S16 32) (k0_hw7 : k0_chk7 v28 v29), ∀ a x, ((![v28, v29] : Fin 2 → IVec S16 32) a x).toNat < S128x529.size a := fun v28 v29 k0_hw7 => k0_hw7

def k0_chk8 (v32 : IVec S16 32) (v33 : IVec S16 32) : Prop :=
  (∀ a x, ((![v32, v33] : Fin 2 → IVec S16 32) a x).toNat < S128x529.size a)
theorem k0_idx8_inb : ∀ (v32 : IVec S16 32) (v33 : IVec S16 32) (k0_hw8 : k0_chk8 v32 v33), ∀ a x, ((![v32, v33] : Fin 2 → IVec S16 32) a x).toNat < S128x529.size a := fun v32 v33 k0_hw8 => k0_hw8
@[reducible] def k0_t1_loop : Scf.Loop 32 :=
  let c0_i32_14 : BitVec 32 := 0#32
  let c4_i32 : BitVec 32 := 4#32
  let v35 : BitVec 32 := Scalar.addi c0_i32_14 c4_i32
  let c1_i32 : BitVec 32 := 1#32
  ⟨c0_i32_14, v35, c1_i32⟩
def k0_cond1 (i : grid0.Coords) (k0_t1 : Fin k0_t1_loop.trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_16 : BitVec 32 := 32#32
  let c0_i32_14 : BitVec 32 := 0#32
  let c1_i32 : BitVec 32 := 1#32
  let arg31 : BitVec 32 := Scf.iv c0_i32_14 c1_i32 k0_t1
  let v36 : BitVec 32 := Scalar.muli c32_i32_16 arg31
  let v37 : BitVec 32 := Scalar.addi v1 v36
  let c120_i32 : BitVec 32 := 120#32
  let v38 : BitVec 1 := Scalar.cmpi .slt v37 c120_i32
  let v39 : BitVec 32 := Scalar.extui v38
  let c0_i32_17 : BitVec 32 := 0#32
  let v40 : BitVec 1 := Scalar.cmpi .ne v39 c0_i32_17
  v40

@[reducible] def k0_t2_loop : Scf.Loop 32 :=
  let c0_i32_27 : BitVec 32 := 0#32
  let c16_i32_28 : BitVec 32 := 16#32
  let v63 : BitVec 32 := Scalar.addi c0_i32_27 c16_i32_28
  let c1_i32_29 : BitVec 32 := 1#32
  ⟨c0_i32_27, v63, c1_i32_29⟩
def k0_off1 (k0_t2 : Fin k0_t2_loop.trips) : Fin 2 → Nat :=
  let c0_i32_27 : BitVec 32 := 0#32
  let c1_i32_29 : BitVec 32 := 1#32
  let arg32 : BitVec 32 := Scf.iv c0_i32_27 c1_i32_29 k0_t2
  let v70 : Index := Scalar.indexCast arg32
  let c0 : Index := 0#32
  ![v70.toNat, 0]
@[reducible] def k0_t3_loop : Scf.Loop 32 :=
  let c0_i32_33 : BitVec 32 := 0#32
  let c4_i32_34 : BitVec 32 := 4#32
  let v66 : BitVec 32 := Scalar.addi c0_i32_33 c4_i32_34
  let c1_i32_35 : BitVec 32 := 1#32
  ⟨c0_i32_33, v66, c1_i32_35⟩
def k0_off2 (i : grid0.Coords) (k0_t1 : Fin k0_t1_loop.trips) (k0_t3 : Fin k0_t3_loop.trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_16 : BitVec 32 := 32#32
  let c0_i32_14 : BitVec 32 := 0#32
  let c1_i32 : BitVec 32 := 1#32
  let arg31 : BitVec 32 := Scf.iv c0_i32_14 c1_i32 k0_t1
  let v36 : BitVec 32 := Scalar.muli c32_i32_16 arg31
  let v37 : BitVec 32 := Scalar.addi v1 v36
  let c137_i32 : BitVec 32 := 137#32
  let v59 : BitVec 32 := Scalar.muli v37 c137_i32
  let c12_i32 : BitVec 32 := 12#32
  let v60 : BitVec 32 := Scalar.shrsi v59 c12_i32
  let c0_i32_44 : BitVec 32 := 0#32
  let c30_i32 : BitVec 32 := 30#32
  let v61 : BitVec 32 := Scalar.muli v60 c30_i32
  let v62 : BitVec 32 := Scalar.subi v37 v61
  let c0_i32_33 : BitVec 32 := 0#32
  let c1_i32_35 : BitVec 32 := 1#32
  let arg32 : BitVec 32 := Scf.iv c0_i32_33 c1_i32_35 k0_t3
  let c512_i32_41 : BitVec 32 := 512#32
  let v69 : BitVec 32 := Scalar.muli arg32 c512_i32_41
  ![v60.toNat, 0, v62.toNat, v69.toNat]
def k0_off3 (i : grid0.Coords) (k0_t1 : Fin k0_t1_loop.trips) (k0_t3 : Fin k0_t3_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_16 : BitVec 32 := 32#32
  let c0_i32_14 : BitVec 32 := 0#32
  let c1_i32 : BitVec 32 := 1#32
  let arg31 : BitVec 32 := Scf.iv c0_i32_14 c1_i32 k0_t1
  let v36 : BitVec 32 := Scalar.muli c32_i32_16 arg31
  let v37 : BitVec 32 := Scalar.addi v1 v36
  let c137_i32 : BitVec 32 := 137#32
  let v59 : BitVec 32 := Scalar.muli v37 c137_i32
  let c12_i32 : BitVec 32 := 12#32
  let v60 : BitVec 32 := Scalar.shrsi v59 c12_i32
  let c30_i32 : BitVec 32 := 30#32
  let v61 : BitVec 32 := Scalar.muli v60 c30_i32
  let v62 : BitVec 32 := Scalar.subi v37 v61
  let c0_i32_33 : BitVec 32 := 0#32
  let c1_i32_35 : BitVec 32 := 1#32
  let arg32 : BitVec 32 := Scf.iv c0_i32_33 c1_i32_35 k0_t3
  let c512_i32_41 : BitVec 32 := 512#32
  let v69 : BitVec 32 := Scalar.muli arg32 c512_i32_41
  ![v60.toNat, v62.toNat, v69.toNat]
@[reducible] def k0_t4_loop : Scf.Loop 32 :=
  let c0_i32_49 : BitVec 32 := 0#32
  let c32_i32_50 : BitVec 32 := 32#32
  let v78 : BitVec 32 := Scalar.addi c0_i32_49 c32_i32_50
  let c1_i32_51 : BitVec 32 := 1#32
  ⟨c0_i32_49, v78, c1_i32_51⟩
def k0_off4 (k0_t4 : Fin k0_t4_loop.trips) : Fin 1 → Nat :=
  let c0_i32_49 : BitVec 32 := 0#32
  let c1_i32_51 : BitVec 32 := 1#32
  let arg35 : BitVec 32 := Scf.iv c0_i32_49 c1_i32_51 k0_t4
  let c16_i32_77 : BitVec 32 := 16#32
  let v112 : BitVec 32 := Scalar.muli arg35 c16_i32_77
  let v113 : Index := Scalar.indexCast v112
  ![v113.toNat]

def k0_chk9 (i : grid0.Coords) (k0_t1 : Fin k0_t1_loop.trips) (v114 : IVec S16 32) : Prop :=
  (∀ (k0_h1 : k0_cond1 i k0_t1 = 1#1), ∀ a x, ((![v114] : Fin 1 → IVec S16 32) a x).toNat < S16.size a)
theorem k0_idx9_inb : ∀ (i : grid0.Coords) (k0_t1 : Fin k0_t1_loop.trips) (v114 : IVec S16 32) (k0_hw9 : k0_chk9 i k0_t1 v114), ∀ (k0_h1 : k0_cond1 i k0_t1 = 1#1), ∀ a x, ((![v114] : Fin 1 → IVec S16 32) a x).toNat < S16.size a := fun i k0_t1 v114 k0_hw9 k0_h1 => k0_hw9 k0_h1
@[reducible] def k0_t5_loop : Scf.Loop 32 :=
  let c0_i32_59 : BitVec 32 := 0#32
  let c16_i32_60 : BitVec 32 := 16#32
  let v99 : BitVec 32 := Scalar.addi c0_i32_59 c16_i32_60
  let c1_i32_61 : BitVec 32 := 1#32
  ⟨c0_i32_59, v99, c1_i32_61⟩

def k0_chk10 (i : grid0.Coords) (k0_t1 : Fin k0_t1_loop.trips) (v131 : IVec S16 32) : Prop :=
  (∀ (k0_h1 : k0_cond1 i k0_t1 = 1#1), ∀ a x, ((![v131] : Fin 1 → IVec S16 32) a x).toNat < S768.size a) ∧
  (∀ (k0_h1 : k0_cond1 i k0_t1 = 1#1), ∀ a x, ((![v131] : Fin 1 → IVec S16 32) a x).toNat < S768.size a)
theorem k0_idx10_inb : ∀ (i : grid0.Coords) (k0_t1 : Fin k0_t1_loop.trips) (v131 : IVec S16 32) (k0_hw10 : k0_chk10 i k0_t1 v131), ∀ (k0_h1 : k0_cond1 i k0_t1 = 1#1), ∀ a x, ((![v131] : Fin 1 → IVec S16 32) a x).toNat < S768.size a := fun i k0_t1 v131 k0_hw10 k0_h1 => k0_hw10.1 k0_h1
theorem k0_idx11_inb : ∀ (i : grid0.Coords) (k0_t1 : Fin k0_t1_loop.trips) (v131 : IVec S16 32) (k0_hw10 : k0_chk10 i k0_t1 v131), ∀ (k0_h1 : k0_cond1 i k0_t1 = 1#1), ∀ a x, ((![v131] : Fin 1 → IVec S16 32) a x).toNat < S768.size a := fun i k0_t1 v131 k0_hw10 k0_h1 => k0_hw10.2 k0_h1
@[reducible] def k0_t6_loop : Scf.Loop 32 :=
  let c0_i32_63 : BitVec 32 := 0#32
  let c32_i32_64 : BitVec 32 := 32#32
  let v100 : BitVec 32 := Scalar.addi c0_i32_63 c32_i32_64
  let c1_i32_65 : BitVec 32 := 1#32
  ⟨c0_i32_63, v100, c1_i32_65⟩
def k0_off5 (k0_t6 : Fin k0_t6_loop.trips) : Fin 1 → Nat :=
  let c0_i32_63 : BitVec 32 := 0#32
  let c1_i32_65 : BitVec 32 := 1#32
  let arg35 : BitVec 32 := Scf.iv c0_i32_63 c1_i32_65 k0_t6
  let c16_i32_77 : BitVec 32 := 16#32
  let v112 : BitVec 32 := Scalar.muli arg35 c16_i32_77
  let v113 : Index := Scalar.indexCast v112
  ![v113.toNat]
@[reducible] def k0_t7_loop : Scf.Loop 32 :=
  let c0_i32_79 : BitVec 32 := 0#32
  let c16_i32_80 : BitVec 32 := 16#32
  let v119 : BitVec 32 := Scalar.addi c0_i32_79 c16_i32_80
  let c1_i32_81 : BitVec 32 := 1#32
  ⟨c0_i32_79, v119, c1_i32_81⟩
@[reducible] def k0_t8_loop : Scf.Loop 32 :=
  let c0_i32_85 : BitVec 32 := 0#32
  let c16_i32_86 : BitVec 32 := 16#32
  let v123 : BitVec 32 := Scalar.addi c0_i32_85 c16_i32_86
  let c1_i32_87 : BitVec 32 := 1#32
  ⟨c0_i32_85, v123, c1_i32_87⟩
@[reducible] def k0_t9_loop : Scf.Loop 32 :=
  let c0_i32_89 : BitVec 32 := 0#32
  let c15_i32_90 : BitVec 32 := 15#32
  let v126 : BitVec 32 := Scalar.addi c0_i32_89 c15_i32_90
  let c1_i32_91 : BitVec 32 := 1#32
  ⟨c0_i32_89, v126, c1_i32_91⟩

def k0_chk12 (i : grid0.Coords) (k0_t1 : Fin k0_t1_loop.trips) (v141 : IVec S16 32) : Prop :=
  (∀ (k0_h1 : k0_cond1 i k0_t1 = 1#1), ∀ a x, ((![v141] : Fin 1 → IVec S16 32) a x).toNat < S768.size a) ∧
  (∀ (k0_h1 : k0_cond1 i k0_t1 = 1#1), ∀ a x, ((![v141] : Fin 1 → IVec S16 32) a x).toNat < S768.size a)
theorem k0_idx13_inb : ∀ (i : grid0.Coords) (k0_t1 : Fin k0_t1_loop.trips) (v141 : IVec S16 32) (k0_hw12 : k0_chk12 i k0_t1 v141), ∀ (k0_h1 : k0_cond1 i k0_t1 = 1#1), ∀ a x, ((![v141] : Fin 1 → IVec S16 32) a x).toNat < S768.size a := fun i k0_t1 v141 k0_hw12 k0_h1 => k0_hw12.1 k0_h1
theorem k0_idx14_inb : ∀ (i : grid0.Coords) (k0_t1 : Fin k0_t1_loop.trips) (v141 : IVec S16 32) (k0_hw12 : k0_chk12 i k0_t1 v141), ∀ (k0_h1 : k0_cond1 i k0_t1 = 1#1), ∀ a x, ((![v141] : Fin 1 → IVec S16 32) a x).toNat < S768.size a := fun i k0_t1 v141 k0_hw12 k0_h1 => k0_hw12.2 k0_h1

def k0_chk11 (i : grid0.Coords) (k0_t1 : Fin k0_t1_loop.trips) (v124_0 : IVec S16 32) : Prop :=
  (∀ (k0_h1 : k0_cond1 i k0_t1 = 1#1), ∀ a x, ((![v124_0] : Fin 1 → IVec S16 32) a x).toNat < S16.size a) ∧
  (∀ (k0_h1 : k0_cond1 i k0_t1 = 1#1), ∀ a x, ((![v124_0] : Fin 1 → IVec S16 32) a x).toNat < S16.size a)
theorem k0_idx12_inb : ∀ (i : grid0.Coords) (k0_t1 : Fin k0_t1_loop.trips) (v124_0 : IVec S16 32) (k0_hw11 : k0_chk11 i k0_t1 v124_0), ∀ (k0_h1 : k0_cond1 i k0_t1 = 1#1), ∀ a x, ((![v124_0] : Fin 1 → IVec S16 32) a x).toNat < S16.size a := fun i k0_t1 v124_0 k0_hw11 k0_h1 => k0_hw11.1 k0_h1
theorem k0_idx15_inb : ∀ (i : grid0.Coords) (k0_t1 : Fin k0_t1_loop.trips) (v124_0 : IVec S16 32) (k0_hw11 : k0_chk11 i k0_t1 v124_0), ∀ (k0_h1 : k0_cond1 i k0_t1 = 1#1), ∀ a x, ((![v124_0] : Fin 1 → IVec S16 32) a x).toNat < S16.size a := fun i k0_t1 v124_0 k0_hw11 k0_h1 => k0_hw11.2 k0_h1
@[reducible] def k0_t10_loop (v94 : BitVec 32) : Scf.Loop 32 :=
  let c0_i32_73 : BitVec 32 := 0#32
  let c4_i32_58 : BitVec 32 := 4#32
  let v95 : BitVec 32 := Scalar.shrsi v94 c4_i32_58
  let v107 : BitVec 32 := Scalar.subi v95 c0_i32_73
  let c1_i32_74 : BitVec 32 := 1#32
  let v109 : BitVec 32 := Scalar.divsi v107 c1_i32_74
  let v110 : BitVec 32 := Scalar.muli v109 c1_i32_74
  let v111 : BitVec 32 := Scalar.addi c0_i32_73 v110
  let c1_i32_75 : BitVec 32 := 1#32
  ⟨c0_i32_73, v111, c1_i32_75⟩

def k0_off6 (v94 : BitVec 32) (k0_t10 : Fin (k0_t10_loop v94).trips) : Fin 1 → Nat :=
  let c0_i32_73 : BitVec 32 := 0#32
  let c1_i32_75 : BitVec 32 := 1#32
  let arg35 : BitVec 32 := Scf.iv c0_i32_73 c1_i32_75 k0_t10
  let c16_i32_77 : BitVec 32 := 16#32
  let v112 : BitVec 32 := Scalar.muli arg35 c16_i32_77
  let v113 : Index := Scalar.indexCast v112
  ![v113.toNat]
@[reducible] def k0_t11_loop : Scf.Loop 32 :=
  let c0_i32_95 : BitVec 32 := 0#32
  let c16_i32_96 : BitVec 32 := 16#32
  let v137 : BitVec 32 := Scalar.addi c0_i32_95 c16_i32_96
  let c1_i32_97 : BitVec 32 := 1#32
  ⟨c0_i32_95, v137, c1_i32_97⟩

def k0_chk14 (i : grid0.Coords) (k0_t1 : Fin k0_t1_loop.trips) (v44 : IVec S16 32) (v46 : IVec S16 32) (v48 : IVec S16 32) (v50 : IVec S16 32) (v52 : IVec S16 32) (v54 : IVec S16 32) (v56 : IVec S16 32) (v58 : IVec S16 32) (v179 : IVec S16 32) : Prop :=
  (∀ (k0_h1 : k0_cond1 i k0_t1 = 1#1), ∀ a x, ((![v44, v179] : Fin 2 → IVec S16 32) a x).toNat < S128x529.size a) ∧
  (∀ (k0_h1 : k0_cond1 i k0_t1 = 1#1), ∀ a x, ((![v46, v179] : Fin 2 → IVec S16 32) a x).toNat < S128x529.size a) ∧
  (∀ (k0_h1 : k0_cond1 i k0_t1 = 1#1), ∀ a x, ((![v48, v179] : Fin 2 → IVec S16 32) a x).toNat < S128x529.size a) ∧
  (∀ (k0_h1 : k0_cond1 i k0_t1 = 1#1), ∀ a x, ((![v50, v179] : Fin 2 → IVec S16 32) a x).toNat < S128x529.size a) ∧
  (∀ (k0_h1 : k0_cond1 i k0_t1 = 1#1), ∀ a x, ((![v52, v179] : Fin 2 → IVec S16 32) a x).toNat < S128x529.size a) ∧
  (∀ (k0_h1 : k0_cond1 i k0_t1 = 1#1), ∀ a x, ((![v54, v179] : Fin 2 → IVec S16 32) a x).toNat < S128x529.size a) ∧
  (∀ (k0_h1 : k0_cond1 i k0_t1 = 1#1), ∀ a x, ((![v56, v179] : Fin 2 → IVec S16 32) a x).toNat < S128x529.size a) ∧
  (∀ (k0_h1 : k0_cond1 i k0_t1 = 1#1), ∀ a x, ((![v58, v179] : Fin 2 → IVec S16 32) a x).toNat < S128x529.size a)
theorem k0_idx16_inb : ∀ (i : grid0.Coords) (k0_t1 : Fin k0_t1_loop.trips) (v44 : IVec S16 32) (v46 : IVec S16 32) (v48 : IVec S16 32) (v50 : IVec S16 32) (v52 : IVec S16 32) (v54 : IVec S16 32) (v56 : IVec S16 32) (v58 : IVec S16 32) (v179 : IVec S16 32) (k0_hw14 : k0_chk14 i k0_t1 v44 v46 v48 v50 v52 v54 v56 v58 v179), ∀ (k0_h1 : k0_cond1 i k0_t1 = 1#1), ∀ a x, ((![v44, v179] : Fin 2 → IVec S16 32) a x).toNat < S128x529.size a := fun i k0_t1 v44 v46 v48 v50 v52 v54 v56 v58 v179 k0_hw14 k0_h1 => k0_hw14.1 k0_h1
theorem k0_idx17_inb : ∀ (i : grid0.Coords) (k0_t1 : Fin k0_t1_loop.trips) (v44 : IVec S16 32) (v46 : IVec S16 32) (v48 : IVec S16 32) (v50 : IVec S16 32) (v52 : IVec S16 32) (v54 : IVec S16 32) (v56 : IVec S16 32) (v58 : IVec S16 32) (v179 : IVec S16 32) (k0_hw14 : k0_chk14 i k0_t1 v44 v46 v48 v50 v52 v54 v56 v58 v179), ∀ (k0_h1 : k0_cond1 i k0_t1 = 1#1), ∀ a x, ((![v46, v179] : Fin 2 → IVec S16 32) a x).toNat < S128x529.size a := fun i k0_t1 v44 v46 v48 v50 v52 v54 v56 v58 v179 k0_hw14 k0_h1 => k0_hw14.2.1 k0_h1
theorem k0_idx18_inb : ∀ (i : grid0.Coords) (k0_t1 : Fin k0_t1_loop.trips) (v44 : IVec S16 32) (v46 : IVec S16 32) (v48 : IVec S16 32) (v50 : IVec S16 32) (v52 : IVec S16 32) (v54 : IVec S16 32) (v56 : IVec S16 32) (v58 : IVec S16 32) (v179 : IVec S16 32) (k0_hw14 : k0_chk14 i k0_t1 v44 v46 v48 v50 v52 v54 v56 v58 v179), ∀ (k0_h1 : k0_cond1 i k0_t1 = 1#1), ∀ a x, ((![v48, v179] : Fin 2 → IVec S16 32) a x).toNat < S128x529.size a := fun i k0_t1 v44 v46 v48 v50 v52 v54 v56 v58 v179 k0_hw14 k0_h1 => k0_hw14.2.2.1 k0_h1
theorem k0_idx19_inb : ∀ (i : grid0.Coords) (k0_t1 : Fin k0_t1_loop.trips) (v44 : IVec S16 32) (v46 : IVec S16 32) (v48 : IVec S16 32) (v50 : IVec S16 32) (v52 : IVec S16 32) (v54 : IVec S16 32) (v56 : IVec S16 32) (v58 : IVec S16 32) (v179 : IVec S16 32) (k0_hw14 : k0_chk14 i k0_t1 v44 v46 v48 v50 v52 v54 v56 v58 v179), ∀ (k0_h1 : k0_cond1 i k0_t1 = 1#1), ∀ a x, ((![v50, v179] : Fin 2 → IVec S16 32) a x).toNat < S128x529.size a := fun i k0_t1 v44 v46 v48 v50 v52 v54 v56 v58 v179 k0_hw14 k0_h1 => k0_hw14.2.2.2.1 k0_h1
theorem k0_idx20_inb : ∀ (i : grid0.Coords) (k0_t1 : Fin k0_t1_loop.trips) (v44 : IVec S16 32) (v46 : IVec S16 32) (v48 : IVec S16 32) (v50 : IVec S16 32) (v52 : IVec S16 32) (v54 : IVec S16 32) (v56 : IVec S16 32) (v58 : IVec S16 32) (v179 : IVec S16 32) (k0_hw14 : k0_chk14 i k0_t1 v44 v46 v48 v50 v52 v54 v56 v58 v179), ∀ (k0_h1 : k0_cond1 i k0_t1 = 1#1), ∀ a x, ((![v52, v179] : Fin 2 → IVec S16 32) a x).toNat < S128x529.size a := fun i k0_t1 v44 v46 v48 v50 v52 v54 v56 v58 v179 k0_hw14 k0_h1 => k0_hw14.2.2.2.2.1 k0_h1
theorem k0_idx21_inb : ∀ (i : grid0.Coords) (k0_t1 : Fin k0_t1_loop.trips) (v44 : IVec S16 32) (v46 : IVec S16 32) (v48 : IVec S16 32) (v50 : IVec S16 32) (v52 : IVec S16 32) (v54 : IVec S16 32) (v56 : IVec S16 32) (v58 : IVec S16 32) (v179 : IVec S16 32) (k0_hw14 : k0_chk14 i k0_t1 v44 v46 v48 v50 v52 v54 v56 v58 v179), ∀ (k0_h1 : k0_cond1 i k0_t1 = 1#1), ∀ a x, ((![v54, v179] : Fin 2 → IVec S16 32) a x).toNat < S128x529.size a := fun i k0_t1 v44 v46 v48 v50 v52 v54 v56 v58 v179 k0_hw14 k0_h1 => k0_hw14.2.2.2.2.2.1 k0_h1
theorem k0_idx22_inb : ∀ (i : grid0.Coords) (k0_t1 : Fin k0_t1_loop.trips) (v44 : IVec S16 32) (v46 : IVec S16 32) (v48 : IVec S16 32) (v50 : IVec S16 32) (v52 : IVec S16 32) (v54 : IVec S16 32) (v56 : IVec S16 32) (v58 : IVec S16 32) (v179 : IVec S16 32) (k0_hw14 : k0_chk14 i k0_t1 v44 v46 v48 v50 v52 v54 v56 v58 v179), ∀ (k0_h1 : k0_cond1 i k0_t1 = 1#1), ∀ a x, ((![v56, v179] : Fin 2 → IVec S16 32) a x).toNat < S128x529.size a := fun i k0_t1 v44 v46 v48 v50 v52 v54 v56 v58 v179 k0_hw14 k0_h1 => k0_hw14.2.2.2.2.2.2.1 k0_h1
theorem k0_idx23_inb : ∀ (i : grid0.Coords) (k0_t1 : Fin k0_t1_loop.trips) (v44 : IVec S16 32) (v46 : IVec S16 32) (v48 : IVec S16 32) (v50 : IVec S16 32) (v52 : IVec S16 32) (v54 : IVec S16 32) (v56 : IVec S16 32) (v58 : IVec S16 32) (v179 : IVec S16 32) (k0_hw14 : k0_chk14 i k0_t1 v44 v46 v48 v50 v52 v54 v56 v58 v179), ∀ (k0_h1 : k0_cond1 i k0_t1 = 1#1), ∀ a x, ((![v58, v179] : Fin 2 → IVec S16 32) a x).toNat < S128x529.size a := fun i k0_t1 v44 v46 v48 v50 v52 v54 v56 v58 v179 k0_hw14 k0_h1 => k0_hw14.2.2.2.2.2.2.2 k0_h1

def k0_chk15 (i : grid0.Coords) (k0_t1 : Fin k0_t1_loop.trips) (v41 : IVec S16 32) (v120 : IVec S16 32) : Prop :=
  (∀ (k0_h1 : k0_cond1 i k0_t1 = 1#1), ∀ a x, ((![v120, v41] : Fin 2 → IVec S16 32) a x).toNat < S16x16.size a) ∧
  (∀ (k0_h1 : k0_cond1 i k0_t1 = 1#1), ∀ a x, ((![v120, v41] : Fin 2 → IVec S16 32) a x).toNat < S16x16.size a) ∧
  (∀ (k0_h1 : k0_cond1 i k0_t1 = 1#1), ∀ a x, ((![v120, v41] : Fin 2 → IVec S16 32) a x).toNat < S16x16.size a) ∧
  (∀ (k0_h1 : k0_cond1 i k0_t1 = 1#1), ∀ a x, ((![v120, v41] : Fin 2 → IVec S16 32) a x).toNat < S16x16.size a) ∧
  (∀ (k0_h1 : k0_cond1 i k0_t1 = 1#1), ∀ a x, ((![v120, v41] : Fin 2 → IVec S16 32) a x).toNat < S16x16.size a) ∧
  (∀ (k0_h1 : k0_cond1 i k0_t1 = 1#1), ∀ a x, ((![v120, v41] : Fin 2 → IVec S16 32) a x).toNat < S16x16.size a) ∧
  (∀ (k0_h1 : k0_cond1 i k0_t1 = 1#1), ∀ a x, ((![v120, v41] : Fin 2 → IVec S16 32) a x).toNat < S16x16.size a) ∧
  (∀ (k0_h1 : k0_cond1 i k0_t1 = 1#1), ∀ a x, ((![v120, v41] : Fin 2 → IVec S16 32) a x).toNat < S16x16.size a) ∧
  (∀ (k0_h1 : k0_cond1 i k0_t1 = 1#1), ∀ a x, ((![v120, v41] : Fin 2 → IVec S16 32) a x).toNat < S16x16.size a) ∧
  (∀ (k0_h1 : k0_cond1 i k0_t1 = 1#1), ∀ a x, ((![v120, v41] : Fin 2 → IVec S16 32) a x).toNat < S16x16.size a) ∧
  (∀ (k0_h1 : k0_cond1 i k0_t1 = 1#1), ∀ a x, ((![v120, v41] : Fin 2 → IVec S16 32) a x).toNat < S16x16.size a) ∧
  (∀ (k0_h1 : k0_cond1 i k0_t1 = 1#1), ∀ a x, ((![v120, v41] : Fin 2 → IVec S16 32) a x).toNat < S16x16.size a) ∧
  (∀ (k0_h1 : k0_cond1 i k0_t1 = 1#1), ∀ a x, ((![v120, v41] : Fin 2 → IVec S16 32) a x).toNat < S16x16.size a) ∧
  (∀ (k0_h1 : k0_cond1 i k0_t1 = 1#1), ∀ a x, ((![v120, v41] : Fin 2 → IVec S16 32) a x).toNat < S16x16.size a) ∧
  (∀ (k0_h1 : k0_cond1 i k0_t1 = 1#1), ∀ a x, ((![v120, v41] : Fin 2 → IVec S16 32) a x).toNat < S16x16.size a) ∧
  (∀ (k0_h1 : k0_cond1 i k0_t1 = 1#1), ∀ a x, ((![v120, v41] : Fin 2 → IVec S16 32) a x).toNat < S16x16.size a) ∧
  (∀ (k0_h1 : k0_cond1 i k0_t1 = 1#1), ∀ a x, ((![v120, v41] : Fin 2 → IVec S16 32) a x).toNat < S16x16.size a) ∧
  (∀ (k0_h1 : k0_cond1 i k0_t1 = 1#1), ∀ a x, ((![v120, v41] : Fin 2 → IVec S16 32) a x).toNat < S16x16.size a) ∧
  (∀ (k0_h1 : k0_cond1 i k0_t1 = 1#1), ∀ a x, ((![v120, v41] : Fin 2 → IVec S16 32) a x).toNat < S16x16.size a) ∧
  (∀ (k0_h1 : k0_cond1 i k0_t1 = 1#1), ∀ a x, ((![v120, v41] : Fin 2 → IVec S16 32) a x).toNat < S16x16.size a) ∧
  (∀ (k0_h1 : k0_cond1 i k0_t1 = 1#1), ∀ a x, ((![v120, v41] : Fin 2 → IVec S16 32) a x).toNat < S16x16.size a) ∧
  (∀ (k0_h1 : k0_cond1 i k0_t1 = 1#1), ∀ a x, ((![v120, v41] : Fin 2 → IVec S16 32) a x).toNat < S16x16.size a) ∧
  (∀ (k0_h1 : k0_cond1 i k0_t1 = 1#1), ∀ a x, ((![v120, v41] : Fin 2 → IVec S16 32) a x).toNat < S16x16.size a) ∧
  (∀ (k0_h1 : k0_cond1 i k0_t1 = 1#1), ∀ a x, ((![v120, v41] : Fin 2 → IVec S16 32) a x).toNat < S16x16.size a) ∧
  (∀ (k0_h1 : k0_cond1 i k0_t1 = 1#1), ∀ a x, ((![v120, v41] : Fin 2 → IVec S16 32) a x).toNat < S16x16.size a) ∧
  (∀ (k0_h1 : k0_cond1 i k0_t1 = 1#1), ∀ a x, ((![v120, v41] : Fin 2 → IVec S16 32) a x).toNat < S16x16.size a) ∧
  (∀ (k0_h1 : k0_cond1 i k0_t1 = 1#1), ∀ a x, ((![v120, v41] : Fin 2 → IVec S16 32) a x).toNat < S16x16.size a) ∧
  (∀ (k0_h1 : k0_cond1 i k0_t1 = 1#1), ∀ a x, ((![v120, v41] : Fin 2 → IVec S16 32) a x).toNat < S16x16.size a) ∧
  (∀ (k0_h1 : k0_cond1 i k0_t1 = 1#1), ∀ a x, ((![v120, v41] : Fin 2 → IVec S16 32) a x).toNat < S16x16.size a) ∧
  (∀ (k0_h1 : k0_cond1 i k0_t1 = 1#1), ∀ a x, ((![v120, v41] : Fin 2 → IVec S16 32) a x).toNat < S16x16.size a) ∧
  (∀ (k0_h1 : k0_cond1 i k0_t1 = 1#1), ∀ a x, ((![v120, v41] : Fin 2 → IVec S16 32) a x).toNat < S16x16.size a) ∧
  (∀ (k0_h1 : k0_cond1 i k0_t1 = 1#1), ∀ a x, ((![v120, v41] : Fin 2 → IVec S16 32) a x).toNat < S16x16.size a)
theorem k0_idx24_inb : ∀ (i : grid0.Coords) (k0_t1 : Fin k0_t1_loop.trips) (v41 : IVec S16 32) (v120 : IVec S16 32) (k0_hw15 : k0_chk15 i k0_t1 v41 v120), ∀ (k0_h1 : k0_cond1 i k0_t1 = 1#1), ∀ a x, ((![v120, v41] : Fin 2 → IVec S16 32) a x).toNat < S16x16.size a := fun i k0_t1 v41 v120 k0_hw15 k0_h1 => k0_hw15.1 k0_h1
theorem k0_idx25_inb : ∀ (i : grid0.Coords) (k0_t1 : Fin k0_t1_loop.trips) (v41 : IVec S16 32) (v120 : IVec S16 32) (k0_hw15 : k0_chk15 i k0_t1 v41 v120), ∀ (k0_h1 : k0_cond1 i k0_t1 = 1#1), ∀ a x, ((![v120, v41] : Fin 2 → IVec S16 32) a x).toNat < S16x16.size a := fun i k0_t1 v41 v120 k0_hw15 k0_h1 => k0_hw15.2.1 k0_h1
theorem k0_idx26_inb : ∀ (i : grid0.Coords) (k0_t1 : Fin k0_t1_loop.trips) (v41 : IVec S16 32) (v120 : IVec S16 32) (k0_hw15 : k0_chk15 i k0_t1 v41 v120), ∀ (k0_h1 : k0_cond1 i k0_t1 = 1#1), ∀ a x, ((![v120, v41] : Fin 2 → IVec S16 32) a x).toNat < S16x16.size a := fun i k0_t1 v41 v120 k0_hw15 k0_h1 => k0_hw15.2.2.1 k0_h1
theorem k0_idx27_inb : ∀ (i : grid0.Coords) (k0_t1 : Fin k0_t1_loop.trips) (v41 : IVec S16 32) (v120 : IVec S16 32) (k0_hw15 : k0_chk15 i k0_t1 v41 v120), ∀ (k0_h1 : k0_cond1 i k0_t1 = 1#1), ∀ a x, ((![v120, v41] : Fin 2 → IVec S16 32) a x).toNat < S16x16.size a := fun i k0_t1 v41 v120 k0_hw15 k0_h1 => k0_hw15.2.2.2.1 k0_h1
theorem k0_idx28_inb : ∀ (i : grid0.Coords) (k0_t1 : Fin k0_t1_loop.trips) (v41 : IVec S16 32) (v120 : IVec S16 32) (k0_hw15 : k0_chk15 i k0_t1 v41 v120), ∀ (k0_h1 : k0_cond1 i k0_t1 = 1#1), ∀ a x, ((![v120, v41] : Fin 2 → IVec S16 32) a x).toNat < S16x16.size a := fun i k0_t1 v41 v120 k0_hw15 k0_h1 => k0_hw15.2.2.2.2.1 k0_h1
theorem k0_idx29_inb : ∀ (i : grid0.Coords) (k0_t1 : Fin k0_t1_loop.trips) (v41 : IVec S16 32) (v120 : IVec S16 32) (k0_hw15 : k0_chk15 i k0_t1 v41 v120), ∀ (k0_h1 : k0_cond1 i k0_t1 = 1#1), ∀ a x, ((![v120, v41] : Fin 2 → IVec S16 32) a x).toNat < S16x16.size a := fun i k0_t1 v41 v120 k0_hw15 k0_h1 => k0_hw15.2.2.2.2.2.1 k0_h1
theorem k0_idx30_inb : ∀ (i : grid0.Coords) (k0_t1 : Fin k0_t1_loop.trips) (v41 : IVec S16 32) (v120 : IVec S16 32) (k0_hw15 : k0_chk15 i k0_t1 v41 v120), ∀ (k0_h1 : k0_cond1 i k0_t1 = 1#1), ∀ a x, ((![v120, v41] : Fin 2 → IVec S16 32) a x).toNat < S16x16.size a := fun i k0_t1 v41 v120 k0_hw15 k0_h1 => k0_hw15.2.2.2.2.2.2.1 k0_h1
theorem k0_idx31_inb : ∀ (i : grid0.Coords) (k0_t1 : Fin k0_t1_loop.trips) (v41 : IVec S16 32) (v120 : IVec S16 32) (k0_hw15 : k0_chk15 i k0_t1 v41 v120), ∀ (k0_h1 : k0_cond1 i k0_t1 = 1#1), ∀ a x, ((![v120, v41] : Fin 2 → IVec S16 32) a x).toNat < S16x16.size a := fun i k0_t1 v41 v120 k0_hw15 k0_h1 => k0_hw15.2.2.2.2.2.2.2.1 k0_h1
theorem k0_idx32_inb : ∀ (i : grid0.Coords) (k0_t1 : Fin k0_t1_loop.trips) (v41 : IVec S16 32) (v120 : IVec S16 32) (k0_hw15 : k0_chk15 i k0_t1 v41 v120), ∀ (k0_h1 : k0_cond1 i k0_t1 = 1#1), ∀ a x, ((![v120, v41] : Fin 2 → IVec S16 32) a x).toNat < S16x16.size a := fun i k0_t1 v41 v120 k0_hw15 k0_h1 => k0_hw15.2.2.2.2.2.2.2.2.1 k0_h1
theorem k0_idx33_inb : ∀ (i : grid0.Coords) (k0_t1 : Fin k0_t1_loop.trips) (v41 : IVec S16 32) (v120 : IVec S16 32) (k0_hw15 : k0_chk15 i k0_t1 v41 v120), ∀ (k0_h1 : k0_cond1 i k0_t1 = 1#1), ∀ a x, ((![v120, v41] : Fin 2 → IVec S16 32) a x).toNat < S16x16.size a := fun i k0_t1 v41 v120 k0_hw15 k0_h1 => k0_hw15.2.2.2.2.2.2.2.2.2.1 k0_h1
theorem k0_idx34_inb : ∀ (i : grid0.Coords) (k0_t1 : Fin k0_t1_loop.trips) (v41 : IVec S16 32) (v120 : IVec S16 32) (k0_hw15 : k0_chk15 i k0_t1 v41 v120), ∀ (k0_h1 : k0_cond1 i k0_t1 = 1#1), ∀ a x, ((![v120, v41] : Fin 2 → IVec S16 32) a x).toNat < S16x16.size a := fun i k0_t1 v41 v120 k0_hw15 k0_h1 => k0_hw15.2.2.2.2.2.2.2.2.2.2.1 k0_h1
theorem k0_idx35_inb : ∀ (i : grid0.Coords) (k0_t1 : Fin k0_t1_loop.trips) (v41 : IVec S16 32) (v120 : IVec S16 32) (k0_hw15 : k0_chk15 i k0_t1 v41 v120), ∀ (k0_h1 : k0_cond1 i k0_t1 = 1#1), ∀ a x, ((![v120, v41] : Fin 2 → IVec S16 32) a x).toNat < S16x16.size a := fun i k0_t1 v41 v120 k0_hw15 k0_h1 => k0_hw15.2.2.2.2.2.2.2.2.2.2.2.1 k0_h1
theorem k0_idx36_inb : ∀ (i : grid0.Coords) (k0_t1 : Fin k0_t1_loop.trips) (v41 : IVec S16 32) (v120 : IVec S16 32) (k0_hw15 : k0_chk15 i k0_t1 v41 v120), ∀ (k0_h1 : k0_cond1 i k0_t1 = 1#1), ∀ a x, ((![v120, v41] : Fin 2 → IVec S16 32) a x).toNat < S16x16.size a := fun i k0_t1 v41 v120 k0_hw15 k0_h1 => k0_hw15.2.2.2.2.2.2.2.2.2.2.2.2.1 k0_h1
theorem k0_idx37_inb : ∀ (i : grid0.Coords) (k0_t1 : Fin k0_t1_loop.trips) (v41 : IVec S16 32) (v120 : IVec S16 32) (k0_hw15 : k0_chk15 i k0_t1 v41 v120), ∀ (k0_h1 : k0_cond1 i k0_t1 = 1#1), ∀ a x, ((![v120, v41] : Fin 2 → IVec S16 32) a x).toNat < S16x16.size a := fun i k0_t1 v41 v120 k0_hw15 k0_h1 => k0_hw15.2.2.2.2.2.2.2.2.2.2.2.2.2.1 k0_h1
theorem k0_idx38_inb : ∀ (i : grid0.Coords) (k0_t1 : Fin k0_t1_loop.trips) (v41 : IVec S16 32) (v120 : IVec S16 32) (k0_hw15 : k0_chk15 i k0_t1 v41 v120), ∀ (k0_h1 : k0_cond1 i k0_t1 = 1#1), ∀ a x, ((![v120, v41] : Fin 2 → IVec S16 32) a x).toNat < S16x16.size a := fun i k0_t1 v41 v120 k0_hw15 k0_h1 => k0_hw15.2.2.2.2.2.2.2.2.2.2.2.2.2.2.1 k0_h1
theorem k0_idx39_inb : ∀ (i : grid0.Coords) (k0_t1 : Fin k0_t1_loop.trips) (v41 : IVec S16 32) (v120 : IVec S16 32) (k0_hw15 : k0_chk15 i k0_t1 v41 v120), ∀ (k0_h1 : k0_cond1 i k0_t1 = 1#1), ∀ a x, ((![v120, v41] : Fin 2 → IVec S16 32) a x).toNat < S16x16.size a := fun i k0_t1 v41 v120 k0_hw15 k0_h1 => k0_hw15.2.2.2.2.2.2.2.2.2.2.2.2.2.2.2.1 k0_h1
theorem k0_idx40_inb : ∀ (i : grid0.Coords) (k0_t1 : Fin k0_t1_loop.trips) (v41 : IVec S16 32) (v120 : IVec S16 32) (k0_hw15 : k0_chk15 i k0_t1 v41 v120), ∀ (k0_h1 : k0_cond1 i k0_t1 = 1#1), ∀ a x, ((![v120, v41] : Fin 2 → IVec S16 32) a x).toNat < S16x16.size a := fun i k0_t1 v41 v120 k0_hw15 k0_h1 => k0_hw15.2.2.2.2.2.2.2.2.2.2.2.2.2.2.2.2.1 k0_h1
theorem k0_idx41_inb : ∀ (i : grid0.Coords) (k0_t1 : Fin k0_t1_loop.trips) (v41 : IVec S16 32) (v120 : IVec S16 32) (k0_hw15 : k0_chk15 i k0_t1 v41 v120), ∀ (k0_h1 : k0_cond1 i k0_t1 = 1#1), ∀ a x, ((![v120, v41] : Fin 2 → IVec S16 32) a x).toNat < S16x16.size a := fun i k0_t1 v41 v120 k0_hw15 k0_h1 => k0_hw15.2.2.2.2.2.2.2.2.2.2.2.2.2.2.2.2.2.1 k0_h1
theorem k0_idx42_inb : ∀ (i : grid0.Coords) (k0_t1 : Fin k0_t1_loop.trips) (v41 : IVec S16 32) (v120 : IVec S16 32) (k0_hw15 : k0_chk15 i k0_t1 v41 v120), ∀ (k0_h1 : k0_cond1 i k0_t1 = 1#1), ∀ a x, ((![v120, v41] : Fin 2 → IVec S16 32) a x).toNat < S16x16.size a := fun i k0_t1 v41 v120 k0_hw15 k0_h1 => k0_hw15.2.2.2.2.2.2.2.2.2.2.2.2.2.2.2.2.2.2.1 k0_h1
theorem k0_idx43_inb : ∀ (i : grid0.Coords) (k0_t1 : Fin k0_t1_loop.trips) (v41 : IVec S16 32) (v120 : IVec S16 32) (k0_hw15 : k0_chk15 i k0_t1 v41 v120), ∀ (k0_h1 : k0_cond1 i k0_t1 = 1#1), ∀ a x, ((![v120, v41] : Fin 2 → IVec S16 32) a x).toNat < S16x16.size a := fun i k0_t1 v41 v120 k0_hw15 k0_h1 => k0_hw15.2.2.2.2.2.2.2.2.2.2.2.2.2.2.2.2.2.2.2.1 k0_h1
theorem k0_idx44_inb : ∀ (i : grid0.Coords) (k0_t1 : Fin k0_t1_loop.trips) (v41 : IVec S16 32) (v120 : IVec S16 32) (k0_hw15 : k0_chk15 i k0_t1 v41 v120), ∀ (k0_h1 : k0_cond1 i k0_t1 = 1#1), ∀ a x, ((![v120, v41] : Fin 2 → IVec S16 32) a x).toNat < S16x16.size a := fun i k0_t1 v41 v120 k0_hw15 k0_h1 => k0_hw15.2.2.2.2.2.2.2.2.2.2.2.2.2.2.2.2.2.2.2.2.1 k0_h1
theorem k0_idx45_inb : ∀ (i : grid0.Coords) (k0_t1 : Fin k0_t1_loop.trips) (v41 : IVec S16 32) (v120 : IVec S16 32) (k0_hw15 : k0_chk15 i k0_t1 v41 v120), ∀ (k0_h1 : k0_cond1 i k0_t1 = 1#1), ∀ a x, ((![v120, v41] : Fin 2 → IVec S16 32) a x).toNat < S16x16.size a := fun i k0_t1 v41 v120 k0_hw15 k0_h1 => k0_hw15.2.2.2.2.2.2.2.2.2.2.2.2.2.2.2.2.2.2.2.2.2.1 k0_h1
theorem k0_idx46_inb : ∀ (i : grid0.Coords) (k0_t1 : Fin k0_t1_loop.trips) (v41 : IVec S16 32) (v120 : IVec S16 32) (k0_hw15 : k0_chk15 i k0_t1 v41 v120), ∀ (k0_h1 : k0_cond1 i k0_t1 = 1#1), ∀ a x, ((![v120, v41] : Fin 2 → IVec S16 32) a x).toNat < S16x16.size a := fun i k0_t1 v41 v120 k0_hw15 k0_h1 => k0_hw15.2.2.2.2.2.2.2.2.2.2.2.2.2.2.2.2.2.2.2.2.2.2.1 k0_h1
theorem k0_idx47_inb : ∀ (i : grid0.Coords) (k0_t1 : Fin k0_t1_loop.trips) (v41 : IVec S16 32) (v120 : IVec S16 32) (k0_hw15 : k0_chk15 i k0_t1 v41 v120), ∀ (k0_h1 : k0_cond1 i k0_t1 = 1#1), ∀ a x, ((![v120, v41] : Fin 2 → IVec S16 32) a x).toNat < S16x16.size a := fun i k0_t1 v41 v120 k0_hw15 k0_h1 => k0_hw15.2.2.2.2.2.2.2.2.2.2.2.2.2.2.2.2.2.2.2.2.2.2.2.1 k0_h1
theorem k0_idx48_inb : ∀ (i : grid0.Coords) (k0_t1 : Fin k0_t1_loop.trips) (v41 : IVec S16 32) (v120 : IVec S16 32) (k0_hw15 : k0_chk15 i k0_t1 v41 v120), ∀ (k0_h1 : k0_cond1 i k0_t1 = 1#1), ∀ a x, ((![v120, v41] : Fin 2 → IVec S16 32) a x).toNat < S16x16.size a := fun i k0_t1 v41 v120 k0_hw15 k0_h1 => k0_hw15.2.2.2.2.2.2.2.2.2.2.2.2.2.2.2.2.2.2.2.2.2.2.2.2.1 k0_h1
theorem k0_idx49_inb : ∀ (i : grid0.Coords) (k0_t1 : Fin k0_t1_loop.trips) (v41 : IVec S16 32) (v120 : IVec S16 32) (k0_hw15 : k0_chk15 i k0_t1 v41 v120), ∀ (k0_h1 : k0_cond1 i k0_t1 = 1#1), ∀ a x, ((![v120, v41] : Fin 2 → IVec S16 32) a x).toNat < S16x16.size a := fun i k0_t1 v41 v120 k0_hw15 k0_h1 => k0_hw15.2.2.2.2.2.2.2.2.2.2.2.2.2.2.2.2.2.2.2.2.2.2.2.2.2.1 k0_h1
theorem k0_idx50_inb : ∀ (i : grid0.Coords) (k0_t1 : Fin k0_t1_loop.trips) (v41 : IVec S16 32) (v120 : IVec S16 32) (k0_hw15 : k0_chk15 i k0_t1 v41 v120), ∀ (k0_h1 : k0_cond1 i k0_t1 = 1#1), ∀ a x, ((![v120, v41] : Fin 2 → IVec S16 32) a x).toNat < S16x16.size a := fun i k0_t1 v41 v120 k0_hw15 k0_h1 => k0_hw15.2.2.2.2.2.2.2.2.2.2.2.2.2.2.2.2.2.2.2.2.2.2.2.2.2.2.1 k0_h1
theorem k0_idx51_inb : ∀ (i : grid0.Coords) (k0_t1 : Fin k0_t1_loop.trips) (v41 : IVec S16 32) (v120 : IVec S16 32) (k0_hw15 : k0_chk15 i k0_t1 v41 v120), ∀ (k0_h1 : k0_cond1 i k0_t1 = 1#1), ∀ a x, ((![v120, v41] : Fin 2 → IVec S16 32) a x).toNat < S16x16.size a := fun i k0_t1 v41 v120 k0_hw15 k0_h1 => k0_hw15.2.2.2.2.2.2.2.2.2.2.2.2.2.2.2.2.2.2.2.2.2.2.2.2.2.2.2.1 k0_h1
theorem k0_idx52_inb : ∀ (i : grid0.Coords) (k0_t1 : Fin k0_t1_loop.trips) (v41 : IVec S16 32) (v120 : IVec S16 32) (k0_hw15 : k0_chk15 i k0_t1 v41 v120), ∀ (k0_h1 : k0_cond1 i k0_t1 = 1#1), ∀ a x, ((![v120, v41] : Fin 2 → IVec S16 32) a x).toNat < S16x16.size a := fun i k0_t1 v41 v120 k0_hw15 k0_h1 => k0_hw15.2.2.2.2.2.2.2.2.2.2.2.2.2.2.2.2.2.2.2.2.2.2.2.2.2.2.2.2.1 k0_h1
theorem k0_idx53_inb : ∀ (i : grid0.Coords) (k0_t1 : Fin k0_t1_loop.trips) (v41 : IVec S16 32) (v120 : IVec S16 32) (k0_hw15 : k0_chk15 i k0_t1 v41 v120), ∀ (k0_h1 : k0_cond1 i k0_t1 = 1#1), ∀ a x, ((![v120, v41] : Fin 2 → IVec S16 32) a x).toNat < S16x16.size a := fun i k0_t1 v41 v120 k0_hw15 k0_h1 => k0_hw15.2.2.2.2.2.2.2.2.2.2.2.2.2.2.2.2.2.2.2.2.2.2.2.2.2.2.2.2.2.1 k0_h1
theorem k0_idx54_inb : ∀ (i : grid0.Coords) (k0_t1 : Fin k0_t1_loop.trips) (v41 : IVec S16 32) (v120 : IVec S16 32) (k0_hw15 : k0_chk15 i k0_t1 v41 v120), ∀ (k0_h1 : k0_cond1 i k0_t1 = 1#1), ∀ a x, ((![v120, v41] : Fin 2 → IVec S16 32) a x).toNat < S16x16.size a := fun i k0_t1 v41 v120 k0_hw15 k0_h1 => k0_hw15.2.2.2.2.2.2.2.2.2.2.2.2.2.2.2.2.2.2.2.2.2.2.2.2.2.2.2.2.2.2.1 k0_h1
theorem k0_idx55_inb : ∀ (i : grid0.Coords) (k0_t1 : Fin k0_t1_loop.trips) (v41 : IVec S16 32) (v120 : IVec S16 32) (k0_hw15 : k0_chk15 i k0_t1 v41 v120), ∀ (k0_h1 : k0_cond1 i k0_t1 = 1#1), ∀ a x, ((![v120, v41] : Fin 2 → IVec S16 32) a x).toNat < S16x16.size a := fun i k0_t1 v41 v120 k0_hw15 k0_h1 => k0_hw15.2.2.2.2.2.2.2.2.2.2.2.2.2.2.2.2.2.2.2.2.2.2.2.2.2.2.2.2.2.2.2 k0_h1
@[reducible] def k0_t12_loop (v94 : BitVec 32) : Scf.Loop 32 :=
  let c0_i32_73 : BitVec 32 := 0#32
  let c4_i32_58 : BitVec 32 := 4#32
  let v95 : BitVec 32 := Scalar.shrsi v94 c4_i32_58
  let v107 : BitVec 32 := Scalar.subi v95 c0_i32_73
  let c1_i32_74 : BitVec 32 := 1#32
  let v109 : BitVec 32 := Scalar.divsi v107 c1_i32_74
  let v110 : BitVec 32 := Scalar.muli v109 c1_i32_74
  let v111 : BitVec 32 := Scalar.addi c0_i32_73 v110
  let v108 : BitVec 32 := Scalar.addi c0_i32_73 v107
  let c1_i32_76 : BitVec 32 := 1#32
  ⟨v111, v108, c1_i32_76⟩
def k0_off7 (v94 : BitVec 32) (k0_t12 : Fin (k0_t12_loop v94).trips) : Fin 1 → Nat :=
  let c0_i32_73 : BitVec 32 := 0#32
  let c4_i32_58 : BitVec 32 := 4#32
  let v95 : BitVec 32 := Scalar.shrsi v94 c4_i32_58
  let v107 : BitVec 32 := Scalar.subi v95 c0_i32_73
  let c1_i32_74 : BitVec 32 := 1#32
  let v109 : BitVec 32 := Scalar.divsi v107 c1_i32_74
  let v110 : BitVec 32 := Scalar.muli v109 c1_i32_74
  let v111 : BitVec 32 := Scalar.addi c0_i32_73 v110
  let c1_i32_76 : BitVec 32 := 1#32
  let arg35 : BitVec 32 := Scf.iv v111 c1_i32_76 k0_t12
  let c16_i32_77 : BitVec 32 := 16#32
  let v112 : BitVec 32 := Scalar.muli arg35 c16_i32_77
  let v113 : Index := Scalar.indexCast v112
  ![v113.toNat]

def k0_chk13 (i : grid0.Coords) (k0_t1 : Fin k0_t1_loop.trips) (v94 : BitVec 32) : Prop :=
  (∀ (k0_h1 : k0_cond1 i k0_t1 = 1#1), (k0_t10_loop v94).OK) ∧
  (∀ k0_t10 : Fin (k0_t10_loop v94).trips, ∀ (k0_h1 : k0_cond1 i k0_t1 = 1#1), ∀ a, (k0_off6 v94 k0_t10) a + S16.size a ≤ S768.size a) ∧
  (∀ (k0_h1 : k0_cond1 i k0_t1 = 1#1), (k0_t12_loop v94).OK) ∧
  (∀ k0_t12 : Fin (k0_t12_loop v94).trips, ∀ (k0_h1 : k0_cond1 i k0_t1 = 1#1), ∀ a, (k0_off7 v94 k0_t12) a + S16.size a ≤ S768.size a)
theorem k0_t10_ok : ∀ (i : grid0.Coords) (k0_t1 : Fin k0_t1_loop.trips) (v94 : BitVec 32) (k0_hw13 : k0_chk13 i k0_t1 v94), ∀ (k0_h1 : k0_cond1 i k0_t1 = 1#1), (k0_t10_loop v94).OK := fun i k0_t1 v94 k0_hw13 k0_h1 => k0_hw13.1 k0_h1
theorem k0_off6_inb : ∀ (i : grid0.Coords) (k0_t1 : Fin k0_t1_loop.trips) (v94 : BitVec 32) (k0_hw13 : k0_chk13 i k0_t1 v94) (k0_t10 : Fin (k0_t10_loop v94).trips), ∀ (k0_h1 : k0_cond1 i k0_t1 = 1#1), ∀ a, (k0_off6 v94 k0_t10) a + S16.size a ≤ S768.size a := fun i k0_t1 v94 k0_hw13 k0_t10 k0_h1 => k0_hw13.2.1 k0_t10 k0_h1
theorem k0_t12_ok : ∀ (i : grid0.Coords) (k0_t1 : Fin k0_t1_loop.trips) (v94 : BitVec 32) (k0_hw13 : k0_chk13 i k0_t1 v94), ∀ (k0_h1 : k0_cond1 i k0_t1 = 1#1), (k0_t12_loop v94).OK := fun i k0_t1 v94 k0_hw13 k0_h1 => k0_hw13.2.2.1 k0_h1
theorem k0_off7_inb : ∀ (i : grid0.Coords) (k0_t1 : Fin k0_t1_loop.trips) (v94 : BitVec 32) (k0_hw13 : k0_chk13 i k0_t1 v94) (k0_t12 : Fin (k0_t12_loop v94).trips), ∀ (k0_h1 : k0_cond1 i k0_t1 = 1#1), ∀ a, (k0_off7 v94 k0_t12) a + S16.size a ≤ S768.size a := fun i k0_t1 v94 k0_hw13 k0_t12 k0_h1 => k0_hw13.2.2.2 k0_t12 k0_h1

@[reducible] def k0_t13_loop : Scf.Loop 32 :=
  let c0_i32_95 : BitVec 32 := 0#32
  let c16_i32_96 : BitVec 32 := 16#32
  let v137 : BitVec 32 := Scalar.addi c0_i32_95 c16_i32_96
  let c1_i32_97 : BitVec 32 := 1#32
  ⟨c0_i32_95, v137, c1_i32_97⟩

def k0_chk16 (i : grid0.Coords) (k0_t1 : Fin k0_t1_loop.trips) (v44 : IVec S16 32) (v46 : IVec S16 32) (v48 : IVec S16 32) (v50 : IVec S16 32) (v52 : IVec S16 32) (v54 : IVec S16 32) (v56 : IVec S16 32) (v58 : IVec S16 32) (v179 : IVec S16 32) : Prop :=
  (∀ (k0_h1 : k0_cond1 i k0_t1 = 1#1), ∀ a x, ((![v44, v179] : Fin 2 → IVec S16 32) a x).toNat < S128x529.size a) ∧
  (∀ (k0_h1 : k0_cond1 i k0_t1 = 1#1), ∀ a x, ((![v46, v179] : Fin 2 → IVec S16 32) a x).toNat < S128x529.size a) ∧
  (∀ (k0_h1 : k0_cond1 i k0_t1 = 1#1), ∀ a x, ((![v48, v179] : Fin 2 → IVec S16 32) a x).toNat < S128x529.size a) ∧
  (∀ (k0_h1 : k0_cond1 i k0_t1 = 1#1), ∀ a x, ((![v50, v179] : Fin 2 → IVec S16 32) a x).toNat < S128x529.size a) ∧
  (∀ (k0_h1 : k0_cond1 i k0_t1 = 1#1), ∀ a x, ((![v52, v179] : Fin 2 → IVec S16 32) a x).toNat < S128x529.size a) ∧
  (∀ (k0_h1 : k0_cond1 i k0_t1 = 1#1), ∀ a x, ((![v54, v179] : Fin 2 → IVec S16 32) a x).toNat < S128x529.size a) ∧
  (∀ (k0_h1 : k0_cond1 i k0_t1 = 1#1), ∀ a x, ((![v56, v179] : Fin 2 → IVec S16 32) a x).toNat < S128x529.size a) ∧
  (∀ (k0_h1 : k0_cond1 i k0_t1 = 1#1), ∀ a x, ((![v58, v179] : Fin 2 → IVec S16 32) a x).toNat < S128x529.size a)
theorem k0_idx56_inb : ∀ (i : grid0.Coords) (k0_t1 : Fin k0_t1_loop.trips) (v44 : IVec S16 32) (v46 : IVec S16 32) (v48 : IVec S16 32) (v50 : IVec S16 32) (v52 : IVec S16 32) (v54 : IVec S16 32) (v56 : IVec S16 32) (v58 : IVec S16 32) (v179 : IVec S16 32) (k0_hw16 : k0_chk16 i k0_t1 v44 v46 v48 v50 v52 v54 v56 v58 v179), ∀ (k0_h1 : k0_cond1 i k0_t1 = 1#1), ∀ a x, ((![v44, v179] : Fin 2 → IVec S16 32) a x).toNat < S128x529.size a := fun i k0_t1 v44 v46 v48 v50 v52 v54 v56 v58 v179 k0_hw16 k0_h1 => k0_hw16.1 k0_h1
theorem k0_idx57_inb : ∀ (i : grid0.Coords) (k0_t1 : Fin k0_t1_loop.trips) (v44 : IVec S16 32) (v46 : IVec S16 32) (v48 : IVec S16 32) (v50 : IVec S16 32) (v52 : IVec S16 32) (v54 : IVec S16 32) (v56 : IVec S16 32) (v58 : IVec S16 32) (v179 : IVec S16 32) (k0_hw16 : k0_chk16 i k0_t1 v44 v46 v48 v50 v52 v54 v56 v58 v179), ∀ (k0_h1 : k0_cond1 i k0_t1 = 1#1), ∀ a x, ((![v46, v179] : Fin 2 → IVec S16 32) a x).toNat < S128x529.size a := fun i k0_t1 v44 v46 v48 v50 v52 v54 v56 v58 v179 k0_hw16 k0_h1 => k0_hw16.2.1 k0_h1
theorem k0_idx58_inb : ∀ (i : grid0.Coords) (k0_t1 : Fin k0_t1_loop.trips) (v44 : IVec S16 32) (v46 : IVec S16 32) (v48 : IVec S16 32) (v50 : IVec S16 32) (v52 : IVec S16 32) (v54 : IVec S16 32) (v56 : IVec S16 32) (v58 : IVec S16 32) (v179 : IVec S16 32) (k0_hw16 : k0_chk16 i k0_t1 v44 v46 v48 v50 v52 v54 v56 v58 v179), ∀ (k0_h1 : k0_cond1 i k0_t1 = 1#1), ∀ a x, ((![v48, v179] : Fin 2 → IVec S16 32) a x).toNat < S128x529.size a := fun i k0_t1 v44 v46 v48 v50 v52 v54 v56 v58 v179 k0_hw16 k0_h1 => k0_hw16.2.2.1 k0_h1
theorem k0_idx59_inb : ∀ (i : grid0.Coords) (k0_t1 : Fin k0_t1_loop.trips) (v44 : IVec S16 32) (v46 : IVec S16 32) (v48 : IVec S16 32) (v50 : IVec S16 32) (v52 : IVec S16 32) (v54 : IVec S16 32) (v56 : IVec S16 32) (v58 : IVec S16 32) (v179 : IVec S16 32) (k0_hw16 : k0_chk16 i k0_t1 v44 v46 v48 v50 v52 v54 v56 v58 v179), ∀ (k0_h1 : k0_cond1 i k0_t1 = 1#1), ∀ a x, ((![v50, v179] : Fin 2 → IVec S16 32) a x).toNat < S128x529.size a := fun i k0_t1 v44 v46 v48 v50 v52 v54 v56 v58 v179 k0_hw16 k0_h1 => k0_hw16.2.2.2.1 k0_h1
theorem k0_idx60_inb : ∀ (i : grid0.Coords) (k0_t1 : Fin k0_t1_loop.trips) (v44 : IVec S16 32) (v46 : IVec S16 32) (v48 : IVec S16 32) (v50 : IVec S16 32) (v52 : IVec S16 32) (v54 : IVec S16 32) (v56 : IVec S16 32) (v58 : IVec S16 32) (v179 : IVec S16 32) (k0_hw16 : k0_chk16 i k0_t1 v44 v46 v48 v50 v52 v54 v56 v58 v179), ∀ (k0_h1 : k0_cond1 i k0_t1 = 1#1), ∀ a x, ((![v52, v179] : Fin 2 → IVec S16 32) a x).toNat < S128x529.size a := fun i k0_t1 v44 v46 v48 v50 v52 v54 v56 v58 v179 k0_hw16 k0_h1 => k0_hw16.2.2.2.2.1 k0_h1
theorem k0_idx61_inb : ∀ (i : grid0.Coords) (k0_t1 : Fin k0_t1_loop.trips) (v44 : IVec S16 32) (v46 : IVec S16 32) (v48 : IVec S16 32) (v50 : IVec S16 32) (v52 : IVec S16 32) (v54 : IVec S16 32) (v56 : IVec S16 32) (v58 : IVec S16 32) (v179 : IVec S16 32) (k0_hw16 : k0_chk16 i k0_t1 v44 v46 v48 v50 v52 v54 v56 v58 v179), ∀ (k0_h1 : k0_cond1 i k0_t1 = 1#1), ∀ a x, ((![v54, v179] : Fin 2 → IVec S16 32) a x).toNat < S128x529.size a := fun i k0_t1 v44 v46 v48 v50 v52 v54 v56 v58 v179 k0_hw16 k0_h1 => k0_hw16.2.2.2.2.2.1 k0_h1
theorem k0_idx62_inb : ∀ (i : grid0.Coords) (k0_t1 : Fin k0_t1_loop.trips) (v44 : IVec S16 32) (v46 : IVec S16 32) (v48 : IVec S16 32) (v50 : IVec S16 32) (v52 : IVec S16 32) (v54 : IVec S16 32) (v56 : IVec S16 32) (v58 : IVec S16 32) (v179 : IVec S16 32) (k0_hw16 : k0_chk16 i k0_t1 v44 v46 v48 v50 v52 v54 v56 v58 v179), ∀ (k0_h1 : k0_cond1 i k0_t1 = 1#1), ∀ a x, ((![v56, v179] : Fin 2 → IVec S16 32) a x).toNat < S128x529.size a := fun i k0_t1 v44 v46 v48 v50 v52 v54 v56 v58 v179 k0_hw16 k0_h1 => k0_hw16.2.2.2.2.2.2.1 k0_h1
theorem k0_idx63_inb : ∀ (i : grid0.Coords) (k0_t1 : Fin k0_t1_loop.trips) (v44 : IVec S16 32) (v46 : IVec S16 32) (v48 : IVec S16 32) (v50 : IVec S16 32) (v52 : IVec S16 32) (v54 : IVec S16 32) (v56 : IVec S16 32) (v58 : IVec S16 32) (v179 : IVec S16 32) (k0_hw16 : k0_chk16 i k0_t1 v44 v46 v48 v50 v52 v54 v56 v58 v179), ∀ (k0_h1 : k0_cond1 i k0_t1 = 1#1), ∀ a x, ((![v58, v179] : Fin 2 → IVec S16 32) a x).toNat < S128x529.size a := fun i k0_t1 v44 v46 v48 v50 v52 v54 v56 v58 v179 k0_hw16 k0_h1 => k0_hw16.2.2.2.2.2.2.2 k0_h1

def k0_chk17 (i : grid0.Coords) (k0_t1 : Fin k0_t1_loop.trips) (v41 : IVec S16 32) (v120 : IVec S16 32) : Prop :=
  (∀ (k0_h1 : k0_cond1 i k0_t1 = 1#1), ∀ a x, ((![v120, v41] : Fin 2 → IVec S16 32) a x).toNat < S16x16.size a) ∧
  (∀ (k0_h1 : k0_cond1 i k0_t1 = 1#1), ∀ a x, ((![v120, v41] : Fin 2 → IVec S16 32) a x).toNat < S16x16.size a) ∧
  (∀ (k0_h1 : k0_cond1 i k0_t1 = 1#1), ∀ a x, ((![v120, v41] : Fin 2 → IVec S16 32) a x).toNat < S16x16.size a) ∧
  (∀ (k0_h1 : k0_cond1 i k0_t1 = 1#1), ∀ a x, ((![v120, v41] : Fin 2 → IVec S16 32) a x).toNat < S16x16.size a) ∧
  (∀ (k0_h1 : k0_cond1 i k0_t1 = 1#1), ∀ a x, ((![v120, v41] : Fin 2 → IVec S16 32) a x).toNat < S16x16.size a) ∧
  (∀ (k0_h1 : k0_cond1 i k0_t1 = 1#1), ∀ a x, ((![v120, v41] : Fin 2 → IVec S16 32) a x).toNat < S16x16.size a) ∧
  (∀ (k0_h1 : k0_cond1 i k0_t1 = 1#1), ∀ a x, ((![v120, v41] : Fin 2 → IVec S16 32) a x).toNat < S16x16.size a) ∧
  (∀ (k0_h1 : k0_cond1 i k0_t1 = 1#1), ∀ a x, ((![v120, v41] : Fin 2 → IVec S16 32) a x).toNat < S16x16.size a) ∧
  (∀ (k0_h1 : k0_cond1 i k0_t1 = 1#1), ∀ a x, ((![v120, v41] : Fin 2 → IVec S16 32) a x).toNat < S16x16.size a) ∧
  (∀ (k0_h1 : k0_cond1 i k0_t1 = 1#1), ∀ a x, ((![v120, v41] : Fin 2 → IVec S16 32) a x).toNat < S16x16.size a) ∧
  (∀ (k0_h1 : k0_cond1 i k0_t1 = 1#1), ∀ a x, ((![v120, v41] : Fin 2 → IVec S16 32) a x).toNat < S16x16.size a) ∧
  (∀ (k0_h1 : k0_cond1 i k0_t1 = 1#1), ∀ a x, ((![v120, v41] : Fin 2 → IVec S16 32) a x).toNat < S16x16.size a) ∧
  (∀ (k0_h1 : k0_cond1 i k0_t1 = 1#1), ∀ a x, ((![v120, v41] : Fin 2 → IVec S16 32) a x).toNat < S16x16.size a) ∧
  (∀ (k0_h1 : k0_cond1 i k0_t1 = 1#1), ∀ a x, ((![v120, v41] : Fin 2 → IVec S16 32) a x).toNat < S16x16.size a) ∧
  (∀ (k0_h1 : k0_cond1 i k0_t1 = 1#1), ∀ a x, ((![v120, v41] : Fin 2 → IVec S16 32) a x).toNat < S16x16.size a) ∧
  (∀ (k0_h1 : k0_cond1 i k0_t1 = 1#1), ∀ a x, ((![v120, v41] : Fin 2 → IVec S16 32) a x).toNat < S16x16.size a) ∧
  (∀ (k0_h1 : k0_cond1 i k0_t1 = 1#1), ∀ a x, ((![v120, v41] : Fin 2 → IVec S16 32) a x).toNat < S16x16.size a) ∧
  (∀ (k0_h1 : k0_cond1 i k0_t1 = 1#1), ∀ a x, ((![v120, v41] : Fin 2 → IVec S16 32) a x).toNat < S16x16.size a) ∧
  (∀ (k0_h1 : k0_cond1 i k0_t1 = 1#1), ∀ a x, ((![v120, v41] : Fin 2 → IVec S16 32) a x).toNat < S16x16.size a) ∧
  (∀ (k0_h1 : k0_cond1 i k0_t1 = 1#1), ∀ a x, ((![v120, v41] : Fin 2 → IVec S16 32) a x).toNat < S16x16.size a) ∧
  (∀ (k0_h1 : k0_cond1 i k0_t1 = 1#1), ∀ a x, ((![v120, v41] : Fin 2 → IVec S16 32) a x).toNat < S16x16.size a) ∧
  (∀ (k0_h1 : k0_cond1 i k0_t1 = 1#1), ∀ a x, ((![v120, v41] : Fin 2 → IVec S16 32) a x).toNat < S16x16.size a) ∧
  (∀ (k0_h1 : k0_cond1 i k0_t1 = 1#1), ∀ a x, ((![v120, v41] : Fin 2 → IVec S16 32) a x).toNat < S16x16.size a) ∧
  (∀ (k0_h1 : k0_cond1 i k0_t1 = 1#1), ∀ a x, ((![v120, v41] : Fin 2 → IVec S16 32) a x).toNat < S16x16.size a) ∧
  (∀ (k0_h1 : k0_cond1 i k0_t1 = 1#1), ∀ a x, ((![v120, v41] : Fin 2 → IVec S16 32) a x).toNat < S16x16.size a) ∧
  (∀ (k0_h1 : k0_cond1 i k0_t1 = 1#1), ∀ a x, ((![v120, v41] : Fin 2 → IVec S16 32) a x).toNat < S16x16.size a) ∧
  (∀ (k0_h1 : k0_cond1 i k0_t1 = 1#1), ∀ a x, ((![v120, v41] : Fin 2 → IVec S16 32) a x).toNat < S16x16.size a) ∧
  (∀ (k0_h1 : k0_cond1 i k0_t1 = 1#1), ∀ a x, ((![v120, v41] : Fin 2 → IVec S16 32) a x).toNat < S16x16.size a) ∧
  (∀ (k0_h1 : k0_cond1 i k0_t1 = 1#1), ∀ a x, ((![v120, v41] : Fin 2 → IVec S16 32) a x).toNat < S16x16.size a) ∧
  (∀ (k0_h1 : k0_cond1 i k0_t1 = 1#1), ∀ a x, ((![v120, v41] : Fin 2 → IVec S16 32) a x).toNat < S16x16.size a) ∧
  (∀ (k0_h1 : k0_cond1 i k0_t1 = 1#1), ∀ a x, ((![v120, v41] : Fin 2 → IVec S16 32) a x).toNat < S16x16.size a) ∧
  (∀ (k0_h1 : k0_cond1 i k0_t1 = 1#1), ∀ a x, ((![v120, v41] : Fin 2 → IVec S16 32) a x).toNat < S16x16.size a)
theorem k0_idx64_inb : ∀ (i : grid0.Coords) (k0_t1 : Fin k0_t1_loop.trips) (v41 : IVec S16 32) (v120 : IVec S16 32) (k0_hw17 : k0_chk17 i k0_t1 v41 v120), ∀ (k0_h1 : k0_cond1 i k0_t1 = 1#1), ∀ a x, ((![v120, v41] : Fin 2 → IVec S16 32) a x).toNat < S16x16.size a := fun i k0_t1 v41 v120 k0_hw17 k0_h1 => k0_hw17.1 k0_h1
theorem k0_idx65_inb : ∀ (i : grid0.Coords) (k0_t1 : Fin k0_t1_loop.trips) (v41 : IVec S16 32) (v120 : IVec S16 32) (k0_hw17 : k0_chk17 i k0_t1 v41 v120), ∀ (k0_h1 : k0_cond1 i k0_t1 = 1#1), ∀ a x, ((![v120, v41] : Fin 2 → IVec S16 32) a x).toNat < S16x16.size a := fun i k0_t1 v41 v120 k0_hw17 k0_h1 => k0_hw17.2.1 k0_h1
theorem k0_idx66_inb : ∀ (i : grid0.Coords) (k0_t1 : Fin k0_t1_loop.trips) (v41 : IVec S16 32) (v120 : IVec S16 32) (k0_hw17 : k0_chk17 i k0_t1 v41 v120), ∀ (k0_h1 : k0_cond1 i k0_t1 = 1#1), ∀ a x, ((![v120, v41] : Fin 2 → IVec S16 32) a x).toNat < S16x16.size a := fun i k0_t1 v41 v120 k0_hw17 k0_h1 => k0_hw17.2.2.1 k0_h1
theorem k0_idx67_inb : ∀ (i : grid0.Coords) (k0_t1 : Fin k0_t1_loop.trips) (v41 : IVec S16 32) (v120 : IVec S16 32) (k0_hw17 : k0_chk17 i k0_t1 v41 v120), ∀ (k0_h1 : k0_cond1 i k0_t1 = 1#1), ∀ a x, ((![v120, v41] : Fin 2 → IVec S16 32) a x).toNat < S16x16.size a := fun i k0_t1 v41 v120 k0_hw17 k0_h1 => k0_hw17.2.2.2.1 k0_h1
theorem k0_idx68_inb : ∀ (i : grid0.Coords) (k0_t1 : Fin k0_t1_loop.trips) (v41 : IVec S16 32) (v120 : IVec S16 32) (k0_hw17 : k0_chk17 i k0_t1 v41 v120), ∀ (k0_h1 : k0_cond1 i k0_t1 = 1#1), ∀ a x, ((![v120, v41] : Fin 2 → IVec S16 32) a x).toNat < S16x16.size a := fun i k0_t1 v41 v120 k0_hw17 k0_h1 => k0_hw17.2.2.2.2.1 k0_h1
theorem k0_idx69_inb : ∀ (i : grid0.Coords) (k0_t1 : Fin k0_t1_loop.trips) (v41 : IVec S16 32) (v120 : IVec S16 32) (k0_hw17 : k0_chk17 i k0_t1 v41 v120), ∀ (k0_h1 : k0_cond1 i k0_t1 = 1#1), ∀ a x, ((![v120, v41] : Fin 2 → IVec S16 32) a x).toNat < S16x16.size a := fun i k0_t1 v41 v120 k0_hw17 k0_h1 => k0_hw17.2.2.2.2.2.1 k0_h1
theorem k0_idx70_inb : ∀ (i : grid0.Coords) (k0_t1 : Fin k0_t1_loop.trips) (v41 : IVec S16 32) (v120 : IVec S16 32) (k0_hw17 : k0_chk17 i k0_t1 v41 v120), ∀ (k0_h1 : k0_cond1 i k0_t1 = 1#1), ∀ a x, ((![v120, v41] : Fin 2 → IVec S16 32) a x).toNat < S16x16.size a := fun i k0_t1 v41 v120 k0_hw17 k0_h1 => k0_hw17.2.2.2.2.2.2.1 k0_h1
theorem k0_idx71_inb : ∀ (i : grid0.Coords) (k0_t1 : Fin k0_t1_loop.trips) (v41 : IVec S16 32) (v120 : IVec S16 32) (k0_hw17 : k0_chk17 i k0_t1 v41 v120), ∀ (k0_h1 : k0_cond1 i k0_t1 = 1#1), ∀ a x, ((![v120, v41] : Fin 2 → IVec S16 32) a x).toNat < S16x16.size a := fun i k0_t1 v41 v120 k0_hw17 k0_h1 => k0_hw17.2.2.2.2.2.2.2.1 k0_h1
theorem k0_idx72_inb : ∀ (i : grid0.Coords) (k0_t1 : Fin k0_t1_loop.trips) (v41 : IVec S16 32) (v120 : IVec S16 32) (k0_hw17 : k0_chk17 i k0_t1 v41 v120), ∀ (k0_h1 : k0_cond1 i k0_t1 = 1#1), ∀ a x, ((![v120, v41] : Fin 2 → IVec S16 32) a x).toNat < S16x16.size a := fun i k0_t1 v41 v120 k0_hw17 k0_h1 => k0_hw17.2.2.2.2.2.2.2.2.1 k0_h1
theorem k0_idx73_inb : ∀ (i : grid0.Coords) (k0_t1 : Fin k0_t1_loop.trips) (v41 : IVec S16 32) (v120 : IVec S16 32) (k0_hw17 : k0_chk17 i k0_t1 v41 v120), ∀ (k0_h1 : k0_cond1 i k0_t1 = 1#1), ∀ a x, ((![v120, v41] : Fin 2 → IVec S16 32) a x).toNat < S16x16.size a := fun i k0_t1 v41 v120 k0_hw17 k0_h1 => k0_hw17.2.2.2.2.2.2.2.2.2.1 k0_h1
theorem k0_idx74_inb : ∀ (i : grid0.Coords) (k0_t1 : Fin k0_t1_loop.trips) (v41 : IVec S16 32) (v120 : IVec S16 32) (k0_hw17 : k0_chk17 i k0_t1 v41 v120), ∀ (k0_h1 : k0_cond1 i k0_t1 = 1#1), ∀ a x, ((![v120, v41] : Fin 2 → IVec S16 32) a x).toNat < S16x16.size a := fun i k0_t1 v41 v120 k0_hw17 k0_h1 => k0_hw17.2.2.2.2.2.2.2.2.2.2.1 k0_h1
theorem k0_idx75_inb : ∀ (i : grid0.Coords) (k0_t1 : Fin k0_t1_loop.trips) (v41 : IVec S16 32) (v120 : IVec S16 32) (k0_hw17 : k0_chk17 i k0_t1 v41 v120), ∀ (k0_h1 : k0_cond1 i k0_t1 = 1#1), ∀ a x, ((![v120, v41] : Fin 2 → IVec S16 32) a x).toNat < S16x16.size a := fun i k0_t1 v41 v120 k0_hw17 k0_h1 => k0_hw17.2.2.2.2.2.2.2.2.2.2.2.1 k0_h1
theorem k0_idx76_inb : ∀ (i : grid0.Coords) (k0_t1 : Fin k0_t1_loop.trips) (v41 : IVec S16 32) (v120 : IVec S16 32) (k0_hw17 : k0_chk17 i k0_t1 v41 v120), ∀ (k0_h1 : k0_cond1 i k0_t1 = 1#1), ∀ a x, ((![v120, v41] : Fin 2 → IVec S16 32) a x).toNat < S16x16.size a := fun i k0_t1 v41 v120 k0_hw17 k0_h1 => k0_hw17.2.2.2.2.2.2.2.2.2.2.2.2.1 k0_h1
theorem k0_idx77_inb : ∀ (i : grid0.Coords) (k0_t1 : Fin k0_t1_loop.trips) (v41 : IVec S16 32) (v120 : IVec S16 32) (k0_hw17 : k0_chk17 i k0_t1 v41 v120), ∀ (k0_h1 : k0_cond1 i k0_t1 = 1#1), ∀ a x, ((![v120, v41] : Fin 2 → IVec S16 32) a x).toNat < S16x16.size a := fun i k0_t1 v41 v120 k0_hw17 k0_h1 => k0_hw17.2.2.2.2.2.2.2.2.2.2.2.2.2.1 k0_h1
theorem k0_idx78_inb : ∀ (i : grid0.Coords) (k0_t1 : Fin k0_t1_loop.trips) (v41 : IVec S16 32) (v120 : IVec S16 32) (k0_hw17 : k0_chk17 i k0_t1 v41 v120), ∀ (k0_h1 : k0_cond1 i k0_t1 = 1#1), ∀ a x, ((![v120, v41] : Fin 2 → IVec S16 32) a x).toNat < S16x16.size a := fun i k0_t1 v41 v120 k0_hw17 k0_h1 => k0_hw17.2.2.2.2.2.2.2.2.2.2.2.2.2.2.1 k0_h1
theorem k0_idx79_inb : ∀ (i : grid0.Coords) (k0_t1 : Fin k0_t1_loop.trips) (v41 : IVec S16 32) (v120 : IVec S16 32) (k0_hw17 : k0_chk17 i k0_t1 v41 v120), ∀ (k0_h1 : k0_cond1 i k0_t1 = 1#1), ∀ a x, ((![v120, v41] : Fin 2 → IVec S16 32) a x).toNat < S16x16.size a := fun i k0_t1 v41 v120 k0_hw17 k0_h1 => k0_hw17.2.2.2.2.2.2.2.2.2.2.2.2.2.2.2.1 k0_h1
theorem k0_idx80_inb : ∀ (i : grid0.Coords) (k0_t1 : Fin k0_t1_loop.trips) (v41 : IVec S16 32) (v120 : IVec S16 32) (k0_hw17 : k0_chk17 i k0_t1 v41 v120), ∀ (k0_h1 : k0_cond1 i k0_t1 = 1#1), ∀ a x, ((![v120, v41] : Fin 2 → IVec S16 32) a x).toNat < S16x16.size a := fun i k0_t1 v41 v120 k0_hw17 k0_h1 => k0_hw17.2.2.2.2.2.2.2.2.2.2.2.2.2.2.2.2.1 k0_h1
theorem k0_idx81_inb : ∀ (i : grid0.Coords) (k0_t1 : Fin k0_t1_loop.trips) (v41 : IVec S16 32) (v120 : IVec S16 32) (k0_hw17 : k0_chk17 i k0_t1 v41 v120), ∀ (k0_h1 : k0_cond1 i k0_t1 = 1#1), ∀ a x, ((![v120, v41] : Fin 2 → IVec S16 32) a x).toNat < S16x16.size a := fun i k0_t1 v41 v120 k0_hw17 k0_h1 => k0_hw17.2.2.2.2.2.2.2.2.2.2.2.2.2.2.2.2.2.1 k0_h1
theorem k0_idx82_inb : ∀ (i : grid0.Coords) (k0_t1 : Fin k0_t1_loop.trips) (v41 : IVec S16 32) (v120 : IVec S16 32) (k0_hw17 : k0_chk17 i k0_t1 v41 v120), ∀ (k0_h1 : k0_cond1 i k0_t1 = 1#1), ∀ a x, ((![v120, v41] : Fin 2 → IVec S16 32) a x).toNat < S16x16.size a := fun i k0_t1 v41 v120 k0_hw17 k0_h1 => k0_hw17.2.2.2.2.2.2.2.2.2.2.2.2.2.2.2.2.2.2.1 k0_h1
theorem k0_idx83_inb : ∀ (i : grid0.Coords) (k0_t1 : Fin k0_t1_loop.trips) (v41 : IVec S16 32) (v120 : IVec S16 32) (k0_hw17 : k0_chk17 i k0_t1 v41 v120), ∀ (k0_h1 : k0_cond1 i k0_t1 = 1#1), ∀ a x, ((![v120, v41] : Fin 2 → IVec S16 32) a x).toNat < S16x16.size a := fun i k0_t1 v41 v120 k0_hw17 k0_h1 => k0_hw17.2.2.2.2.2.2.2.2.2.2.2.2.2.2.2.2.2.2.2.1 k0_h1
theorem k0_idx84_inb : ∀ (i : grid0.Coords) (k0_t1 : Fin k0_t1_loop.trips) (v41 : IVec S16 32) (v120 : IVec S16 32) (k0_hw17 : k0_chk17 i k0_t1 v41 v120), ∀ (k0_h1 : k0_cond1 i k0_t1 = 1#1), ∀ a x, ((![v120, v41] : Fin 2 → IVec S16 32) a x).toNat < S16x16.size a := fun i k0_t1 v41 v120 k0_hw17 k0_h1 => k0_hw17.2.2.2.2.2.2.2.2.2.2.2.2.2.2.2.2.2.2.2.2.1 k0_h1
theorem k0_idx85_inb : ∀ (i : grid0.Coords) (k0_t1 : Fin k0_t1_loop.trips) (v41 : IVec S16 32) (v120 : IVec S16 32) (k0_hw17 : k0_chk17 i k0_t1 v41 v120), ∀ (k0_h1 : k0_cond1 i k0_t1 = 1#1), ∀ a x, ((![v120, v41] : Fin 2 → IVec S16 32) a x).toNat < S16x16.size a := fun i k0_t1 v41 v120 k0_hw17 k0_h1 => k0_hw17.2.2.2.2.2.2.2.2.2.2.2.2.2.2.2.2.2.2.2.2.2.1 k0_h1
theorem k0_idx86_inb : ∀ (i : grid0.Coords) (k0_t1 : Fin k0_t1_loop.trips) (v41 : IVec S16 32) (v120 : IVec S16 32) (k0_hw17 : k0_chk17 i k0_t1 v41 v120), ∀ (k0_h1 : k0_cond1 i k0_t1 = 1#1), ∀ a x, ((![v120, v41] : Fin 2 → IVec S16 32) a x).toNat < S16x16.size a := fun i k0_t1 v41 v120 k0_hw17 k0_h1 => k0_hw17.2.2.2.2.2.2.2.2.2.2.2.2.2.2.2.2.2.2.2.2.2.2.1 k0_h1
theorem k0_idx87_inb : ∀ (i : grid0.Coords) (k0_t1 : Fin k0_t1_loop.trips) (v41 : IVec S16 32) (v120 : IVec S16 32) (k0_hw17 : k0_chk17 i k0_t1 v41 v120), ∀ (k0_h1 : k0_cond1 i k0_t1 = 1#1), ∀ a x, ((![v120, v41] : Fin 2 → IVec S16 32) a x).toNat < S16x16.size a := fun i k0_t1 v41 v120 k0_hw17 k0_h1 => k0_hw17.2.2.2.2.2.2.2.2.2.2.2.2.2.2.2.2.2.2.2.2.2.2.2.1 k0_h1
theorem k0_idx88_inb : ∀ (i : grid0.Coords) (k0_t1 : Fin k0_t1_loop.trips) (v41 : IVec S16 32) (v120 : IVec S16 32) (k0_hw17 : k0_chk17 i k0_t1 v41 v120), ∀ (k0_h1 : k0_cond1 i k0_t1 = 1#1), ∀ a x, ((![v120, v41] : Fin 2 → IVec S16 32) a x).toNat < S16x16.size a := fun i k0_t1 v41 v120 k0_hw17 k0_h1 => k0_hw17.2.2.2.2.2.2.2.2.2.2.2.2.2.2.2.2.2.2.2.2.2.2.2.2.1 k0_h1
theorem k0_idx89_inb : ∀ (i : grid0.Coords) (k0_t1 : Fin k0_t1_loop.trips) (v41 : IVec S16 32) (v120 : IVec S16 32) (k0_hw17 : k0_chk17 i k0_t1 v41 v120), ∀ (k0_h1 : k0_cond1 i k0_t1 = 1#1), ∀ a x, ((![v120, v41] : Fin 2 → IVec S16 32) a x).toNat < S16x16.size a := fun i k0_t1 v41 v120 k0_hw17 k0_h1 => k0_hw17.2.2.2.2.2.2.2.2.2.2.2.2.2.2.2.2.2.2.2.2.2.2.2.2.2.1 k0_h1
theorem k0_idx90_inb : ∀ (i : grid0.Coords) (k0_t1 : Fin k0_t1_loop.trips) (v41 : IVec S16 32) (v120 : IVec S16 32) (k0_hw17 : k0_chk17 i k0_t1 v41 v120), ∀ (k0_h1 : k0_cond1 i k0_t1 = 1#1), ∀ a x, ((![v120, v41] : Fin 2 → IVec S16 32) a x).toNat < S16x16.size a := fun i k0_t1 v41 v120 k0_hw17 k0_h1 => k0_hw17.2.2.2.2.2.2.2.2.2.2.2.2.2.2.2.2.2.2.2.2.2.2.2.2.2.2.1 k0_h1
theorem k0_idx91_inb : ∀ (i : grid0.Coords) (k0_t1 : Fin k0_t1_loop.trips) (v41 : IVec S16 32) (v120 : IVec S16 32) (k0_hw17 : k0_chk17 i k0_t1 v41 v120), ∀ (k0_h1 : k0_cond1 i k0_t1 = 1#1), ∀ a x, ((![v120, v41] : Fin 2 → IVec S16 32) a x).toNat < S16x16.size a := fun i k0_t1 v41 v120 k0_hw17 k0_h1 => k0_hw17.2.2.2.2.2.2.2.2.2.2.2.2.2.2.2.2.2.2.2.2.2.2.2.2.2.2.2.1 k0_h1
theorem k0_idx92_inb : ∀ (i : grid0.Coords) (k0_t1 : Fin k0_t1_loop.trips) (v41 : IVec S16 32) (v120 : IVec S16 32) (k0_hw17 : k0_chk17 i k0_t1 v41 v120), ∀ (k0_h1 : k0_cond1 i k0_t1 = 1#1), ∀ a x, ((![v120, v41] : Fin 2 → IVec S16 32) a x).toNat < S16x16.size a := fun i k0_t1 v41 v120 k0_hw17 k0_h1 => k0_hw17.2.2.2.2.2.2.2.2.2.2.2.2.2.2.2.2.2.2.2.2.2.2.2.2.2.2.2.2.1 k0_h1
theorem k0_idx93_inb : ∀ (i : grid0.Coords) (k0_t1 : Fin k0_t1_loop.trips) (v41 : IVec S16 32) (v120 : IVec S16 32) (k0_hw17 : k0_chk17 i k0_t1 v41 v120), ∀ (k0_h1 : k0_cond1 i k0_t1 = 1#1), ∀ a x, ((![v120, v41] : Fin 2 → IVec S16 32) a x).toNat < S16x16.size a := fun i k0_t1 v41 v120 k0_hw17 k0_h1 => k0_hw17.2.2.2.2.2.2.2.2.2.2.2.2.2.2.2.2.2.2.2.2.2.2.2.2.2.2.2.2.2.1 k0_h1
theorem k0_idx94_inb : ∀ (i : grid0.Coords) (k0_t1 : Fin k0_t1_loop.trips) (v41 : IVec S16 32) (v120 : IVec S16 32) (k0_hw17 : k0_chk17 i k0_t1 v41 v120), ∀ (k0_h1 : k0_cond1 i k0_t1 = 1#1), ∀ a x, ((![v120, v41] : Fin 2 → IVec S16 32) a x).toNat < S16x16.size a := fun i k0_t1 v41 v120 k0_hw17 k0_h1 => k0_hw17.2.2.2.2.2.2.2.2.2.2.2.2.2.2.2.2.2.2.2.2.2.2.2.2.2.2.2.2.2.2.1 k0_h1
theorem k0_idx95_inb : ∀ (i : grid0.Coords) (k0_t1 : Fin k0_t1_loop.trips) (v41 : IVec S16 32) (v120 : IVec S16 32) (k0_hw17 : k0_chk17 i k0_t1 v41 v120), ∀ (k0_h1 : k0_cond1 i k0_t1 = 1#1), ∀ a x, ((![v120, v41] : Fin 2 → IVec S16 32) a x).toNat < S16x16.size a := fun i k0_t1 v41 v120 k0_hw17 k0_h1 => k0_hw17.2.2.2.2.2.2.2.2.2.2.2.2.2.2.2.2.2.2.2.2.2.2.2.2.2.2.2.2.2.2.2 k0_h1
@[reducible] def k0_t14_loop : Scf.Loop 32 :=
  let c0_i32_37 : BitVec 32 := 0#32
  let c16_i32_38 : BitVec 32 := 16#32
  let v68 : BitVec 32 := Scalar.addi c0_i32_37 c16_i32_38
  let c1_i32_39 : BitVec 32 := 1#32
  ⟨c0_i32_37, v68, c1_i32_39⟩

def k0_chk18 (i : grid0.Coords) (k0_t1 : Fin k0_t1_loop.trips) (v77 : IVec S16 32) : Prop :=
  (∀ (k0_h1 : k0_cond1 i k0_t1 = 1#1), ∀ a x, ((![v77] : Fin 1 → IVec S16 32) a x).toNat < S2056.size a)
theorem k0_idx96_inb : ∀ (i : grid0.Coords) (k0_t1 : Fin k0_t1_loop.trips) (v77 : IVec S16 32) (k0_hw18 : k0_chk18 i k0_t1 v77), ∀ (k0_h1 : k0_cond1 i k0_t1 = 1#1), ∀ a x, ((![v77] : Fin 1 → IVec S16 32) a x).toNat < S2056.size a := fun i k0_t1 v77 k0_hw18 k0_h1 => k0_hw18 k0_h1
def k0_off8 (k0_t14 : Fin k0_t14_loop.trips) : Fin 2 → Nat :=
  let c0_i32_37 : BitVec 32 := 0#32
  let c1_i32_39 : BitVec 32 := 1#32
  let arg32 : BitVec 32 := Scf.iv c0_i32_37 c1_i32_39 k0_t14
  let v93 : Index := Scalar.indexCast arg32
  let c0 : Index := 0#32
  ![v93.toNat, 0]
def k0_off9 (k0_t14 : Fin k0_t14_loop.trips) : Fin 2 → Nat :=
  let c0_i32_37 : BitVec 32 := 0#32
  let c1_i32_39 : BitVec 32 := 1#32
  let arg32 : BitVec 32 := Scf.iv c0_i32_37 c1_i32_39 k0_t14
  let v102 : Index := Scalar.indexCast arg32
  let c0_48 : Index := 0#32
  ![v102.toNat, 0]
def k0_off10 (k0_t14 : Fin k0_t14_loop.trips) : Fin 2 → Nat :=
  let c0_i32_37 : BitVec 32 := 0#32
  let c1_i32_39 : BitVec 32 := 1#32
  let arg32 : BitVec 32 := Scf.iv c0_i32_37 c1_i32_39 k0_t14
  let v113 : Index := Scalar.indexCast arg32
  let c16 : Index := 16#32
  ![v113.toNat, 16]
def k0_off11 (k0_t14 : Fin k0_t14_loop.trips) : Fin 2 → Nat :=
  let c0_i32_37 : BitVec 32 := 0#32
  let c1_i32_39 : BitVec 32 := 1#32
  let arg32 : BitVec 32 := Scf.iv c0_i32_37 c1_i32_39 k0_t14
  let v124 : Index := Scalar.indexCast arg32
  let c32 : Index := 32#32
  ![v124.toNat, 32]
def k0_off12 (k0_t14 : Fin k0_t14_loop.trips) : Fin 2 → Nat :=
  let c0_i32_37 : BitVec 32 := 0#32
  let c1_i32_39 : BitVec 32 := 1#32
  let arg32 : BitVec 32 := Scf.iv c0_i32_37 c1_i32_39 k0_t14
  let v135 : Index := Scalar.indexCast arg32
  let c48 : Index := 48#32
  ![v135.toNat, 48]
def k0_off13 (k0_t14 : Fin k0_t14_loop.trips) : Fin 2 → Nat :=
  let c0_i32_37 : BitVec 32 := 0#32
  let c1_i32_39 : BitVec 32 := 1#32
  let arg32 : BitVec 32 := Scf.iv c0_i32_37 c1_i32_39 k0_t14
  let v146 : Index := Scalar.indexCast arg32
  let c64 : Index := 64#32
  ![v146.toNat, 64]
def k0_off14 (k0_t14 : Fin k0_t14_loop.trips) : Fin 2 → Nat :=
  let c0_i32_37 : BitVec 32 := 0#32
  let c1_i32_39 : BitVec 32 := 1#32
  let arg32 : BitVec 32 := Scf.iv c0_i32_37 c1_i32_39 k0_t14
  let v157 : Index := Scalar.indexCast arg32
  let c80 : Index := 80#32
  ![v157.toNat, 80]
def k0_off15 (k0_t14 : Fin k0_t14_loop.trips) : Fin 2 → Nat :=
  let c0_i32_37 : BitVec 32 := 0#32
  let c1_i32_39 : BitVec 32 := 1#32
  let arg32 : BitVec 32 := Scf.iv c0_i32_37 c1_i32_39 k0_t14
  let v168 : Index := Scalar.indexCast arg32
  let c96 : Index := 96#32
  ![v168.toNat, 96]
def k0_off16 (k0_t14 : Fin k0_t14_loop.trips) : Fin 2 → Nat :=
  let c0_i32_37 : BitVec 32 := 0#32
  let c1_i32_39 : BitVec 32 := 1#32
  let arg32 : BitVec 32 := Scf.iv c0_i32_37 c1_i32_39 k0_t14
  let v179 : Index := Scalar.indexCast arg32
  let c112 : Index := 112#32
  ![v179.toNat, 112]
def k0_off17 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_16 : BitVec 32 := 32#32
  let c0_i32_14 : BitVec 32 := 0#32
  let c1_i32 : BitVec 32 := 1#32
  let arg31 : BitVec 32 := Scf.iv c0_i32_14 c1_i32 k0_t1
  let v36 : BitVec 32 := Scalar.muli c32_i32_16 arg31
  let v37 : BitVec 32 := Scalar.addi v1 v36
  let c0_i32_41_r2 : BitVec 32 := 0#32
  let c0_i32_42_r2 : BitVec 32 := 0#32
  ![v37.toNat, 0, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4x128x30x2048 : Shape := ⟨4, ![4, 128, 30, 2048]⟩
abbrev S4x30x2048 : Shape := ⟨3, ![4, 30, 2048]⟩
abbrev S16 : Shape := ⟨1, ![16]⟩
abbrev S4x1x30x1x2048 : Shape := ⟨5, ![4, 1, 30, 1, 2048]⟩
abbrev S1x1x1x16x1 : Shape := ⟨5, ![1, 1, 1, 16, 1]⟩
abbrev S4x1x30x16x2048 : Shape := ⟨5, ![4, 1, 30, 16, 2048]⟩
abbrev S4x1x30x2048 : Shape := ⟨4, ![4, 1, 30, 2048]⟩
abbrev S4x128x30x1x2048 : Shape := ⟨5, ![4, 128, 30, 1, 2048]⟩
abbrev S_ : Shape := ⟨0, ![]⟩
abbrev S4x128x30x16x2048 : Shape := ⟨5, ![4, 128, 30, 16, 2048]⟩
abbrev S4x128x30x16 : Shape := ⟨4, ![4, 128, 30, 16]⟩
abbrev S4x1x30x16 : Shape := ⟨4, ![4, 1, 30, 16]⟩

abbrev nBuf : Space → Nat
  | .hbm => 63
  | .vmem => 0
  | .smem => 0
  | _ => 0

abbrev bufTy : (tb : Table) → Fin (tcTables nBuf tb) → BufTy
  | .hbm, ⟨0, _⟩ => ⟨S4x128x30x2048, .f32⟩
  | .hbm, ⟨1, _⟩ => ⟨S4x30x2048, .i32⟩
  | .hbm, ⟨2, _⟩ => ⟨S4x30x2048, .i1⟩
  | .hbm, ⟨3, _⟩ => ⟨S4x30x2048, .f32⟩
  | .hbm, ⟨4, _⟩ => ⟨S16, .i32⟩
  | .hbm, ⟨5, _⟩ => ⟨S4x1x30x1x2048, .i32⟩
  | .hbm, ⟨6, _⟩ => ⟨S1x1x1x16x1, .i32⟩
  | .hbm, ⟨7, _⟩ => ⟨S4x1x30x16x2048, .i32⟩
  | .hbm, ⟨8, _⟩ => ⟨S4x1x30x16x2048, .i32⟩
  | .hbm, ⟨9, _⟩ => ⟨S4x1x30x16x2048, .i1⟩
  | .hbm, ⟨10, _⟩ => ⟨S4x1x30x2048, .f32⟩
  | .hbm, ⟨11, _⟩ => ⟨S4x128x30x2048, .f32⟩
  | .hbm, ⟨12, _⟩ => ⟨S4x128x30x2048, .f32⟩
  | .hbm, ⟨13, _⟩ => ⟨S4x128x30x1x2048, .f32⟩
  | .hbm, ⟨14, _⟩ => ⟨S_, .f32⟩
  | .hbm, ⟨15, _⟩ => ⟨S_, .f32⟩
  | .hbm, ⟨16, _⟩ => ⟨S4x128x30x16x2048, .i1⟩
  | .hbm, ⟨17, _⟩ => ⟨S4x128x30x16x2048, .f32⟩
  | .hbm, ⟨18, _⟩ => ⟨S4x128x30x16x2048, .f32⟩
  | .hbm, ⟨19, _⟩ => ⟨S4x128x30x16x2048, .f32⟩
  | .hbm, ⟨20, _⟩ => ⟨S_, .f32⟩
  | .hbm, ⟨21, _⟩ => ⟨S4x128x30x16, .f32⟩
  | .hbm, ⟨22, _⟩ => ⟨S4x1x30x1x2048, .f32⟩
  | .hbm, ⟨23, _⟩ => ⟨S_, .f32⟩
  | .hbm, ⟨24, _⟩ => ⟨S_, .f32⟩
  | .hbm, ⟨25, _⟩ => ⟨S4x1x30x16x2048, .f32⟩
  | .hbm, ⟨26, _⟩ => ⟨S4x1x30x16x2048, .f32⟩
  | .hbm, ⟨27, _⟩ => ⟨S4x1x30x16x2048, .f32⟩
  | .hbm, ⟨28, _⟩ => ⟨S_, .f32⟩
  | .hbm, ⟨29, _⟩ => ⟨S4x1x30x16, .f32⟩
  | .hbm, ⟨30, _⟩ => ⟨S_, .f32⟩
  | .hbm, ⟨31, _⟩ => ⟨S_, .f32⟩
  | .hbm, ⟨32, _⟩ => ⟨S4x1x30x16x2048, .f32⟩
  | .hbm, ⟨33, _⟩ => ⟨S4x1x30x16x2048, .f32⟩
  | .hbm, ⟨34, _⟩ => ⟨S4x1x30x16x2048, .f32⟩
  | .hbm, ⟨35, _⟩ => ⟨S4x1x30x16x2048, .f32⟩
  | .hbm, ⟨36, _⟩ => ⟨S_, .f32⟩
  | .hbm, ⟨37, _⟩ => ⟨S4x1x30x16, .f32⟩
  | .hbm, ⟨38, _⟩ => ⟨S4x128x30x1x2048, .f32⟩
  | .hbm, ⟨39, _⟩ => ⟨S_, .f32⟩
  | .hbm, ⟨40, _⟩ => ⟨S_, .f32⟩
  | .hbm, ⟨41, _⟩ => ⟨S4x128x30x16x2048, .i1⟩
  | .hbm, ⟨42, _⟩ => ⟨S4x128x30x16x2048, .f32⟩
  | .hbm, ⟨43, _⟩ => ⟨S4x128x30x16x2048, .f32⟩
  | .hbm, ⟨44, _⟩ => ⟨S4x128x30x16x2048, .f32⟩
  | .hbm, ⟨45, _⟩ => ⟨S_, .f32⟩
  | .hbm, ⟨46, _⟩ => ⟨S4x128x30x16, .f32⟩
  | .hbm, ⟨47, _⟩ => ⟨S_, .f32⟩
  | .hbm, ⟨48, _⟩ => ⟨S4x128x30x16, .f32⟩
  | .hbm, ⟨49, _⟩ => ⟨S4x128x30x16, .f32⟩
  | .hbm, ⟨50, _⟩ => ⟨S_, .f32⟩
  | .hbm, ⟨51, _⟩ => ⟨S4x1x30x16, .f32⟩
  | .hbm, ⟨52, _⟩ => ⟨S4x1x30x16, .f32⟩
  | .hbm, ⟨53, _⟩ => ⟨S4x128x30x16, .f32⟩
  | .hbm, ⟨54, _⟩ => ⟨S4x128x30x16, .f32⟩
  | .hbm, ⟨55, _⟩ => ⟨S_, .f32⟩
  | .hbm, ⟨56, _⟩ => ⟨S4x1x30x16, .f32⟩
  | .hbm, ⟨57, _⟩ => ⟨S4x1x30x16, .i1⟩
  | .hbm, ⟨58, _⟩ => ⟨S_, .f32⟩
  | .hbm, ⟨59, _⟩ => ⟨S4x128x30x16, .f32⟩
  | .hbm, ⟨60, _⟩ => ⟨S4x128x30x16, .i1⟩
  | .hbm, ⟨61, _⟩ => ⟨S4x128x30x16, .f32⟩
  | .hbm, ⟨62, _⟩ => ⟨S4x128x30x16, .f32⟩
  | _, _ => ⟨S4x128x30x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_cst_3 : Ref sig .tc := ⟨.hbm, 30, rfl⟩
abbrev main_cst_4 : Ref sig .tc := ⟨.hbm, 31, rfl⟩
abbrev main_call2_v0 : Ref sig .tc := ⟨.hbm, 32, rfl⟩
abbrev main_call2_v1 : Ref sig .tc := ⟨.hbm, 33, rfl⟩
abbrev main_v16 : Ref sig .tc := ⟨.hbm, 34, rfl⟩
abbrev main_v17 : Ref sig .tc := ⟨.hbm, 35, rfl⟩
abbrev main_cst_5 : Ref sig .tc := ⟨.hbm, 36, rfl⟩
abbrev main_v18 : Ref sig .tc := ⟨.hbm, 37, rfl⟩
abbrev main_v19 : Ref sig .tc := ⟨.hbm, 38, rfl⟩
abbrev main_cst_6 : Ref sig .tc := ⟨.hbm, 39, rfl⟩
abbrev main_call3_v0 : Ref sig .tc := ⟨.hbm, 40, rfl⟩
abbrev main_call3_v1 : Ref sig .tc := ⟨.hbm, 41, rfl⟩
abbrev main_call3_v2 : Ref sig .tc := ⟨.hbm, 42, rfl⟩
abbrev main_call3_v3 : Ref sig .tc := ⟨.hbm, 43, rfl⟩
abbrev main_v20 : Ref sig .tc := ⟨.hbm, 44, rfl⟩
abbrev main_cst_7 : Ref sig .tc := ⟨.hbm, 45, rfl⟩
abbrev main_v21 : Ref sig .tc := ⟨.hbm, 46, rfl⟩
abbrev main_cst_8 : Ref sig .tc := ⟨.hbm, 47, rfl⟩
abbrev main_v22 : Ref sig .tc := ⟨.hbm, 48, rfl⟩
abbrev main_v23 : Ref sig .tc := ⟨.hbm, 49, rfl⟩
abbrev main_cst_9 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_cst_10 : Ref sig .tc := ⟨.hbm, 55, rfl⟩
abbrev main_v28 : Ref sig .tc := ⟨.hbm, 56, rfl⟩
abbrev main_v29 : Ref sig .tc := ⟨.hbm, 57, rfl⟩
abbrev main_cst_11 : Ref sig .tc := ⟨.hbm, 58, rfl⟩
abbrev main_v30 : Ref sig .tc := ⟨.hbm, 59, rfl⟩
abbrev main_call4_v0 : Ref sig .tc := ⟨.hbm, 60, rfl⟩
abbrev main_v31 : Ref sig .tc := ⟨.hbm, 61, rfl⟩
abbrev main_v32 : Ref sig .tc := ⟨.hbm, 62, rfl⟩

abbrev nD : Nat := 1
abbrev τ : Topo := Topo.v7x

variable {F : FTy → Type} [FloatOps F]
-- ==== Proof.Lanes.lean ====
/-
  The kernel's vectors of sixteen words, lane by lane: what each of its word payloads holds at a lane, and what
  a prefix sum, a prefix maximum and an indexed store leave.
-/
module

public import proofs.«01_k».proof.Proof.Gen.KernelIdeal.Skeleton
public import Idealize.ShloMosaic.Lib.WordCmp
public import Mathlib.Data.BitVec

@[expose] public section

noncomputable section

namespace Cert.Proof.Lanes

open Cert.KernelIdeal Cert.KernelIdeal.Gen
open Idealize.ShloMosaic Idealize.ShloMosaic.WordCmp

variable {F : FTy → Type} [FloatOps F]

/-! ## Lanes -/

/-- Lane `k` of a vector of sixteen. -/
abbrev ln (k : Fin 16) : S16.Idx := Shape.ofLane (d := ![16]) k

theorem ln_surj (i : S16.Idx) : ∃ k, i = ln k := by
  refine ⟨i 0, ?_⟩
  funext a; obtain rfl := Fin.eq_zero a; rfl

theorem ln_inj {a b : Fin 16} (h : ln a = ln b) : a = b := by
  exact congrFun h 0

theorem ext_ln {α : Type} {f g : S16.Idx → α} (h : ∀ k, f (ln k) = g (ln k)) : f = g := by
  funext i; obtain ⟨k, rfl⟩ := ln_surj i; exact h k

theorem iota_ln (k : Fin 16) : iota .scVector S16 32 [0] iota_S16_d0_w32_scVector (ln k) = BitVec.ofNat 32 k.val := by
  rw [iota_at]; simp [ln, Shape.ofLane]

theorem extractAt15 {α : Type} (x : S16.Idx → α) : extractAt ![15] x inpos_S16_p15 = x (ln 15) := by
  unfold extractAt; congr 1; funext a; obtain rfl := Fin.eq_zero a; rfl

theorem sum_map_filter {α : Type} (l : List α) (p : α → Bool) (f : α → BitVec 32) :
    ((l.filter p).map f).sum = (l.map fun a => if p a then f a else 0).sum := by
  induction l with
  | nil => rfl
  | cons a l ih => by_cases h : p a <;> simp [h, ih]

theorem foldl_addi {α : Type} (l : List α) (f : α → BitVec 32) (z : BitVec 32) :
    l.foldl (fun r k => IntOp.addi r (f k)) z = z + (l.map f).sum := by
  induction l generalizing z with
  | nil => simp
  | cons a l ih => simp only [List.foldl_cons, ih, List.map_cons, List.sum_cons]; simp [IntOp.addi, BitVec.add_assoc]

/-- A prefix sum at a lane: the lanes up to it, added. -/
theorem scan_sum_ln (v : IVec S16 32) (j : Fin 16) : scan .sum v (ln j) = ∑ k : Fin 16, if k ≤ j then v (ln k) else 0 := by
  have h0 : scan .sum v (ln j) = v (ln 0) + ((List.finRange 16).map fun k : Fin 16 => if 0 < k.val ∧ k.val ≤ j.val then v (ln k) else 0).sum := by
    show List.foldl (fun r (k : Fin 16) => IntOp.addi r (v (ln k))) (v (ln 0)) ((List.finRange 16).filter fun k => decide (0 < k.val ∧ k.val ≤ j.val)) = _
    rw [foldl_addi, sum_map_filter]; simp
  rw [h0, ← Fin.sum_univ_def]
  have h1 : v (ln 0) = ∑ k : Fin 16, if k = 0 then v (ln k) else 0 := by rw [Finset.sum_ite_eq']; simp
  rw [h1, ← Finset.sum_add_distrib]
  refine Finset.sum_congr rfl fun k _ => ?_
  by_cases hk : k = 0
  · subst hk; simp
  · have : 0 < k.val := Nat.pos_of_ne_zero fun h => hk (Fin.ext h)
    have e : k ≤ j ↔ k.val ≤ j.val := Iff.rfl
    simp only [hk, this, e, if_false, true_and, zero_add]

/-- The one lane kept by `select (iota = a)`, summed to the last lane: that lane's word. -/
theorem pick_ln (v : IVec S16 32) (a : BitVec 32) (k : Fin 16) (ha : a = BitVec.ofNat 32 k.val) :
    scan .sum (select (cmpi .eq (iota .scVector S16 32 [0] iota_S16_d0_w32_scVector) (broadcast S16 a)) v (broadcast S16 0#32)) (ln 15)
      = v (ln k) := by
  rw [scan_sum_ln]
  have hc : ∀ i : Fin 16, (select (cmpi .eq (iota .scVector S16 32 [0] iota_S16_d0_w32_scVector) (broadcast S16 a)) v (broadcast S16 0#32)) (ln i)
      = if i = k then v (ln i) else 0 := by
    intro i
    rw [select_at, cmpi_at, iota_ln, broadcast_at, broadcast_at, ha, cmpi_eq_eq, select_decide]
    have : (BitVec.ofNat 32 i.val = BitVec.ofNat 32 k.val) ↔ i = k := by
      constructor
      · intro h
        have := congrArg BitVec.toNat h
        simp only [BitVec.toNat_ofNat] at this
        apply Fin.ext; have := i.isLt; have := k.isLt; omega
      · rintro rfl; rfl
    simp only [this]; rfl
  have hle : ∀ i : Fin 16, i ≤ (15 : Fin 16) := fun i => Fin.le_last i
  simp only [hle, if_true, hc]
  rw [Finset.sum_ite_eq']; simp

attribute [local irreducible] scan iota

/-! ## The word payloads at a lane -/

theorem iv_val (n : ℕ) (h : n < 2 ^ 32) : (Scf.iv 0#32 1#32 n) = BitVec.ofNat 32 n := by
  simp [Scf.iv]

theorem pay90_ln (v : IVec S16 32) (k : Fin 16) : k0_pay90 (F := F) v (ln k) = (v (ln k) + 15#32) &&& 4294967280#32 := rfl

theorem pay91_ln (v : IVec S16 32) (k : Fin 16) : k0_pay91 (F := F) v (ln k) = ∑ i : Fin 16, if i ≤ k then (v (ln i) + 15#32) &&& 4294967280#32 else 0 := by
  show scan .sum (k0_pay90 (F := F) v) (ln k) = _
  rw [scan_sum_ln]; rfl

theorem pay92_ln (v : IVec S16 32) (k : Fin 16) : k0_pay92 (F := F) v (ln k) = k0_pay91 (F := F) v (ln k) - k0_pay90 (F := F) v (ln k) := rfl

theorem total_eq (v : IVec S16 32) : extractAt ![15] (k0_pay128 (k0_pay93 (F := F) (iota .scVector S16 32 [0] iota_S16_d0_w32_scVector) v)) inpos_S16_p15
    = k0_pay91 (F := F) v (ln 15) := by
  rw [extractAt15]
  exact pick_ln (k0_pay91 (F := F) v) 15#32 15 rfl

theorem pay131_ln (v : IVec S16 32) (p : Fin k0_t5_loop.trips) (k : Fin 16) (q : Fin 16) (hq : p.val = q.val) :
    k0_pay131 (F := F) v p (ln k) = v (ln q) := by
  show extractAt ![15] (scan .sum _) _ = _
  rw [extractAt15]
  exact pick_ln v _ q (by rw [iv_val _ (by omega), hq])

theorem pay132_ln (v s : IVec S16 32) (p : Fin k0_t5_loop.trips) (k : Fin 16) (q : Fin 16) (hq : p.val = q.val) :
    k0_pay132 (F := F) v s p (ln k) = s (ln q) + v (ln q) + BitVec.ofNat 32 k.val := by
  have h1 : k0_pay132 (F := F) v s p (ln k) = extractAt ![15] (scan .sum (select (cmpi .eq (iota .scVector S16 32 [0] iota_S16_d0_w32_scVector) (broadcast S16 (Scf.iv 0#32 1#32 p))) s (broadcast S16 0#32))) inpos_S16_p15
      + k0_pay131 (F := F) v p (ln k) + iota .scVector S16 32 [0] iota_S16_d0_w32_scVector (ln k) := rfl
  rw [h1, pay131_ln v p k q hq, iota_ln, extractAt15, pick_ln s _ q (by rw [iv_val _ (by omega), hq])]

theorem pay133_ln (v c : IVec S16 32) (p : Fin k0_t5_loop.trips) (k : Fin 16) (q : Fin 16) (hq : p.val = q.val) :
    k0_pay133 (F := F) v c p (ln k) = IntOp.cmpi .slt (v (ln q) + BitVec.ofNat 32 k.val) (c (ln q)) := by
  have h1 : k0_pay133 (F := F) v c p (ln k) = IntOp.cmpi .slt (k0_pay131 (F := F) v p (ln k) + iota .scVector S16 32 [0] iota_S16_d0_w32_scVector (ln k))
     (extractAt ![15] (scan .sum (select (cmpi .eq (iota .scVector S16 32 [0] iota_S16_d0_w32_scVector) (broadcast S16 (Scf.iv 0#32 1#32 p))) c (broadcast S16 0#32))) inpos_S16_p15) := rfl
  rw [h1, pay131_ln v p k q hq, iota_ln, extractAt15, pick_ln c _ q (by rw [iv_val _ (by omega), hq])]

theorem pay135_ln (p : Fin k0_t5_loop.trips) (k : Fin 16) : k0_pay135 p (ln k) = BitVec.ofNat 32 p.val := by
  show Scf.iv 0#32 1#32 p.val = _
  rw [iv_val _ (by have : p.val < 16 := p.isLt
                   omega)]

theorem ofNat_inj16 (a b : Fin 16) : (BitVec.ofNat 32 a.val = BitVec.ofNat 32 b.val) ↔ a = b := by
  constructor
  · intro h
    have := congrArg BitVec.toNat h
    simp only [BitVec.toNat_ofNat] at this
    apply Fin.ext; have := a.isLt; have := b.isLt; omega
  · rintro rfl; rfl

theorem toInt_small {x : BitVec 32} (h : x.toNat < 2 ^ 31) : x.toInt = (x.toNat : ℤ) := toInt_eq_toNat_of_lt_half h

/-- One step of a lane's rank: one more when lane `j`'s key comes before it. -/
theorem pay137_ln (v : IVec S16 32) (hv : ∀ i, (v (ln i)).toNat < 16) (p : Fin k0_t7_loop.trips) (acc : IVec S16 32) (k : Fin 16) (q : Fin 16) (hq : p.val = q.val) :
    k0_pay137 (F := F) v p acc (ln k) = acc (ln k) + if (v (ln q)).toNat < (v (ln k)).toNat ∨ ((v (ln q)).toNat = (v (ln k)).toNat ∧ q < k) then 1 else 0 := by
  have h1 : k0_pay137 (F := F) v p acc (ln k) = acc (ln k) + Scalar.select (IntOp.ori
       (IntOp.cmpi .slt (extractAt ![15] (scan .sum (select (cmpi .eq (iota .scVector S16 32 [0] iota_S16_d0_w32_scVector) (broadcast S16 (Scf.iv 0#32 1#32 p))) v (broadcast S16 0#32))) inpos_S16_p15) (v (ln k)))
       (IntOp.andi (IntOp.cmpi .eq (extractAt ![15] (scan .sum (select (cmpi .eq (iota .scVector S16 32 [0] iota_S16_d0_w32_scVector) (broadcast S16 (Scf.iv 0#32 1#32 p))) v (broadcast S16 0#32))) inpos_S16_p15) (v (ln k)))
         (IntOp.cmpi .sgt (iota .scVector S16 32 [0] iota_S16_d0_w32_scVector (ln k)) (Scf.iv 0#32 1#32 p)))) 1#32 0#32 := rfl
  rw [h1, extractAt15, pick_ln v _ q (by rw [iv_val _ (by omega), hq]), iota_ln, iv_val _ (by omega), hq]
  congr 1
  rw [cmpi_slt_eq, cmpi_eq_eq, cmpi_sgt_eq, toInt_small (by have := hv q; omega), toInt_small (by have := hv k; omega),
    toInt_small (by simp; omega), toInt_small (by simp; omega)]
  have e1 : ((v (ln q)) = (v (ln k))) ↔ (v (ln q)).toNat = (v (ln k)).toNat := BitVec.toNat_inj.symm
  have e2 : ((BitVec.ofNat 32 q.val).toNat : ℤ) < (BitVec.ofNat 32 k.val).toNat ↔ q < k := by
    simp only [BitVec.toNat_ofNat, Fin.lt_def]; omega
  show Scalar.select (BitVec.ofBool _ ||| (BitVec.ofBool _ &&& BitVec.ofBool _)) _ _ = _
  rw [BitVec.ofBool_and_ofBool, BitVec.ofBool_or_ofBool, select_ofBool]
  simp only [e1, e2, Bool.or_eq_true, Bool.and_eq_true, decide_eq_true_eq, Nat.cast_lt]
  rfl

theorem pay140_ln (r : IVec S16 32) (p : Fin k0_t8_loop.trips) (k : Fin 16) (q : Fin 16) (hq : p.val = q.val) :
    k0_pay140 r p (ln k) = BitVec.ofBool (decide (BitVec.ofNat 32 k.val = r (ln q))) := by
  have h1 : k0_pay140 r p (ln k) = IntOp.cmpi .eq (iota .scVector S16 32 [0] iota_S16_d0_w32_scVector (ln k)) (extractAt ![15] (scan .sum (select (cmpi .eq (iota .scVector S16 32 [0] iota_S16_d0_w32_scVector) (broadcast S16 (Scf.iv 0#32 1#32 p))) r (broadcast S16 0#32))) inpos_S16_p15) := rfl
  rw [h1, extractAt15, pick_ln r _ q (by rw [iv_val _ (by omega), hq]), iota_ln, cmpi_eq_eq]

theorem pay141_ln (v r : IVec S16 32) (p : Fin k0_t8_loop.trips) (acc : IVec S16 32) (k : Fin 16) (q : Fin 16) (hq : p.val = q.val) :
    k0_pay141 (F := F) v r p acc (ln k) = if BitVec.ofNat 32 k.val = r (ln q) then v (ln q) else acc (ln k) := by
  have h1 : k0_pay141 (F := F) v r p acc (ln k) = Scalar.select (k0_pay140 r p (ln k)) (extractAt ![15] (scan .sum (select (cmpi .eq (iota .scVector S16 32 [0] iota_S16_d0_w32_scVector) (broadcast S16 (Scf.iv 0#32 1#32 p))) v (broadcast S16 0#32))) inpos_S16_p15) (acc (ln k)) := rfl
  rw [h1, pay140_ln r p k q hq, extractAt15, pick_ln v _ q (by rw [iv_val _ (by omega), hq]), select_decide]

theorem pay142_ln (t : Fin k0_t6_loop.trips) (r : IVec S16 32) (p : Fin k0_t8_loop.trips) (acc : IVec S16 32) (k : Fin 16) (q : Fin 16) (hq : p.val = q.val) :
    k0_pay142 t r p acc (ln k) = if BitVec.ofNat 32 k.val = r (ln q) then BitVec.ofNat 32 (q.val + 16 * t.val) else acc (ln k) := by
  have ht : t.val < 32 := t.isLt
  have h1 : k0_pay142 t r p acc (ln k) = Scalar.select (k0_pay140 r p (ln k)) (extractAt ![15] (scan .sum (select (cmpi .eq (iota .scVector S16 32 [0] iota_S16_d0_w32_scVector) (broadcast S16 (Scf.iv 0#32 1#32 p)))
     (addi (iota .scVector S16 32 [0] iota_S16_d0_w32_scVector) (broadcast S16 (Scalar.muli (Scf.iv 0#32 1#32 t) 16#32))) (broadcast S16 0#32))) inpos_S16_p15) (acc (ln k)) := rfl
  rw [h1, pay140_ln r p k q hq, extractAt15, pick_ln _ _ q (by rw [iv_val _ (by omega), hq]), select_decide]
  have h2 : (addi (iota .scVector S16 32 [0] iota_S16_d0_w32_scVector) (broadcast S16 (Scalar.muli (Scf.iv 0#32 1#32 t) 16#32))) (ln q) = BitVec.ofNat 32 (q.val + 16 * t.val) := by
    show iota .scVector S16 32 [0] iota_S16_d0_w32_scVector (ln q) + (Scf.iv 0#32 1#32 t * 16#32) = _
    rw [iota_ln, iv_val _ (by omega)]
    apply BitVec.eq_of_toNat_eq
    simp; omega
  rw [h2]

theorem pay143_ln (v : IVec S16 32) (p : Fin k0_t9_loop.trips) (acc : IVec S16 32) (k : Fin 16) (q : Fin 16) (hq : p.val = q.val) :
    k0_pay143 v p acc (ln k) = if k.val = q.val + 1 then v (ln q) else acc (ln k) := by
  have hp : p.val < 15 := p.isLt
  have h1 : k0_pay143 v p acc (ln k) = Scalar.select (IntOp.cmpi .eq (iota .scVector S16 32 [0] iota_S16_d0_w32_scVector (ln k)) (Scf.iv 0#32 1#32 p + 1#32)) (extractAt ![15] (scan .sum (select (cmpi .eq (iota .scVector S16 32 [0] iota_S16_d0_w32_scVector) (broadcast S16 (Scf.iv 0#32 1#32 p))) v (broadcast S16 0#32))) inpos_S16_p15) (acc (ln k)) := rfl
  rw [h1, extractAt15, pick_ln v _ q (by rw [iv_val _ (by omega), hq]), iota_ln, iv_val _ (by omega), cmpi_eq_eq, select_decide, hq]
  have : (BitVec.ofNat 32 k.val = BitVec.ofNat 32 q.val + 1#32) ↔ k.val = q.val + 1 := by
    rw [← BitVec.toNat_inj]; simp; omega
  simp only [this]

theorem pay32_ln (v : IVec S16 32) (p : Fin k0_t11_loop.trips) (k : Fin 16) (q : Fin 16) (hq : p.val = q.val) :
    k0_pay32 (F := F) v p (ln k) = v (ln q) := by
  have h1 : k0_pay32 (F := F) v p (ln k) = extractAt ![15] (scan .sum (select (cmpi .eq (iota .scVector S16 32 [0] iota_S16_d0_w32_scVector) (broadcast S16 (Scf.iv 0#32 1#32 p))) v (broadcast S16 0#32))) inpos_S16_p15 := rfl
  rw [h1, extractAt15, pick_ln v _ q (by rw [iv_val _ (by omega), hq])]

theorem pay15_ln (v : IVec S16 32) (k : Fin 16) : k0_pay15 (F := F) v (ln k) = v (ln 0) := by
  show v _ = v _
  congr 1; funext a; obtain rfl := Fin.eq_zero a; rfl

theorem pay94_ln (v : IVec S16 32) (p : Fin k0_t14_loop.trips) (k : Fin 16) (q : Fin 16) (hq : p.val = q.val) :
    k0_pay94 v 0#32 1#32 p (ln k) = v (ln q) := by
  have h1 : k0_pay94 v 0#32 1#32 p (ln k) = extractAt ![15] (scan .sum (select (cmpi .eq (iota .scVector S16 32 [0] iota_S16_d0_w32_scVector) (broadcast S16 (Scf.iv 0#32 1#32 p))) v (broadcast S16 0#32))) inpos_S16_p15 := rfl
  rw [h1, extractAt15, pick_ln v _ q (by rw [iv_val _ (by omega), hq])]

theorem pay95_ln (v : IVec S16 32) (p : Fin k0_t14_loop.trips) (k : Fin 16) (q : Fin 16) (hq : p.val = q.val) :
    k0_pay95 (F := F) v 0#32 1#32 p (ln k) = FloatOps.mulf (Scalar.ofBits .f32 0x42C80000#32) (FloatOps.sitofp .f32 (v (ln q))) := by
  have h1 : k0_pay95 (F := F) v 0#32 1#32 p (ln k) = FloatOps.mulf (Scalar.ofBits .f32 0x42C80000#32) (FloatOps.sitofp .f32 (extractAt ![15] (scan .sum (select (cmpi .eq (iota .scVector S16 32 [0] iota_S16_d0_w32_scVector) (broadcast S16 (Scf.iv 0#32 1#32 p))) v (broadcast S16 0#32))) inpos_S16_p15)) := rfl
  rw [h1, extractAt15, pick_ln v _ q (by rw [iv_val _ (by omega), hq])]

/-! ## Indexed stores -/

section Store
variable {s : Shape} {e : EltTy} {d : Fin 1 → Nat}

/-- The step of an indexed store at lane `k`. -/
def stStep (idxs : Fin s.rank → IVec ⟨1, d⟩ 32) (v : Vec F ⟨1, d⟩ e) (mask : IVec ⟨1, d⟩ 1)
    (add : Bool) (h : ∀ a x, (idxs a x).toNat < s.size a) (g : Vec F s e) (k : Fin (d 0)) : Vec F s e :=
  if mask (Shape.ofLane k) = 1 then
    fun j => if (∀ a, (j a).val = (idxAt idxs h (Shape.ofLane k) a).val) then
      (if add then Elt.idxAdd e (g (idxAt idxs h (Shape.ofLane k))) (v (Shape.ofLane k)) else v (Shape.ofLane k)) else g j
  else g

theorem storeIdx_eq (f : Vec F s e) (idxs : Fin s.rank → IVec ⟨1, d⟩ 32) (v : Vec F ⟨1, d⟩ e) (mask : IVec ⟨1, d⟩ 1)
    (add : Bool) (h : ∀ a x, (idxs a x).toNat < s.size a) :
    storeIdx f idxs v mask add h = (List.finRange (d 0)).foldl (stStep idxs v mask add h) f := by
  unfold storeIdx stStep
  congr 1; funext g k
  dsimp only
  split
  · funext j; congr
  · rfl

theorem stStep_pos (idxs : Fin s.rank → IVec ⟨1, d⟩ 32) (v : Vec F ⟨1, d⟩ e) (mask : IVec ⟨1, d⟩ 1)
    (add : Bool) (h : ∀ a x, (idxs a x).toNat < s.size a) (g : Vec F s e) (k : Fin (d 0)) (hm : mask (Shape.ofLane k) = 1) (j : s.Idx) :
    stStep idxs v mask add h g k j = if (∀ a, (j a).val = (idxAt idxs h (Shape.ofLane k) a).val) then
      (if add then Elt.idxAdd e (g (idxAt idxs h (Shape.ofLane k))) (v (Shape.ofLane k)) else v (Shape.ofLane k)) else g j := by
  unfold stStep; rw [if_pos hm]

/-- An element no masked lane names keeps its value. -/
theorem storeIdx_miss (f : Vec F s e) (idxs : Fin s.rank → IVec ⟨1, d⟩ 32) (v : Vec F ⟨1, d⟩ e) (mask : IVec ⟨1, d⟩ 1)
    (add : Bool) (h : ∀ a x, (idxs a x).toNat < s.size a) (j : s.Idx)
    (hj : ∀ k : Fin (d 0), mask (Shape.ofLane k) = 1 → j ≠ idxAt idxs h (Shape.ofLane k)) :
    storeIdx f idxs v mask add h j = f j := by
  rw [storeIdx_eq]
  generalize List.finRange (d 0) = l
  induction l generalizing f with
  | nil => rfl
  | cons k l ih =>
      rw [List.foldl_cons, ih]
      unfold stStep
      split
      · next hm => exact if_neg fun hall => hj k hm (funext fun a => Fin.ext (hall a))
      · rfl

/-- An element exactly one lane names, that lane masked in: the lane's value, over the old one. -/
theorem storeIdx_hit (f : Vec F s e) (idxs : Fin s.rank → IVec ⟨1, d⟩ 32) (v : Vec F ⟨1, d⟩ e) (mask : IVec ⟨1, d⟩ 1)
    (add : Bool) (h : ∀ a x, (idxs a x).toNat < s.size a) (k : Fin (d 0)) (hm : mask (Shape.ofLane k) = 1)
    (hu : ∀ k' : Fin (d 0), mask (Shape.ofLane k') = 1 → k' ≠ k → idxAt idxs h (Shape.ofLane k) ≠ idxAt idxs h (Shape.ofLane k')) :
    storeIdx f idxs v mask add h (idxAt idxs h (Shape.ofLane k))
      = if add then Elt.idxAdd e (f (idxAt idxs h (Shape.ofLane k))) (v (Shape.ofLane k)) else v (Shape.ofLane k) := by
  have key : ∀ (l : List (Fin (d 0))) (f : Vec F s e), k ∉ l →
      l.foldl (stStep idxs v mask add h) f (idxAt idxs h (Shape.ofLane k)) = f (idxAt idxs h (Shape.ofLane k)) := by
    intro l
    induction l with
    | nil => intro f _; rfl
    | cons k' l ih =>
        intro f hk
        rw [List.foldl_cons, ih _ (fun hh => hk (List.mem_cons_of_mem _ hh))]
        unfold stStep
        split
        · next hm' =>
          exact if_neg fun hall => hu k' hm' (fun e => hk (e ▸ List.mem_cons_self)) (funext fun a => Fin.ext (hall a))
        · rfl
  rw [storeIdx_eq]
  obtain ⟨l₁, l₂, hl⟩ := List.append_of_mem (List.mem_finRange k)
  have hnd : (List.finRange (d 0)).Nodup := List.nodup_finRange _
  rw [hl] at hnd ⊢
  have hk2 : k ∉ l₂ := by
    have := (List.nodup_append.mp hnd).2.1
    exact (List.nodup_cons.mp this).1
  have hk1 : k ∉ l₁ := by
    intro hmem
    exact (List.nodup_append.mp hnd).2.2 k hmem k List.mem_cons_self rfl
  rw [List.foldl_append, List.foldl_cons, key l₂ _ hk2]
  show stStep idxs v mask add h (l₁.foldl _ f) k (idxAt idxs h (Shape.ofLane k)) = _
  unfold stStep
  rw [if_pos hm, if_pos (fun _ => rfl)]
  have := key l₁ f hk1
  unfold stStep at this
  rw [this]

end Store

/-- Ones added at sixteen words: each word grows by the number of lanes that name it. -/
theorem storeIdx_count (f : IVec S16 32) (v : IVec S16 32) (h : ∀ a x, ((![v] : Fin 1 → IVec S16 32) a x).toNat < S16.size a) (j : Fin 16) :
    storeIdx (F := F) (s := S16) (e := .i32) (d := ![16]) f ![v] (fun _ => 1#32) (fun _ => 1#1) true h (ln j)
      = f (ln j) + BitVec.ofNat 32 (Finset.univ.filter fun k : Fin 16 => (v (ln k)).toNat = j.val).card := by
  rw [storeIdx_eq]
  have key : ∀ (l : List (Fin ((![16] : Fin 1 → ℕ) 0))) (f : IVec S16 32),
      l.foldl (stStep (F := F) (s := S16) (e := .i32) (d := ![16]) ![v] (fun _ => 1#32) (fun _ => 1#1) true h) f (ln j)
        = f (ln j) + BitVec.ofNat 32 (l.map fun k : Fin 16 => if (v (ln k)).toNat = j.val then 1 else 0).sum := by
    intro l
    induction l with
    | nil => intro f; exact (BitVec.add_zero _).symm
    | cons k l ih =>
        intro f
        refine (ih _).trans ?_
        show _ = f (ln j) + BitVec.ofNat 32 ((if (v (ln k)).toNat = j.val then 1 else 0) + (l.map fun k : Fin 16 => if (v (ln k)).toNat = j.val then 1 else 0).sum)
        have hs : stStep (F := F) (s := S16) (e := .i32) (d := ![16]) ![v] (fun _ => 1#32) (fun _ => 1#1) true h f k (ln j)
            = f (ln j) + BitVec.ofNat 32 (if (v (ln k)).toNat = j.val then 1 else 0) := by
          refine (stStep_pos _ _ _ _ _ _ _ rfl (ln j)).trans ?_
          by_cases hj : (v (ln k)).toNat = j.val
          · have e : idxAt (s := S16) (t := ⟨1, ![16]⟩) ![v] h (Shape.ofLane (d := ![16]) k) = ln j := by
              funext a; obtain rfl := Fin.eq_zero a; exact Fin.ext hj
            refine (if_pos fun a => by rw [e]).trans ?_
            rw [e, if_pos hj]; rfl
          · refine (if_neg fun hall => hj (hall 0).symm).trans ?_
            rw [if_neg hj]; exact (BitVec.add_zero _).symm
        rw [hs, BitVec.add_assoc, BitVec.ofNat_add]
  refine (key _ f).trans ?_
  rw [Finset.card_filter, Fin.sum_univ_def]; rfl

end Cert.Proof.Lanes
-- ==== Proof.Place.lean ====
/-
  One block of sixteen labels put in order: the rank each lane counts is a bijection of the lanes, the keys placed by
  it rise, and a lane's distance from the start of its run of equal keys counts the lanes before it with its label.
-/
module

public import proofs.«01_k».proof.Proof.Lanes
public import Mathlib.Tactic.IntervalCases

@[expose] public section

noncomputable section

namespace Cert.Proof.Place

open Cert.KernelIdeal Cert.KernelIdeal.Gen
open Idealize.ShloMosaic Idealize.ShloMosaic.WordCmp
open Cert.Proof.Lanes

variable {F : FTy → Type} [FloatOps F]

/-! ## Ranks -/

/-- Lane `j` comes before lane `i`: a smaller key, or the same key at an earlier lane. -/
def Bef (v : Fin 16 → ℕ) (j i : Fin 16) : Prop := v j < v i ∨ (v j = v i ∧ j < i)
instance (v : Fin 16 → ℕ) (j i : Fin 16) : Decidable (Bef v j i) := by unfold Bef; infer_instance

/-- How many lanes come before lane `i`. -/
def rk (v : Fin 16 → ℕ) (i : Fin 16) : ℕ := (Finset.univ.filter fun j => Bef v j i).card
/-- How many lanes hold a smaller key than lane `i`'s. -/
def lo (v : Fin 16 → ℕ) (i : Fin 16) : ℕ := (Finset.univ.filter fun j => v j < v i).card
/-- How many earlier lanes hold lane `i`'s key. -/
def eqb (v : Fin 16 → ℕ) (i : Fin 16) : ℕ := (Finset.univ.filter fun j => v j = v i ∧ j < i).card

variable (v : Fin 16 → ℕ)

theorem rk_eq (i : Fin 16) : rk v i = lo v i + eqb v i := by
  unfold rk lo eqb Bef
  rw [Finset.filter_or, Finset.card_union_of_disjoint]
  rw [Finset.disjoint_filter]; intro j _ h1 h2; omega

theorem bef_trans {a b c : Fin 16} (h1 : Bef v a b) (h2 : Bef v b c) : Bef v a c := by
  unfold Bef at *
  rcases h1 with h1 | ⟨h1, h1'⟩ <;> rcases h2 with h2 | ⟨h2, h2'⟩
  · left; omega
  · left; omega
  · left; omega
  · right; exact ⟨by omega, lt_trans h1' h2'⟩

theorem bef_irrefl (a : Fin 16) : ¬ Bef v a a := by unfold Bef; simp

theorem rk_lt {a b : Fin 16} (h : Bef v a b) : rk v a < rk v b := by
  unfold rk
  apply Finset.card_lt_card
  refine Finset.ssubset_iff_subset_ne.mpr ⟨fun j hj => ?_, fun he => ?_⟩
  · simp only [Finset.mem_filter, Finset.mem_univ, true_and] at hj ⊢
    exact bef_trans v hj h
  · have : a ∈ Finset.univ.filter (fun j => Bef v j b) := by simp [h]
    rw [← he] at this
    exact bef_irrefl v a (by simpa using this)

theorem bef_total {a b : Fin 16} (h : a ≠ b) : Bef v a b ∨ Bef v b a := by
  unfold Bef
  rcases lt_trichotomy (v a) (v b) with h1 | h1 | h1
  · left; left; exact h1
  · rcases lt_or_gt_of_ne h with h2 | h2
    · left; right; exact ⟨h1, h2⟩
    · right; right; exact ⟨h1.symm, h2⟩
  · right; left; exact h1

theorem rk_inj {a b : Fin 16} (h : rk v a = rk v b) : a = b := by
  by_contra hne
  rcases bef_total v hne with h' | h' <;> have := rk_lt v h' <;> omega

theorem rk_lt16 (i : Fin 16) : rk v i < 16 := by
  have : rk v i < (Finset.univ : Finset (Fin 16)).card := by
    unfold rk
    apply Finset.card_lt_card
    refine Finset.ssubset_iff_subset_ne.mpr ⟨Finset.subset_univ _, fun he => ?_⟩
    have : i ∈ Finset.univ.filter (fun j => Bef v j i) := by rw [he]; simp
    exact bef_irrefl v i (by simpa using this)
  simpa using this

/-- The rank, as a permutation of the lanes. -/
def rkP : Fin 16 ≃ Fin 16 :=
  Equiv.ofBijective (fun i => (⟨rk v i, rk_lt16 v i⟩ : Fin 16))
    ((Fintype.bijective_iff_injective_and_card _).mpr ⟨fun a b h => rk_inj v (by simpa using h), rfl⟩)

theorem rkP_val (i : Fin 16) : (rkP v i).val = rk v i := rfl

theorem rk_symm (k : Fin 16) : rk v ((rkP v).symm k) = k.val := by
  rw [← rkP_val, Equiv.apply_symm_apply]

/-- The lane placed at `lo i + c` for `c` up to lane `i`'s own place holds lane `i`'s key. -/
theorem key_between {i j : Fin 16} (h1 : lo v i ≤ rk v j) (h2 : rk v j ≤ rk v i) : v j = v i := by
  have hji : ¬ Bef v i j := fun h => by have := rk_lt v h; omega
  by_contra hne
  have hlt : v j < v i := by
    rcases lt_trichotomy (v j) (v i) with h | h | h
    · exact h
    · exact absurd h hne
    · exact absurd (Or.inl h) hji
  have : rk v j < lo v i := by
    unfold rk lo
    apply Finset.card_lt_card
    refine Finset.ssubset_iff_subset_ne.mpr ⟨fun a ha => ?_, fun he => ?_⟩
    · simp only [Finset.mem_filter, Finset.mem_univ, true_and] at ha ⊢
      unfold Bef at ha; omega
    · have : j ∈ Finset.univ.filter (fun a => v a < v i) := by simp [hlt]
      rw [← he] at this
      exact bef_irrefl v j (by simpa using this)
  omega

theorem key_below {i j : Fin 16} (h : rk v j < lo v i) : v j < v i := by
  by_contra hge
  have : lo v i ≤ rk v j := by
    unfold lo rk
    apply Finset.card_le_card
    intro a ha
    simp only [Finset.mem_filter, Finset.mem_univ, true_and] at ha ⊢
    left; omega
  omega

/-! ## A prefix maximum -/

theorem foldl_maxui (l : List (Fin 16)) (w : Fin 16 → BitVec 32) (z : BitVec 32) :
    (l.foldl (fun r k => IntOp.maxui r (w k)) z = z ∨ ∃ k ∈ l, l.foldl (fun r k => IntOp.maxui r (w k)) z = w k)
    ∧ z.toNat ≤ (l.foldl (fun r k => IntOp.maxui r (w k)) z).toNat ∧ ∀ k ∈ l, (w k).toNat ≤ (l.foldl (fun r k => IntOp.maxui r (w k)) z).toNat := by
  induction l generalizing z with
  | nil => simp
  | cons a l ih =>
      have hm : (IntOp.maxui z (w a) = z ∨ IntOp.maxui z (w a) = w a) ∧ z.toNat ≤ (IntOp.maxui z (w a)).toNat ∧ (w a).toNat ≤ (IntOp.maxui z (w a)).toNat := by
        unfold IntOp.maxui
        split
        · next h => simp only [BitVec.ule, BitVec.ult, decide_eq_true_eq] at h; refine ⟨Or.inl rfl, ?_, ?_⟩ <;> omega
        · next h => simp only [BitVec.ule, BitVec.ult, decide_eq_true_eq] at h; refine ⟨Or.inr rfl, ?_, ?_⟩ <;> omega
      obtain ⟨h1, h2, h3⟩ := ih (IntOp.maxui z (w a))
      rw [List.foldl_cons]
      refine ⟨?_, le_trans hm.2.1 h2, ?_⟩
      · rcases h1 with h1 | ⟨k, hk, h1⟩
        · rw [h1]
          rcases hm.1 with h | h
          · left; exact h
          · right; exact ⟨a, List.mem_cons_self, h⟩
        · right; exact ⟨k, List.mem_cons_of_mem _ hk, h1⟩
      · intro k hk
        rcases List.mem_cons.mp hk with rfl | hk
        · exact le_trans hm.2.2 h2
        · exact h3 k hk

theorem scan_max_ln (w : IVec S16 32) (j : Fin 16) :
    (∃ k ≤ j, scan .max w (ln j) = w (ln k)) ∧ ∀ k ≤ j, (w (ln k)).toNat ≤ (scan .max w (ln j)).toNat := by
  have h0 : scan .max w (ln j) = ((List.finRange 16).filter fun k : Fin 16 => decide (0 < k.val ∧ k.val ≤ j.val)).foldl (fun r k => IntOp.maxui r (w (ln k))) (w (ln 0)) := rfl
  obtain ⟨h1, h2, h3⟩ := foldl_maxui ((List.finRange 16).filter fun k : Fin 16 => decide (0 < k.val ∧ k.val ≤ j.val)) (fun k => w (ln k)) (w (ln 0))
  rw [h0]
  constructor
  · rcases h1 with h1 | ⟨k, hk, h1⟩
    · exact ⟨0, Fin.zero_le _, h1⟩
    · simp only [List.mem_filter, List.mem_finRange, true_and, decide_eq_true_eq] at hk
      exact ⟨k, hk.2, h1⟩
  · intro k hk
    by_cases hk0 : k = 0
    · subst hk0; exact h2
    · exact h3 k (by
        simp only [List.mem_filter, List.mem_finRange, true_and, decide_eq_true_eq]
        exact ⟨Nat.pos_of_ne_zero fun h => hk0 (Fin.ext h), hk⟩)

/-! ## The places of one block -/

section Block

variable (V skey sval prev : IVec S16 32)

/-- The keys, as numbers. -/
abbrev kn (k : Fin 16) : ℕ := (V (ln k)).toNat

theorem xor_top {x : BitVec 32} (h : x.toNat < 16) : (x ^^^ 2147483648#32).toNat = x.toNat + 2 ^ 31 := by
  have hx : x = BitVec.ofNat 32 x.toNat := by simp
  generalize x.toNat = n at h hx
  subst hx
  interval_cases n <;> rfl

theorem xor_xor (x : BitVec 32) : x ^^^ 2147483648#32 ^^^ 2147483648#32 = x := by
  rw [BitVec.xor_assoc, BitVec.xor_self, BitVec.xor_zero]

/-- The place of lane `k` in its run: `base` and the lanes before it with its label. -/
theorem pay144_ln (base : IVec S16 32)
    (hkey : ∀ i, skey (ln (rkP (kn V) i)) = V (ln i))
    (hprev : ∀ q k : Fin 16, k.val = q.val + 1 → prev (ln k) = skey (ln q)) (i : Fin 16) :
    k0_pay144 (F := F) skey prev base (ln (rkP (kn V) i)) = base (ln (rkP (kn V) i)) + BitVec.ofNat 32 (eqb (kn V) i) := by
  set j := rkP (kn V) i with hj
  -- the run-start marks
  let u : IVec S16 32 := select (ori (cmpi .ne skey prev) (cmpi .eq (iota .scVector S16 32 [0] iota_S16_d0_w32_scVector) (broadcast S16 0#32)))
    (iota .scVector S16 32 [0] iota_S16_d0_w32_scVector) (broadcast S16 0#32)
  have h1 : k0_pay144 (F := F) skey prev base (ln j) = base (ln j) + (iota .scVector S16 32 [0] iota_S16_d0_w32_scVector (ln j)
      - (scan .max (fun x => u x ^^^ 2147483648#32) (ln j) ^^^ 2147483648#32)) := rfl
  have hu : ∀ k : Fin 16, u (ln k) = if skey (ln k) ≠ prev (ln k) ∨ k = 0 then BitVec.ofNat 32 k.val else 0#32 := by
    intro k
    have : u (ln k) = Scalar.select (IntOp.ori (IntOp.cmpi .ne (skey (ln k)) (prev (ln k))) (IntOp.cmpi .eq (iota .scVector S16 32 [0] iota_S16_d0_w32_scVector (ln k)) 0#32))
       (iota .scVector S16 32 [0] iota_S16_d0_w32_scVector (ln k)) 0#32 := rfl
    rw [this, iota_ln, cmpi_ne_eq, cmpi_eq_eq]
    show Scalar.select (BitVec.ofBool _ ||| BitVec.ofBool _) _ _ = _
    rw [BitVec.ofBool_or_ofBool, select_ofBool]
    have e : (BitVec.ofNat 32 k.val = 0#32) ↔ k = 0 := ofNat_inj16 k 0
    simp only [e, Bool.or_eq_true, decide_eq_true_eq]
  have hule : ∀ k : Fin 16, (u (ln k)).toNat ≤ k.val := by
    intro k; rw [hu]; split
    · simp; omega
    · simp
  have hult : ∀ k : Fin 16, (u (ln k)).toNat < 16 := fun k => by have := hule k; omega
  -- the key at lane `k`
  have hkn : ∀ k : Fin 16, (skey (ln k)).toNat = kn V ((rkP (kn V)).symm k) := by
    intro k
    have := hkey ((rkP (kn V)).symm k)
    rw [Equiv.apply_symm_apply] at this
    rw [this]
  have hjv : j.val = rk (kn V) i := rfl
  have hlo : lo (kn V) i ≤ j.val := by rw [hjv, rk_eq]; omega
  -- the start of lane `j`'s run
  have hlo16 : lo (kn V) i < 16 := lt_of_le_of_lt hlo j.isLt
  have hstart : u (ln ⟨lo (kn V) i, hlo16⟩) = BitVec.ofNat 32 (lo (kn V) i) := by
    rw [hu]
    by_cases h0 : lo (kn V) i = 0
    · simp [h0]
    · rw [if_pos]
      left
      intro he
      have hq := hprev ⟨lo (kn V) i - 1, by omega⟩ ⟨lo (kn V) i, hlo16⟩ (by simp; omega)
      rw [hq] at he
      have he' := congrArg BitVec.toNat he
      rw [hkn, hkn] at he'
      have a1 := key_below (kn V) (i := i) (j := (rkP (kn V)).symm ⟨lo (kn V) i - 1, by omega⟩) (by rw [rk_symm]; simp; omega)
      have a2 := key_between (kn V) (i := i) (j := (rkP (kn V)).symm ⟨lo (kn V) i, hlo16⟩) (by rw [rk_symm]) (by rw [rk_symm]; exact hlo)
      omega
  have hafter : ∀ k : Fin 16, lo (kn V) i < k.val → k ≤ j → u (ln k) = 0#32 := by
    intro k hk hkj
    rw [hu, if_neg]
    rintro (h | h)
    · apply h
      rw [hprev ⟨k.val - 1, by omega⟩ k (by simp; omega)]
      apply BitVec.eq_of_toNat_eq
      rw [hkn, hkn]
      have hkj' : k.val ≤ rk (kn V) i := hkj
      rw [key_between (kn V) (i := i) (j := (rkP (kn V)).symm k) (by rw [rk_symm]; omega) (by rw [rk_symm]; exact hkj'),
        key_between (kn V) (i := i) (j := (rkP (kn V)).symm ⟨k.val - 1, by omega⟩) (by rw [rk_symm]; simp; omega) (by rw [rk_symm]; simp; omega)]
    · subst h; simp at hk
  -- the prefix maximum is the run's start
  obtain ⟨⟨k, hk, hm⟩, hge⟩ := scan_max_ln (fun x => u x ^^^ 2147483648#32) j
  have hmax : scan .max (fun x => u x ^^^ 2147483648#32) (ln j) ^^^ 2147483648#32 = BitVec.ofNat 32 (lo (kn V) i) := by
    have g := hge ⟨lo (kn V) i, hlo16⟩ hlo
    rw [hm] at g ⊢
    show u (ln k) ^^^ 2147483648#32 ^^^ 2147483648#32 = _
    rw [xor_xor]
    have g' : (u (ln ⟨lo (kn V) i, hlo16⟩)).toNat ≤ (u (ln k)).toNat := by
      have := xor_top (hult ⟨lo (kn V) i, hlo16⟩)
      have := xor_top (hult k)
      omega
    rw [hstart] at g'
    have hlo' : (BitVec.ofNat 32 (lo (kn V) i)).toNat = lo (kn V) i := by simp; omega
    rw [hlo'] at g'
    apply BitVec.eq_of_toNat_eq
    rw [hlo']
    have := hule k
    by_cases hkl : lo (kn V) i < k.val
    · have := hafter k hkl hk
      rw [this] at g' ⊢
      simp at g' ⊢; omega
    · omega
  rw [h1, hmax, iota_ln, hjv, rk_eq]
  congr 1
  apply BitVec.eq_of_toNat_eq
  have : lo (kn V) i + eqb (kn V) i < 16 := by rw [← rk_eq]; exact rk_lt16 _ _
  simp only [BitVec.toNat_sub, BitVec.toNat_ofNat]
  omega

end Block

/-! ## The rank and the placing, trip by trip -/

/-- Lanes below `n` that come before lane `k`. -/
def rkN (n : ℕ) (k : Fin 16) : ℕ := (Finset.univ.filter fun j : Fin 16 => j.val < n ∧ Bef v j k).card

theorem rkN_zero (k : Fin 16) : rkN v 0 k = 0 := by unfold rkN; simp
theorem rkN_all (k : Fin 16) : rkN v 16 k = rk v k := by unfold rkN rk; congr 1; ext j; simp
theorem card_filter_succ {m : ℕ} (p : Fin m → Prop) [DecidablePred p] (q : Fin m) :
    (Finset.univ.filter fun j : Fin m => j.val < q.val + 1 ∧ p j).card = (Finset.univ.filter fun j : Fin m => j.val < q.val ∧ p j).card + if p q then 1 else 0 := by
  have : (Finset.univ.filter fun j : Fin m => j.val < q.val + 1 ∧ p j)
      = (Finset.univ.filter fun j : Fin m => j.val < q.val ∧ p j) ∪ (if p q then {q} else ∅) := by
    ext j
    simp only [Finset.mem_filter, Finset.mem_univ, true_and, Finset.mem_union]
    by_cases hq : p q
    · rw [if_pos hq, Finset.mem_singleton]
      constructor
      · rintro ⟨h1, h2⟩
        by_cases h : j = q
        · right; exact h
        · left; exact ⟨by have : j.val ≠ q.val := fun h' => h (Fin.ext h'); omega, h2⟩
      · rintro (⟨h1, h2⟩ | rfl)
        · exact ⟨by omega, h2⟩
        · exact ⟨by omega, hq⟩
    · rw [if_neg hq]
      constructor
      · rintro ⟨h1, h2⟩
        left; exact ⟨by have : j.val ≠ q.val := fun h' => hq (Fin.ext h' ▸ h2); omega, h2⟩
      · rintro (⟨h1, h2⟩ | h)
        · exact ⟨by omega, h2⟩
        · simp at h
  rw [this, Finset.card_union_of_disjoint]
  · split <;> simp
  · split
    · rw [Finset.disjoint_singleton_right]; simp
    · exact Finset.disjoint_empty_right _

theorem rkN_succ (q k : Fin 16) : rkN v (q.val + 1) k = rkN v q.val k + if Bef v q k then 1 else 0 := card_filter_succ _ q

/-- A trip of the rank's loop. -/
theorem rank_step (V : IVec S16 32) (hV : ∀ i, (V (ln i)).toNat < 16) (p : Fin k0_t7_loop.trips) (acc : IVec S16 32)
    (h : ∀ k, acc (ln k) = BitVec.ofNat 32 (rkN (kn V) p.val k)) (k : Fin 16) :
    k0_pay137 (F := F) V p acc (ln k) = BitVec.ofNat 32 (rkN (kn V) (p.val + 1) k) := by
  have hp : p.val < 16 := p.isLt
  rw [pay137_ln V hV p acc k ⟨p.val, hp⟩ rfl, h k]
  have := rkN_succ (kn V) ⟨p.val, hp⟩ k
  simp only at this
  rw [this, BitVec.ofNat_add]
  congr 1
  show (if Bef (kn V) ⟨p.val, hp⟩ k then 1 else 0) = _
  split <;> rfl

/-- The keys and values of the lanes below `n` are placed. -/
def PlacedN (V R : IVec S16 32) (tb n : ℕ) (sk sv : IVec S16 32) : Prop :=
  ∀ q : Fin 16, q.val < n → sk (ln (rkP (kn V) q)) = V (ln q) ∧ sv (ln (rkP (kn V) q)) = BitVec.ofNat 32 (q.val + 16 * tb)

theorem place_step (V R : IVec S16 32) (hR : ∀ k, R (ln k) = BitVec.ofNat 32 (rk (kn V) k)) (t : Fin k0_t6_loop.trips) (p : Fin k0_t8_loop.trips)
    (sk sv : IVec S16 32) (h : PlacedN V R t.val p.val sk sv) :
    PlacedN V R t.val (p.val + 1) (k0_pay141 (F := F) V R p sk) (k0_pay142 t R p sv) := by
  have hp : p.val < 16 := p.isLt
  have hc : ∀ q : Fin 16, (BitVec.ofNat 32 (rkP (kn V) q).val = R (ln ⟨p.val, hp⟩)) ↔ q = ⟨p.val, hp⟩ := by
    intro q
    rw [hR]
    have := ofNat_inj16 (rkP (kn V) q) (rkP (kn V) ⟨p.val, hp⟩)
    rw [Equiv.apply_eq_iff_eq] at this
    exact this
  intro q hq
  rw [pay141_ln V R p sk _ ⟨p.val, hp⟩ rfl, pay142_ln t R p sv _ ⟨p.val, hp⟩ rfl]
  simp only [hc]
  by_cases h' : q = ⟨p.val, hp⟩
  · subst h'; simp
  · rw [if_neg h', if_neg h']
    exact h q (by have : q.val ≠ p.val := fun h'' => h' (Fin.ext h''); omega)

/-- The previous lane of the lanes up to `n`. -/
def PrevN (sk : IVec S16 32) (n : ℕ) (pv : IVec S16 32) : Prop :=
  ∀ q k : Fin 16, q.val < n → k.val = q.val + 1 → pv (ln k) = sk (ln q)

theorem prev_step (sk : IVec S16 32) (p : Fin k0_t9_loop.trips) (pv : IVec S16 32) (h : PrevN sk p.val pv) :
    PrevN sk (p.val + 1) (k0_pay143 sk p pv) := by
  have hp : p.val < 15 := p.isLt
  intro q k hq hk
  rw [pay143_ln sk p pv k ⟨p.val, by omega⟩ rfl]
  by_cases h' : k.val = p.val + 1
  · rw [if_pos (by exact h')]
    congr 2; exact Fin.ext (by simp; omega)
  · rw [if_neg (by exact h')]
    exact h q k (by omega) hk

end Cert.Proof.Place
-- ==== Proof.Chunk.lean ====
/-
  One chunk of 512 tokens in its sorted order: where each token's slot is, that the slots of a label fill a segment of
  whole groups of sixteen, and that every slot below the total is a token's or a pad.
-/
module

public import proofs.«01_k».proof.Proof.Place

@[expose] public section

noncomputable section

namespace Cert.Proof.Chunk

open Cert.KernelIdeal Cert.KernelIdeal.Gen
open Idealize.ShloMosaic Idealize.ShloMosaic.WordCmp
open Cert.Proof.Lanes Cert.Proof.Place

variable {F : FTy → Type} [FloatOps F]

/-! ## Counts and places -/

section Nat
variable (lab : Fin 512 → ℕ)

/-- Tokens below `n` with label `p`. -/
def cntN (n p : ℕ) : ℕ := (Finset.univ.filter fun t : Fin 512 => t.val < n ∧ lab t = p).card
/-- Tokens with label `p`. -/
def hist (p : ℕ) : ℕ := cntN lab 512 p
/-- The same, in whole groups of sixteen. -/
def ceil (p : ℕ) : ℕ := (hist lab p + 15) / 16 * 16
/-- Where the segment of label `p` starts. -/
def st (p : ℕ) : ℕ := ∑ q ∈ Finset.range p, ceil lab q
/-- The slot of token `t`. -/
def pos (t : Fin 512) : ℕ := st lab (lab t) + cntN lab t.val (lab t)

theorem st_succ (p : ℕ) : st lab (p + 1) = st lab p + ceil lab p := Finset.sum_range_succ _ _
theorem st_mono {p q : ℕ} (h : p ≤ q) : st lab p ≤ st lab q :=
  Finset.sum_le_sum_of_subset (by simpa using h)
theorem st_dvd (p : ℕ) : 16 ∣ st lab p := Finset.dvd_sum fun q _ => ⟨_, Nat.mul_comm _ _⟩
theorem ceil_dvd (p : ℕ) : 16 ∣ ceil lab p := ⟨_, Nat.mul_comm _ _⟩
theorem hist_le_ceil (p : ℕ) : hist lab p ≤ ceil lab p := by unfold ceil; omega
theorem ceil_le (p : ℕ) : ceil lab p ≤ hist lab p + 15 := by unfold ceil; omega
theorem cntN_mono {m n : ℕ} (h : m ≤ n) (p : ℕ) : cntN lab m p ≤ cntN lab n p := by
  unfold cntN; apply Finset.card_le_card; intro t ht
  simp only [Finset.mem_filter, Finset.mem_univ, true_and] at ht ⊢; exact ⟨by omega, ht.2⟩
theorem cntN_zero (p : ℕ) : cntN lab 0 p = 0 := by unfold cntN; simp
theorem hist_le (p : ℕ) : hist lab p ≤ 512 := by
  unfold hist cntN; exact (Finset.card_le_univ _).trans (by simp)
theorem cntN_succ (t : Fin 512) (p : ℕ) : cntN lab (t.val + 1) p = cntN lab t.val p + if lab t = p then 1 else 0 := card_filter_succ _ t
theorem cntN_lt_hist (t : Fin 512) : cntN lab t.val (lab t) < hist lab (lab t) := by
  have h1 := cntN_succ lab t (lab t)
  have h2 : cntN lab (t.val + 1) (lab t) ≤ hist lab (lab t) := cntN_mono lab (by omega) _
  simp at h1; omega

variable (hl : ∀ t, lab t < 16)
include hl

theorem sum_hist : ∑ p ∈ Finset.range 16, hist lab p = 512 := by
  have h := Finset.card_eq_sum_card_fiberwise (f := lab) (s := (Finset.univ : Finset (Fin 512))) (t := Finset.range 16) (by intro t _; simpa using hl t)
  rw [Finset.card_univ, Fintype.card_fin] at h
  rw [h]
  refine Finset.sum_congr rfl fun p _ => ?_
  unfold hist cntN
  congr 1; ext t; simp

theorem st_le (p : ℕ) (hp : p ≤ 16) : st lab p ≤ 752 := by
  refine (st_mono lab hp).trans ?_
  have h1 : st lab 16 ≤ ∑ q ∈ Finset.range 16, (hist lab q + 15) := Finset.sum_le_sum fun q _ => ceil_le lab q
  rw [Finset.sum_add_distrib, sum_hist lab hl] at h1
  simp at h1; omega

theorem pos_lt (t : Fin 512) : pos lab t < st lab (lab t) + hist lab (lab t) := by
  unfold pos; have := cntN_lt_hist lab t; omega

theorem pos_lt' (t : Fin 512) : pos lab t < 752 := by
  have h1 := pos_lt lab hl t
  have h2 := hist_le_ceil lab (lab t)
  have h3 := st_succ lab (lab t)
  have h4 := st_le lab hl (lab t + 1) (hl t)
  omega

theorem seg_unique {p q x : ℕ} (h1 : st lab p ≤ x) (h2 : x < st lab p + ceil lab p) (h3 : st lab q ≤ x) (h4 : x < st lab q + ceil lab q) : p = q := by
  rcases lt_trichotomy p q with h | h | h
  · have := st_mono lab (show p + 1 ≤ q from h); rw [st_succ] at this; omega
  · exact h
  · have := st_mono lab (show q + 1 ≤ p from h); rw [st_succ] at this; omega

theorem seg_exists : ∀ n x, x < st lab n → ∃ p < n, st lab p ≤ x ∧ x < st lab p + ceil lab p := by
  intro n
  induction n with
  | zero => intro x hx; simp [st] at hx
  | succ n ih =>
      intro x hx
      by_cases h : x < st lab n
      · obtain ⟨p, hp, h'⟩ := ih x h; exact ⟨p, by omega, h'⟩
      · exact ⟨n, by omega, by omega, by rw [← st_succ]; exact hx⟩

theorem pos_inj {t t' : Fin 512} (h : pos lab t = pos lab t') : t = t' := by
  have a := pos_lt lab hl t; have a' := pos_lt lab hl t'
  have b := hist_le_ceil lab (lab t); have b' := hist_le_ceil lab (lab t')
  have e : lab t = lab t' := seg_unique lab hl (x := pos lab t) (by unfold pos; omega) (by omega) (by rw [h]; unfold pos; omega) (by rw [h]; omega)
  unfold pos at h
  rw [← e] at h
  have h' : cntN lab t.val (lab t) = cntN lab t'.val (lab t) := by omega
  by_contra hne
  rcases lt_or_gt_of_ne (fun hh => hne (Fin.ext hh) : t.val ≠ t'.val) with hh | hh
  · have := cntN_mono lab (show t.val + 1 ≤ t'.val from hh) (lab t)
    rw [cntN_succ] at this; simp at this; omega
  · have := cntN_mono lab (show t'.val + 1 ≤ t.val from hh) (lab t)
    rw [cntN_succ, if_pos e.symm] at this; omega

/-- The tokens of label `p` fill the first slots of its segment. -/
theorem pos_image (p : ℕ) : (Finset.univ.filter fun t => lab t = p).image (pos lab) = Finset.Ico (st lab p) (st lab p + hist lab p) := by
  apply Finset.eq_of_subset_of_card_le
  · intro x hx
    obtain ⟨t, ht, rfl⟩ := Finset.mem_image.mp hx
    simp only [Finset.mem_filter, Finset.mem_univ, true_and] at ht
    subst ht
    rw [Finset.mem_Ico]
    exact ⟨by unfold pos; omega, pos_lt lab hl t⟩
  · rw [Finset.card_image_of_injective _ (fun a b h => pos_inj lab hl h)]
    simp only [Nat.card_Ico, Nat.add_sub_cancel_left]
    unfold hist cntN
    apply Finset.card_le_card; intro t ht; simpa using ht

theorem pos_surj {p x : ℕ} (h1 : st lab p ≤ x) (h2 : x < st lab p + hist lab p) : ∃ t, lab t = p ∧ pos lab t = x := by
  have : x ∈ (Finset.univ.filter fun t => lab t = p).image (pos lab) := by rw [pos_image lab hl]; simp [h1, h2]
  obtain ⟨t, ht, h⟩ := Finset.mem_image.mp this
  exact ⟨t, by simpa using ht, h⟩

end Nat

/-! ## The order buffers -/

section Buffers
variable (lab : Fin 512 → ℕ) (ids labs : S768.Idx → BitVec 32)

/-- The pads of the labels below `n` are in place. -/
def Pads (n : ℕ) : Prop := ∀ p < n, ∀ x : S768.Idx, st lab p + hist lab p ≤ (x 0).val → (x 0).val < st lab p + ceil lab p →
  ids x = 512#32 ∧ labs x = BitVec.ofNat 32 p
/-- The tokens below `n` are in place. -/
def Toks (n : ℕ) : Prop := ∀ t : Fin 512, t.val < n → ∀ x : S768.Idx, (x 0).val = pos lab t →
  ids x = BitVec.ofNat 32 t.val ∧ labs x = BitVec.ofNat 32 (lab t)
/-- The chunk in its order. -/
def Good : Prop := (∀ t, lab t < 16) ∧ Pads lab ids labs 16 ∧ Toks lab ids labs 512

variable {lab ids labs}

/-- Every slot below the total is in one segment, and its label is the segment's. -/
theorem Good.slot (h : Good lab ids labs) (x : S768.Idx) (hx : (x 0).val < st lab 16) :
    ∃ p < 16, st lab p ≤ (x 0).val ∧ (x 0).val < st lab p + ceil lab p ∧ labs x = BitVec.ofNat 32 p
      ∧ ((ids x = 512#32 ∧ st lab p + hist lab p ≤ (x 0).val) ∨ ∃ t : Fin 512, lab t = p ∧ (x 0).val = pos lab t ∧ ids x = BitVec.ofNat 32 t.val) := by
  obtain ⟨p, hp, h1, h2⟩ := seg_exists lab h.1 16 _ hx
  by_cases hc : (x 0).val < st lab p + hist lab p
  · obtain ⟨t, ht, hpos⟩ := pos_surj lab h.1 h1 hc
    obtain ⟨e1, e2⟩ := h.2.2 t t.isLt x hpos.symm
    exact ⟨p, hp, h1, h2, by rw [e2, ht], Or.inr ⟨t, ht, hpos.symm, e1⟩⟩
  · obtain ⟨e1, e2⟩ := h.2.1 p hp x (by omega) h2
    exact ⟨p, hp, h1, h2, e2, Or.inl ⟨e1, by omega⟩⟩

theorem Good.lab_lt (h : Good lab ids labs) (x : S768.Idx) (hx : (x 0).val < st lab 16) : (labs x).toNat < 16 := by
  obtain ⟨p, hp, _, _, e, _⟩ := h.slot x hx
  rw [e]; simp; omega

theorem Good.id_lt (h : Good lab ids labs) (x : S768.Idx) (hx : (x 0).val < st lab 16) : (ids x).toNat ≤ 512 := by
  obtain ⟨p, hp, _, _, _, h | ⟨t, _, _, h⟩⟩ := h.slot x hx
  · rw [h.1]; simp
  · rw [h]; simp; omega

/-- The sixteen slots of a group have one label. -/
theorem Good.group (h : Good lab ids labs) (x y : S768.Idx) (v : ℕ) (hv : 16 * v < st lab 16) (hx : (x 0).val / 16 = v) (hy : (y 0).val / 16 = v) : labs x = labs y := by
  have hd := st_dvd lab 16
  have hx' : (x 0).val < st lab 16 := by omega
  have hy' : (y 0).val < st lab 16 := by omega
  obtain ⟨p, hp, a1, a2, e, _⟩ := h.slot x hx'
  obtain ⟨q, hq, b1, b2, e', _⟩ := h.slot y hy'
  have d1 := st_dvd lab p; have d2 := st_dvd lab q; have d3 := ceil_dvd lab p; have d4 := ceil_dvd lab q
  have : p = q := seg_unique lab h.1 (x := (x 0).val) a1 a2 (by omega) (by omega)
  rw [e, e', this]

end Buffers

end Cert.Proof.Chunk
-- ==== Proof.Steps.lean ====
/-
  What each trip of the kernel's integer loops does to a chunk's order: the histogram grows by a group's labels, the
  pads of one label are put in place, a block of sixteen tokens is put in place.
-/
module

public import proofs.«01_k».proof.Proof.Chunk

@[expose] public section

noncomputable section

namespace Cert.Proof.Chunk

open Cert.KernelIdeal Cert.KernelIdeal.Gen
open Idealize.ShloMosaic Idealize.ShloMosaic.WordCmp
open Cert.Proof.Lanes Cert.Proof.Place

variable {F : FTy → Type} [FloatOps F]

/-- Token `16 n + k`. -/
abbrev tk (n : ℕ) (hn : n < 32) (k : Fin 16) : Fin 512 := ⟨16 * n + k.val, by omega⟩

variable (lab : Fin 512 → ℕ)

theorem cntN_block (n : ℕ) (hn : n < 32) (p j : ℕ) (hj : j ≤ 16) :
    cntN lab (16 * n + j) p = cntN lab (16 * n) p + (Finset.univ.filter fun k : Fin 16 => k.val < j ∧ lab (tk n hn k) = p).card := by
  induction j with
  | zero => simp
  | succ j ih =>
      have h1 := cntN_succ lab (tk n hn ⟨j, by omega⟩) p
      have h2 := card_filter_succ (fun k : Fin 16 => lab (tk n hn k) = p) ⟨j, by omega⟩
      simp only at h1 h2
      rw [← Nat.add_assoc, h1, ih (by omega), h2, Nat.add_assoc]

theorem cntN_next (n : ℕ) (hn : n < 32) (p : ℕ) :
    cntN lab (16 * (n + 1)) p = cntN lab (16 * n) p + (Finset.univ.filter fun k : Fin 16 => lab (tk n hn k) = p).card := by
  have h := cntN_block lab n hn p 16 le_rfl
  rw [show 16 * (n + 1) = 16 * n + 16 by omega, h]
  congr 2; ext k; simp

/-! ## The histogram -/

/-- The histogram of the first `16 n` tokens. -/
def HistN (n : ℕ) (H : IVec S16 32) : Prop := ∀ p : Fin 16, H (ln p) = BitVec.ofNat 32 (cntN lab (16 * n) p.val)

theorem hist_step (n : ℕ) (hn : n < 32) (H v : IVec S16 32) (hv : ∀ k, (v (ln k)).toNat = lab (tk n hn k)) (hH : HistN lab n H)
    (h : ∀ a x, ((![v] : Fin 1 → IVec S16 32) a x).toNat < S16.size a) :
    HistN lab (n + 1) (storeIdx (F := F) (s := S16) (e := .i32) (d := ![16]) H ![v] (fun _ => 1#32) (fun _ => 1#1) true h) := by
  intro p
  rw [storeIdx_count, hH p, cntN_next lab n hn, BitVec.ofNat_add]
  congr 3
  ext k; simp [hv]

/-- The words made from the histogram. -/
structure Words (lab : Fin 512 → ℕ) (H C S : IVec S16 32) : Prop where
  h : ∀ p : Fin 16, H (ln p) = BitVec.ofNat 32 (hist lab p.val)
  c : ∀ p : Fin 16, C (ln p) = BitVec.ofNat 32 (ceil lab p.val)
  s : ∀ p : Fin 16, S (ln p) = BitVec.ofNat 32 (st lab p.val)

theorem and_mask (n : ℕ) (hn : n < 2 ^ 16) : (BitVec.ofNat 32 n + 15#32) &&& 4294967280#32 = BitVec.ofNat 32 ((n + 15) / 16 * 16) := by
  have h1 : BitVec.ofNat 32 n + 15#32 = BitVec.ofNat 32 (n + 15) := by rw [BitVec.ofNat_add]
  rw [h1]
  have h2 : BitVec.ofNat 32 (n + 15) &&& 4294967280#32 = (BitVec.ofNat 32 (n + 15) >>> 4) <<< 4 := by
    generalize BitVec.ofNat 32 (n + 15) = x
    apply BitVec.eq_of_getLsbD_eq
    intro i hi
    rw [BitVec.getLsbD_and, BitVec.getLsbD_shiftLeft, BitVec.getLsbD_ushiftRight]
    have : (4294967280#32).getLsbD i = decide (4 ≤ i) := by
      interval_cases i <;> rfl
    rw [this]
    by_cases h : 4 ≤ i
    · have e : 4 + (i - 4) = i := by omega
      simp [h, hi, e]
    · simp [h]
  rw [h2]
  apply BitVec.eq_of_toNat_eq
  rw [BitVec.toNat_shiftLeft, BitVec.toNat_ushiftRight, Nat.shiftRight_eq_div_pow, Nat.shiftLeft_eq]
  simp only [BitVec.toNat_ofNat]
  omega

theorem sum_ofNat {ι : Type} (s : Finset ι) (f : ι → ℕ) : ∑ i ∈ s, BitVec.ofNat 32 (f i) = BitVec.ofNat 32 (∑ i ∈ s, f i) := by
  classical
  induction s using Finset.induction_on with
  | empty => rfl
  | insert a s ha ih => rw [Finset.sum_insert ha, Finset.sum_insert ha, ih, BitVec.ofNat_add]

theorem pay91_eq (H : IVec S16 32) (hH : HistN lab 32 H) (p : Fin 16) : k0_pay91 (F := F) H (ln p) = BitVec.ofNat 32 (st lab (p.val + 1)) := by
  have hc : ∀ q : Fin 16, (H (ln q) + 15#32) &&& 4294967280#32 = BitVec.ofNat 32 (ceil lab q.val) := fun q => by
    rw [show H (ln q) = BitVec.ofNat 32 (hist lab q.val) from hH q, and_mask _ (lt_of_le_of_lt (hist_le lab q.val) (by norm_num))]; rfl
  rw [pay91_ln]
  simp only [hc]
  have h1 : ∀ i : Fin 16, (if i ≤ p then BitVec.ofNat 32 (ceil lab i.val) else 0) = BitVec.ofNat 32 (if i ≤ p then ceil lab i.val else 0) := fun i => by split <;> rfl
  simp only [h1]
  rw [sum_ofNat]
  congr 1
  unfold st
  rw [← Finset.sum_filter]
  refine Finset.sum_bij (fun (i : Fin 16) _ => i.val) ?_ ?_ ?_ ?_
  · intro i hi
    simp only [Finset.mem_filter, Finset.mem_univ, true_and, Fin.le_def] at hi
    rw [Finset.mem_range]; omega
  · intro a _ b _ h; exact Fin.ext h
  · intro b hb
    rw [Finset.mem_range] at hb
    exact ⟨⟨b, by omega⟩, by simp only [Finset.mem_filter, Finset.mem_univ, true_and, Fin.le_def]; omega, rfl⟩
  · intro _ _; rfl

theorem words_of_hist (H : IVec S16 32) (hH : HistN lab 32 H) : Words lab H (k0_pay90 (F := F) H) (k0_pay92 (F := F) H) := by
  have hc : ∀ p : Fin 16, k0_pay90 (F := F) H (ln p) = BitVec.ofNat 32 (ceil lab p.val) := fun p => by
    rw [pay90_ln, show H (ln p) = BitVec.ofNat 32 (hist lab p.val) from hH p, and_mask _ (lt_of_le_of_lt (hist_le lab p.val) (by norm_num))]; rfl
  refine ⟨hH, hc, fun p => ?_⟩
  rw [pay92_ln, hc, pay91_eq lab H hH p, st_succ, BitVec.ofNat_add, BitVec.add_sub_cancel]

theorem total_word (H : IVec S16 32) (hH : HistN lab 32 H) :
    extractAt ![15] (k0_pay128 (k0_pay93 (F := F) (iota .scVector S16 32 [0] iota_S16_d0_w32_scVector) H)) inpos_S16_p15 = BitVec.ofNat 32 (st lab 16) := by
  rw [total_eq, pay91_eq lab H hH 15]; rfl

/-! ## The pads -/

theorem slot_eq (v : IVec S16 32) (h : ∀ a x, ((![v] : Fin 1 → IVec S16 32) a x).toNat < S768.size a) (k : Fin 16) (x : S768.Idx) :
    x = idxAt (s := S768) (t := S16) ![v] h (ln k) ↔ (x 0).val = (v (ln k)).toNat := by
  constructor
  · rintro rfl; rfl
  · intro e; funext a; obtain rfl := Fin.eq_zero a; exact Fin.ext e

theorem scatter768_hit (f : IVec S768 32) (v w : IVec S16 32) (mask : IVec S16 1) (h : ∀ a x, ((![v] : Fin 1 → IVec S16 32) a x).toNat < S768.size a)
    (hinj : ∀ k k' : Fin 16, mask (ln k) = 1 → mask (ln k') = 1 → (v (ln k)).toNat = (v (ln k')).toNat → k = k') (k : Fin 16) (hm : mask (ln k) = 1)
    (x : S768.Idx) (hx : (x 0).val = (v (ln k)).toNat) :
    storeIdx (F := F) (s := S768) (e := .i32) (d := ![16]) f ![v] w mask false h x = w (ln k) := by
  rw [(slot_eq v h k x).mpr hx]
  refine (storeIdx_hit (F := F) (s := S768) (e := .i32) (d := ![16]) f ![v] w mask false h k hm ?_).trans rfl
  intro k' hm' hne he
  have he' := (slot_eq v h k' _).mp he
  exact hne (hinj k' k hm' hm (by rw [← he']; rfl))

theorem scatter768_miss (f : IVec S768 32) (v w : IVec S16 32) (mask : IVec S16 1) (h : ∀ a x, ((![v] : Fin 1 → IVec S16 32) a x).toNat < S768.size a)
    (x : S768.Idx) (hx : ∀ k : Fin 16, mask (ln k) = 1 → (x 0).val ≠ (v (ln k)).toNat) :
    storeIdx (F := F) (s := S768) (e := .i32) (d := ![16]) f ![v] w mask false h x = f x :=
  storeIdx_miss (F := F) (s := S768) (e := .i32) (d := ![16]) f ![v] w mask false h x fun k hm he => hx k hm ((slot_eq v h k x).mp he)

variable {lab}

theorem pad_word (hl : ∀ t, lab t < 16) {H C S : IVec S16 32} (hw : Words lab H C S) (p : Fin k0_t5_loop.trips) (k : Fin 16) :
    (k0_pay132 (F := F) H S p (ln k)).toNat = st lab p.val + hist lab p.val + k.val ∧ st lab p.val + hist lab p.val + k.val < 768 := by
  have hp : p.val < 16 := p.isLt
  have h2 := st_le lab hl (p.val + 1) (by omega)
  have h3 := st_succ lab p.val
  have h4 := hist_le_ceil lab p.val
  have hk := k.isLt
  rw [pay132_ln H S p k ⟨p.val, hp⟩ rfl, hw.s, hw.h]
  refine ⟨?_, by omega⟩
  simp only [BitVec.toNat_add, BitVec.toNat_ofNat]
  omega

theorem pad_chk (hl : ∀ t, lab t < 16) {H C S : IVec S16 32} (hw : Words lab H C S) (p : Fin k0_t5_loop.trips) :
    ∀ a x, ((![k0_pay132 (F := F) H S p] : Fin 1 → IVec S16 32) a x).toNat < S768.size a := by
  intro a x
  obtain rfl := Fin.eq_zero a
  obtain ⟨k, rfl⟩ := ln_surj x
  have := pad_word (F := F) hl hw p k
  show (k0_pay132 (F := F) H S p (ln k)).toNat < 768
  omega

theorem pad_mask (hl : ∀ t, lab t < 16) {H C S : IVec S16 32} (hw : Words lab H C S) (p : Fin k0_t5_loop.trips) (k : Fin 16) :
    k0_pay133 (F := F) H C p (ln k) = 1 ↔ hist lab p.val + k.val < ceil lab p.val := by
  have hp : p.val < 16 := p.isLt
  have h4 := hist_le lab p.val
  have h5 := ceil_le lab p.val
  have hk := k.isLt
  rw [pay133_ln H C p k ⟨p.val, hp⟩ rfl, hw.h, hw.c, cmpi_slt_eq]
  have e1 : (BitVec.ofNat 32 (hist lab p.val) + BitVec.ofNat 32 k.val) = BitVec.ofNat 32 (hist lab p.val + k.val) := by rw [BitVec.ofNat_add]
  simp only [e1]
  rw [toInt_small (by simp; omega), toInt_small (by simp; omega)]
  have e2 : ((BitVec.ofNat 32 (hist lab p.val + k.val)).toNat : ℤ) < (BitVec.ofNat 32 (ceil lab p.val)).toNat ↔ hist lab p.val + k.val < ceil lab p.val := by
    simp only [BitVec.toNat_ofNat]; omega
  simp only [e2]
  by_cases hh : hist lab p.val + k.val < ceil lab p.val <;> simp [hh]

theorem pads_step (hl : ∀ t, lab t < 16) {H C S : IVec S16 32} (hw : Words lab H C S) (p : Fin k0_t5_loop.trips) {ids labs : IVec S768 32}
    (h : Pads lab ids labs p.val) (hb hb') :
    Pads lab (storeIdx (F := F) (s := S768) (e := .i32) (d := ![16]) ids ![k0_pay132 (F := F) H S p] k0_pay134 (k0_pay133 (F := F) H C p) false hb)
      (storeIdx (F := F) (s := S768) (e := .i32) (d := ![16]) labs ![k0_pay132 (F := F) H S p] (k0_pay135 p) (k0_pay133 (F := F) H C p) false hb') (p.val + 1) := by
  have hinj : ∀ k k' : Fin 16, k0_pay133 (F := F) H C p (ln k) = 1 → k0_pay133 (F := F) H C p (ln k') = 1 →
      (k0_pay132 (F := F) H S p (ln k)).toNat = (k0_pay132 (F := F) H S p (ln k')).toNat → k = k' := fun k k' _ _ e => by
    rw [(pad_word hl hw p k).1, (pad_word hl hw p k').1] at e; exact Fin.ext (by omega)
  intro q hq x h1 h2
  by_cases hqp : q = p.val
  · subst hqp
    have hk : (x 0).val - (st lab p.val + hist lab p.val) < 16 := by have := ceil_le lab p.val; omega
    have hm : k0_pay133 (F := F) H C p (ln ⟨_, hk⟩) = 1 := (pad_mask hl hw p _).mpr (by simp only; omega)
    have hx : (x 0).val = (k0_pay132 (F := F) H S p (ln ⟨_, hk⟩)).toNat := by rw [(pad_word hl hw p _).1]; simp only; omega
    rw [scatter768_hit _ _ _ _ hb hinj ⟨_, hk⟩ hm x hx, scatter768_hit _ _ _ _ hb' hinj ⟨_, hk⟩ hm x hx]
    exact ⟨rfl, pay135_ln p _⟩
  · have hmiss : ∀ k : Fin 16, k0_pay133 (F := F) H C p (ln k) = 1 → (x 0).val ≠ (k0_pay132 (F := F) H S p (ln k)).toNat := by
      intro k hm he
      rw [(pad_word hl hw p k).1] at he
      have hm' := (pad_mask hl hw p k).mp hm
      exact hqp (seg_unique lab hl (x := (x 0).val) (by omega) h2 (by omega) (by omega))
    rw [scatter768_miss _ _ _ _ hb x hmiss, scatter768_miss _ _ _ _ hb' x hmiss]
    exact h q (by omega) x h1 h2

/-! ## A block of tokens -/

/-- The next free slot of each label, the first `16 n` tokens placed. -/
def CurN (lab : Fin 512 → ℕ) (n : ℕ) (cur : IVec S16 32) : Prop := ∀ p : Fin 16, cur (ln p) = BitVec.ofNat 32 (st lab p.val + cntN lab (16 * n) p.val)

theorem curN_zero {H C S : IVec S16 32} (hw : Words lab H C S) : CurN lab 0 S := fun p => by rw [hw.s, Nat.mul_zero, cntN_zero]; rfl

theorem pos_block (n : ℕ) (hn : n < 32) (V : IVec S16 32) (hV : ∀ k, (V (ln k)).toNat = lab (tk n hn k)) (i : Fin 16) :
    pos lab (tk n hn i) = st lab (lab (tk n hn i)) + cntN lab (16 * n) (lab (tk n hn i)) + eqb (kn V) i := by
  unfold pos eqb
  rw [cntN_block lab n hn _ i.val (by omega), ← Nat.add_assoc]
  congr 2
  ext k
  simp only [Finset.mem_filter, Finset.mem_univ, true_and, kn, hV, Fin.lt_def]
  exact And.comm

section Block
variable (n : ℕ) (hn : n < 32) (V skey sval prev cur : IVec S16 32) (hl : ∀ t, lab t < 16)
  (hV : ∀ k, (V (ln k)).toNat = lab (tk n hn k)) (hpl : PlacedN V V n 16 skey sval) (hpr : PrevN skey 15 prev) (hcur : CurN lab n cur)

theorem skey_lt (hl : ∀ t, lab t < 16) (hV : ∀ k, (V (ln k)).toNat = lab (tk n hn k)) (hpl : PlacedN V V n 16 skey sval) :
    ∀ a x, ((![skey] : Fin 1 → IVec S16 32) a x).toNat < S16.size a := by
  intro a x
  obtain rfl := Fin.eq_zero a
  obtain ⟨k, rfl⟩ := ln_surj x
  have := (hpl ((rkP (kn V)).symm k) (by omega)).1
  rw [Equiv.apply_symm_apply] at this
  show (skey (ln k)).toNat < 16
  rw [this, hV]; exact hl _

include hl hV hpl hpr hcur

theorem place_word (hb) (i : Fin 16) :
    (k0_pay144 (F := F) skey prev (loadIdx (F := F) (s := S16) (t := S16) (e := .i32) cur ![skey] hb) (ln (rkP (kn V) i))).toNat = pos lab (tk n hn i) := by
  rw [pay144_ln V skey prev _ (fun i => (hpl i (by omega)).1) (fun q k h => hpr q k (by omega) h) i]
  have h1 : loadIdx (F := F) (s := S16) (t := S16) (e := .i32) cur ![skey] hb (ln (rkP (kn V) i)) = BitVec.ofNat 32 (st lab (lab (tk n hn i)) + cntN lab (16 * n) (lab (tk n hn i))) := by
    have : loadIdx (F := F) (s := S16) (t := S16) (e := .i32) cur ![skey] hb (ln (rkP (kn V) i)) = cur (ln ⟨lab (tk n hn i), hl _⟩) := by
      show cur _ = cur _
      congr 1; funext a; obtain rfl := Fin.eq_zero a
      apply Fin.ext
      show (skey (ln (rkP (kn V) i))).toNat = lab (tk n hn i)
      rw [(hpl i (by omega)).1, hV]
    rw [this, hcur]
  rw [h1, ← BitVec.ofNat_add, ← pos_block n hn V hV i]
  have := pos_lt' lab hl (tk n hn i)
  simp; omega

theorem place_chk (hb) : ∀ a x, ((![k0_pay144 (F := F) skey prev (loadIdx (F := F) (s := S16) (t := S16) (e := .i32) cur ![skey] hb)] : Fin 1 → IVec S16 32) a x).toNat < S768.size a := by
  intro a x
  obtain rfl := Fin.eq_zero a
  obtain ⟨k, rfl⟩ := ln_surj x
  have := place_word (F := F) n hn V skey sval prev cur hl hV hpl hpr hcur hb ((rkP (kn V)).symm k)
  rw [Equiv.apply_symm_apply] at this
  have h2 := pos_lt' lab hl (tk n hn ((rkP (kn V)).symm k))
  show (k0_pay144 (F := F) skey prev (loadIdx (F := F) (s := S16) (t := S16) (e := .i32) cur ![skey] hb) (ln k)).toNat < 768
  omega

theorem toks_step {ids labs : IVec S768 32} (hp : Pads lab ids labs 16) (ht : Toks lab ids labs (16 * n)) (hb h1 h2) :
    Pads lab (storeIdx (F := F) (s := S768) (e := .i32) (d := ![16]) ids ![k0_pay144 (F := F) skey prev (loadIdx (F := F) (s := S16) (t := S16) (e := .i32) cur ![skey] hb)] sval (fun _ => 1#1) false h1)
        (storeIdx (F := F) (s := S768) (e := .i32) (d := ![16]) labs ![k0_pay144 (F := F) skey prev (loadIdx (F := F) (s := S16) (t := S16) (e := .i32) cur ![skey] hb)] skey (fun _ => 1#1) false h2) 16
    ∧ Toks lab (storeIdx (F := F) (s := S768) (e := .i32) (d := ![16]) ids ![k0_pay144 (F := F) skey prev (loadIdx (F := F) (s := S16) (t := S16) (e := .i32) cur ![skey] hb)] sval (fun _ => 1#1) false h1)
        (storeIdx (F := F) (s := S768) (e := .i32) (d := ![16]) labs ![k0_pay144 (F := F) skey prev (loadIdx (F := F) (s := S16) (t := S16) (e := .i32) cur ![skey] hb)] skey (fun _ => 1#1) false h2) (16 * (n + 1)) := by
  have hw := place_word (F := F) n hn V skey sval prev cur hl hV hpl hpr hcur hb
  generalize k0_pay144 (F := F) skey prev (loadIdx (F := F) (s := S16) (t := S16) (e := .i32) cur ![skey] hb) = W at hw h1 h2 ⊢
  have hw' : ∀ k : Fin 16, (W (ln k)).toNat = pos lab (tk n hn ((rkP (kn V)).symm k)) := fun k => by
    have := hw ((rkP (kn V)).symm k); rwa [Equiv.apply_symm_apply] at this
  have hinj : ∀ k k' : Fin 16, (fun _ => 1#1 : IVec S16 1) (ln k) = 1 → (fun _ => 1#1 : IVec S16 1) (ln k') = 1 → (W (ln k)).toNat = (W (ln k')).toNat → k = k' := by
    intro k k' _ _ e
    rw [hw', hw'] at e
    have := pos_inj lab hl e
    have : (rkP (kn V)).symm k = (rkP (kn V)).symm k' := Fin.ext (by have := congrArg Fin.val this; simp only at this; omega)
    exact (rkP (kn V)).symm.injective this
  constructor
  · intro p hp16 x a1 a2
    have hmiss : ∀ k : Fin 16, (fun _ => 1#1 : IVec S16 1) (ln k) = 1 → (x 0).val ≠ (W (ln k)).toNat := by
      intro k _ he
      rw [hw'] at he
      have b1 := pos_lt lab hl (tk n hn ((rkP (kn V)).symm k))
      have b2 := hist_le_ceil lab (lab (tk n hn ((rkP (kn V)).symm k)))
      have b3 : st lab (lab (tk n hn ((rkP (kn V)).symm k))) ≤ pos lab (tk n hn ((rkP (kn V)).symm k)) := by unfold pos; omega
      have := seg_unique lab hl (x := (x 0).val) (p := p) (by omega) a2 (by rw [he]; exact b3) (by omega)
      subst this
      omega
    rw [scatter768_miss _ _ _ _ h1 x hmiss, scatter768_miss _ _ _ _ h2 x hmiss]
    exact hp p hp16 x a1 a2
  · intro t htn x hx
    by_cases hlt : t.val < 16 * n
    · have hmiss : ∀ k : Fin 16, (fun _ => 1#1 : IVec S16 1) (ln k) = 1 → (x 0).val ≠ (W (ln k)).toNat := by
        intro k _ he
        rw [hw', hx] at he
        have := congrArg Fin.val (pos_inj lab hl he)
        simp only at this; omega
      rw [scatter768_miss _ _ _ _ h1 x hmiss, scatter768_miss _ _ _ _ h2 x hmiss]
      exact ht t hlt x hx
    · have hi : t.val - 16 * n < 16 := by omega
      have et : tk n hn ⟨t.val - 16 * n, hi⟩ = t := Fin.ext (by simp only; omega)
      have hx' : (x 0).val = (W (ln (rkP (kn V) ⟨_, hi⟩))).toNat := by rw [hw, et, hx]
      rw [scatter768_hit _ _ _ _ h1 hinj _ rfl x hx', scatter768_hit _ _ _ _ h2 hinj _ rfl x hx']
      obtain ⟨e1, e2⟩ := hpl ⟨_, hi⟩ (by simp only; omega)
      refine ⟨by rw [e2]; congr 1; simp only; omega, ?_⟩
      rw [e1]
      apply BitVec.eq_of_toNat_eq
      rw [hV, et]
      have := hl t; simp; omega

omit hpr in
theorem cur_step (hb) : CurN lab (n + 1) (storeIdx (F := F) (s := S16) (e := .i32) (d := ![16]) cur ![skey] (fun _ => 1#32) (fun _ => 1#1) true hb) := by
  intro p
  rw [storeIdx_count, hcur p, cntN_next lab n hn, ← Nat.add_assoc, BitVec.ofNat_add (x := st lab p.val + cntN lab (16 * n) p.val)]
  congr 2
  refine Finset.card_bij (fun k _ => (rkP (kn V)).symm k) ?_ ?_ ?_
  · intro k hk
    simp only [Finset.mem_filter, Finset.mem_univ, true_and] at hk ⊢
    have := (hpl ((rkP (kn V)).symm k) (by omega)).1
    rw [Equiv.apply_symm_apply] at this
    rw [← hV, ← this, hk]
  · intro a _ b _ h; exact (rkP (kn V)).symm.injective h
  · intro i hi
    simp only [Finset.mem_filter, Finset.mem_univ, true_and] at hi
    refine ⟨rkP (kn V) i, ?_, by simp⟩
    simp only [Finset.mem_filter, Finset.mem_univ, true_and]
    rw [(hpl i (by omega)).1, hV, hi]

end Block

end Cert.Proof.Chunk
-- ==== Proof.Base.lean ====
/-
  The ground of the tile program's proof: the program as the launch theorem sees it, the memrefs the body is called with,
  and the steps of a body over memrefs owned at stated contents.
-/
module

public import proofs.«01_k».proof.Proof.Steps
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import Idealize.ShloMosaic.Lib.LoopRemainder

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds beside the transfers' counters. -/
abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

abbrev cV (L : grid0.Coords) : Fin τ.nSC := (L 0).castLE hcore0
abbrev jV (L : grid0.Coords) : Fin τ.nSub := (L 1).castLE hsub0
/-- Tile `L` of device `d`. -/
abbrev th (d : Dev nD) (L : grid0.Coords) : Thread nD τ := V d (cV L) (jV L)

/-! ## The memrefs the body is called with -/

abbrev mF : Memref sig .scVector .hbm S4x128x30x2048 .f32 := Memref.whole main_arg0_scv
abbrev mL : Memref sig .scVector .hbm S4x30x2048 .i32 := Memref.whole main_arg1_scv
abbrev mR : Memref sig .scVector .hbm S2056 .f32 := Memref.whole main_v8_scv
abbrev mO : Memref sig .scVector .hbm S120x16x128 .f32 := Memref.whole main_v9_scv
abbrev mD : Memref sig .scVector .vmem S128x529 .f32 := Memref.whole cc0_scratch0
abbrev mLab : Memref sig .scVector .vmem S512 .i32 := Memref.whole cc0_scratch1
abbrev mId : Memref sig .scVector .vmem S768 .i32 := Memref.whole cc0_scratch2
abbrev mOl : Memref sig .scVector .vmem S768 .i32 := Memref.whole cc0_scratch3
abbrev mH : Memref sig .scVector .vmem S16 .i32 := Memref.whole cc0_scratch4
abbrev mC : Memref sig .scVector .vmem S16 .i32 := Memref.whole cc0_scratch5
abbrev mRv : Memref sig .scVector .vmem S2056 .f32 := Memref.whole cc0_scratch22
abbrev mSt : Memref sig .scVector .vmem S16x128 .f32 := Memref.whole cc0_scratch23
abbrev mS0 : Memref sig .scVector .vmem S16x16 .f32 := Memref.whole cc0_scratch6
abbrev mM0 : Memref sig .scVector .vmem S16x16 .f32 := Memref.whole cc0_scratch14
abbrev mS1 : Memref sig .scVector .vmem S16x16 .f32 := Memref.whole cc0_scratch7
abbrev mM1 : Memref sig .scVector .vmem S16x16 .f32 := Memref.whole cc0_scratch15
abbrev mS2 : Memref sig .scVector .vmem S16x16 .f32 := Memref.whole cc0_scratch8
abbrev mM2 : Memref sig .scVector .vmem S16x16 .f32 := Memref.whole cc0_scratch16
abbrev mS3 : Memref sig .scVector .vmem S16x16 .f32 := Memref.whole cc0_scratch9
abbrev mM3 : Memref sig .scVector .vmem S16x16 .f32 := Memref.whole cc0_scratch17
abbrev mS4 : Memref sig .scVector .vmem S16x16 .f32 := Memref.whole cc0_scratch10
abbrev mM4 : Memref sig .scVector .vmem S16x16 .f32 := Memref.whole cc0_scratch18
abbrev mS5 : Memref sig .scVector .vmem S16x16 .f32 := Memref.whole cc0_scratch11
abbrev mM5 : Memref sig .scVector .vmem S16x16 .f32 := Memref.whole cc0_scratch19
abbrev mS6 : Memref sig .scVector .vmem S16x16 .f32 := Memref.whole cc0_scratch12
abbrev mM6 : Memref sig .scVector .vmem S16x16 .f32 := Memref.whole cc0_scratch20
abbrev mS7 : Memref sig .scVector .vmem S16x16 .f32 := Memref.whole cc0_scratch13
abbrev mM7 : Memref sig .scVector .vmem S16x16 .f32 := Memref.whole cc0_scratch21

variable [FloatOps F]

/-! ## Steps over owned memrefs -/

section Rules

variable {c : Thread nD τ} {α : Type} {s : Shape} {e : EltTy}

theorem ow_load {Q : α → sProp 𝕄} {cs : CoreSpace} {M : Memref sig c.2.kind cs s e} {r : LoadRect s} {hl : M.view.LoadsAt r}
    {k : (r.shape.Idx → Elt F e) → Prog (TpuEff nD τ sig (Elt F) Λ₀ c.2) α} {q : PosShare TreeShare} {X : s.Idx → Elt F e} :
    (owns c M q X : sProp 𝕄) ⊢ iprop((owns c M q X -∗ wp frame (wpE (defs₀ (F := F)) 𝒱₀ c none) Set.univ (k fun j => X (r.idx j)) Q) -∗ wp frame (wpE (defs₀ (F := F)) 𝒱₀ c none) Set.univ (.op (.load M r hl) k) Q) := by
  unfold owns
  iintro ⟨%f, %hf, H⟩ Hk
  subst hf
  iapply (wp_load 𝒱₀ c none Set.univ (m := M) (S := M.view.set) (Finset.map_subset_map.mpr (Finset.subset_univ _))) $$ H
  iintro H
  iapply Hk
  iexists f; isplitr; · ipureintro; rfl
  iexact H

theorem access_whole_set {κ : Kind} {M : Memref sig κ .vmem s e} : (M.access (.whole s)).set ⊆ M.view.set :=
  by rw [View.set_slice]; exact Finset.map_subset_map.mpr (Finset.subset_univ _)

theorem ow_loadIdx {Q : α → sProp 𝕄} {t : Shape} {M : Memref sig c.2.kind .vmem s e} {idxs : Fin s.rank → IVec t 32} {h : ∀ a x, (idxs a x).toNat < s.size a}
    {hl : M.view.Loads} {k : Vec F t e → Prog (TpuEff nD τ sig (Elt F) Λ₀ c.2) α} {q : PosShare TreeShare} {X : s.Idx → Elt F e} :
    (owns c M q X : sProp 𝕄) ⊢ iprop((owns c M q X -∗ wp frame (wpE (defs₀ (F := F)) 𝒱₀ c none) Set.univ (k (loadIdx X idxs h)) Q) -∗ wp frame (wpE (defs₀ (F := F)) 𝒱₀ c none) Set.univ (SparseCore.vectorLoadIdx M idxs h hl >>= k) Q) := by
  rw [SparseCore.vectorLoadIdx_bind]
  iintro H Hk
  iapply (ow_load (M := M) (r := (Rect.whole s).toLoadRect)) $$ H
  iintro H
  have e1 : (fun j => X ((Rect.whole s).toLoadRect.idx j)) = X := funext fun j => congrArg X (Rect.emb_whole_apply _ j)
  rw [e1]
  iapply Hk $$ H

/-- `Y` is `X` with `w` put at the rectangle `r`. -/
def PutAt (r : Rect s) (X Y : s.Idx → Elt F e) (w : r.shape.Idx → Elt F e) : Prop :=
  (∀ x, Y (r.emb x) = w x) ∧ ∀ y, (∀ x, y ≠ r.emb x) → Y y = X y

theorem ow_store {Q : α → sProp 𝕄} {cs : CoreSpace} {M : Memref sig c.2.kind cs s e} {r : Rect s} {w : r.shape.Idx → Elt F e} {hx : (M.access r).Stores Finset.univ}
    {hm : (Finset.univ : Finset r.shape.Idx) = Finset.univ ∨ ∀ a, r.stride a = 1}
    {k : PUnit → Prog (TpuEff nD τ sig (Elt F) Λ₀ c.2) α} {X : s.Idx → Elt F e} :
    (owns c M fullShare X : sProp 𝕄)
      ⊢ iprop((∀ Y, ⌜PutAt r X Y w⌝ -∗ owns c M fullShare Y -∗ wp frame (wpE (defs₀ (F := F)) 𝒱₀ c none) Set.univ (k ⟨⟩) Q) -∗ wp frame (wpE (defs₀ (F := F)) 𝒱₀ c none) Set.univ (.op (.store M r w Finset.univ hx hm) k) Q) := by
  unfold owns
  iintro ⟨%f, %hf, H⟩ Hk
  subst hf
  iapply (wp_store 𝒱₀ c none Set.univ (m := M) (r := r) (Mk := Finset.univ) (S := M.view.set)
    (by show (M.view.slice r).set ⊆ _; rw [View.set_slice]; exact Finset.map_subset_map.mpr (Finset.subset_univ _))) $$ H
  iintro H
  iapply Hk $$ %(M.view.read (Elt F) ((M.access r).write (Elt F) f w Finset.univ)) [] [H]
  · ipureintro
    refine ⟨fun x => View.read_slice_write_emb r f w (Finset.mem_univ x), fun y hy => View.read_slice_write_of_not_mem r f w _ fun hm => ?_⟩
    obtain ⟨x, -, hx'⟩ := Finset.mem_map.mp hm
    exact hy x hx'.symm
  · iexists _; isplitr; · ipureintro; rfl
    iexact H

theorem PutAt.whole {X Y w : s.Idx → Elt F e} (h : PutAt (Rect.whole s) X Y w) : Y = w :=
  funext fun x => by have := h.1 x; rwa [Rect.emb_whole_apply] at this

theorem ow_storeIdx {Q : α → sProp 𝕄} {d : Fin 1 → Nat} {M : Memref sig c.2.kind .vmem s e} {idxs : Fin s.rank → IVec ⟨1, d⟩ 32} {v : Vec F ⟨1, d⟩ e}
    {mask : IVec ⟨1, d⟩ 1} {add : Bool} {h : ∀ a x, (idxs a x).toNat < s.size a} {hs : (M.access (.whole s)).Stores Finset.univ}
    {k : PUnit → Prog (TpuEff nD τ sig (Elt F) Λ₀ c.2) α} {X : s.Idx → Elt F e} :
    (owns c M fullShare X : sProp 𝕄)
      ⊢ iprop((owns c M fullShare (storeIdx X idxs v mask add h) -∗ wp frame (wpE (defs₀ (F := F)) 𝒱₀ c none) Set.univ (k ⟨⟩) Q)
        -∗ wp frame (wpE (defs₀ (F := F)) 𝒱₀ c none) Set.univ (SparseCore.vectorStoreIdx M idxs v mask add h hs >>= k) Q) := by
  rw [SparseCore.vectorStoreIdx_bind]
  iintro H Hk
  iapply (ow_load (M := M) (r := (Rect.whole s).toLoadRect)) $$ H
  iintro H
  have e1 : (fun j => X ((Rect.whole s).toLoadRect.idx j)) = X := funext fun j => congrArg X (Rect.emb_whole_apply _ j)
  rw [e1]
  iapply (ow_store (M := M) (r := Rect.whole s)) $$ H
  iintro %Y %hY H
  rw [PutAt.whole hY]
  iapply Hk $$ H

theorem ow_assume {Q : α → sProp 𝕄} {P : Prop} {dec : Decidable P} {k : PLift P → Prog (TpuEff nD τ sig (Elt F) Λ₀ c.2) α} (h : P) :
    (wp frame (wpE (defs₀ (F := F)) 𝒱₀ c none) Set.univ (k ⟨h⟩) Q : sProp 𝕄) ⊢ wp frame (wpE (defs₀ (F := F)) 𝒱₀ c none) Set.univ (.op (.assume P dec) k) Q := wp_assume 𝒱₀ c none Set.univ h

/-- A counted loop by an invariant. -/
theorem ow_for {σ β : Type} (l : Scf.Loop 32) (hok : Scf.OK l.lb l.ub l.st) (init : σ) (body : Fin l.trips → σ → Prog (TpuEff nD τ sig (Elt F) Λ₀ c.2) σ)
    {kk : σ → Prog (TpuEff nD τ sig (Elt F) Λ₀ c.2) β} {Q : β → sProp 𝕄} (I : ℕ → σ → sProp 𝕄)
    (hbody : ∀ (k : Fin l.trips) (acc : σ), I k acc ⊢ wp frame (wpE (defs₀ (F := F)) 𝒱₀ c none) Set.univ (body k acc) (I (k.val + 1))) :
    I 0 init ⊢ iprop((∀ acc, I l.trips acc -∗ wp frame (wpE (defs₀ (F := F)) 𝒱₀ c none) Set.univ (kk acc) Q) -∗ wp frame (wpE (defs₀ (F := F)) 𝒱₀ c none) Set.univ (Scf.Loop.for l hok init body >>= kk) Q) :=
  Scf.wp_for_bind frame _ Set.univ l.lb l.ub l.st hok init body I hbody

end Rules

/-! ## The loops' bodies at those memrefs -/

abbrev bT1 (i : grid0.Coords) (v1 : BitVec 32) :=
  k0_t1_body (F := F) i mF (Memref.isWhole_whole _) mL (Memref.isWhole_whole _) mR (Memref.isWhole_whole _) mO (Memref.isWhole_whole _) mD (Memref.isWhole_whole _) mLab (Memref.isWhole_whole _) mId (Memref.isWhole_whole _) mOl (Memref.isWhole_whole _) mH (Memref.isWhole_whole _) mC (Memref.isWhole_whole _) mS0 (Memref.isWhole_whole _) mS1 (Memref.isWhole_whole _) mS2 (Memref.isWhole_whole _) mS3 (Memref.isWhole_whole _) mS4 (Memref.isWhole_whole _) mS5 (Memref.isWhole_whole _) mS6 (Memref.isWhole_whole _) mS7 (Memref.isWhole_whole _) mM0 (Memref.isWhole_whole _) mM1 (Memref.isWhole_whole _) mM2 (Memref.isWhole_whole _) mM3 (Memref.isWhole_whole _) mM4 (Memref.isWhole_whole _) mM5 (Memref.isWhole_whole _) mM6 (Memref.isWhole_whole _) mM7 (Memref.isWhole_whole _) mRv (Memref.isWhole_whole _) mSt (Memref.isWhole_whole _) cc0_scratch24 cc0_scoped0 cc0_scoped1 cc0_scoped2 v1

abbrev bT2 (i : grid0.Coords) (k0_t1 : Fin k0_t1_loop.trips) (v37 : BitVec 32) (k0_h1 : k0_cond1 i k0_t1 = 1#1) :=
  k0_t2_body (F := F) i mF (Memref.isWhole_whole _) mL (Memref.isWhole_whole _) mR (Memref.isWhole_whole _) mO (Memref.isWhole_whole _) mD (Memref.isWhole_whole _) mLab (Memref.isWhole_whole _) mId (Memref.isWhole_whole _) mOl (Memref.isWhole_whole _) mH (Memref.isWhole_whole _) mC (Memref.isWhole_whole _) mS0 (Memref.isWhole_whole _) mS1 (Memref.isWhole_whole _) mS2 (Memref.isWhole_whole _) mS3 (Memref.isWhole_whole _) mS4 (Memref.isWhole_whole _) mS5 (Memref.isWhole_whole _) mS6 (Memref.isWhole_whole _) mS7 (Memref.isWhole_whole _) mM0 (Memref.isWhole_whole _) mM1 (Memref.isWhole_whole _) mM2 (Memref.isWhole_whole _) mM3 (Memref.isWhole_whole _) mM4 (Memref.isWhole_whole _) mM5 (Memref.isWhole_whole _) mM6 (Memref.isWhole_whole _) mM7 (Memref.isWhole_whole _) mRv (Memref.isWhole_whole _) mSt (Memref.isWhole_whole _) cc0_scratch24 cc0_scoped0 cc0_scoped1 cc0_scoped2 k0_t1 v37 k0_h1

abbrev bT3 (i : grid0.Coords) (k0_t1 : Fin k0_t1_loop.trips) (v37 : BitVec 32) (k0_h1 : k0_cond1 i k0_t1 = 1#1) (v41 : IVec S16 32) :=
  k0_t3_body (F := F) i mF (Memref.isWhole_whole _) mL (Memref.isWhole_whole _) mR (Memref.isWhole_whole _) mO (Memref.isWhole_whole _) mD (Memref.isWhole_whole _) mLab (Memref.isWhole_whole _) mId (Memref.isWhole_whole _) mOl (Memref.isWhole_whole _) mH (Memref.isWhole_whole _) mC (Memref.isWhole_whole _) mS0 (Memref.isWhole_whole _) mS1 (Memref.isWhole_whole _) mS2 (Memref.isWhole_whole _) mS3 (Memref.isWhole_whole _) mS4 (Memref.isWhole_whole _) mS5 (Memref.isWhole_whole _) mS6 (Memref.isWhole_whole _) mS7 (Memref.isWhole_whole _) mM0 (Memref.isWhole_whole _) mM1 (Memref.isWhole_whole _) mM2 (Memref.isWhole_whole _) mM3 (Memref.isWhole_whole _) mM4 (Memref.isWhole_whole _) mM5 (Memref.isWhole_whole _) mM6 (Memref.isWhole_whole _) mM7 (Memref.isWhole_whole _) mRv (Memref.isWhole_whole _) mSt (Memref.isWhole_whole _) cc0_scratch24 cc0_scoped0 cc0_scoped1 cc0_scoped2 k0_t1 v37 k0_h1 v41

abbrev bT4 (i : grid0.Coords) (k0_t1 : Fin k0_t1_loop.trips) (k0_h1 : k0_cond1 i k0_t1 = 1#1) (v41 : IVec S16 32) (v42 : IVec S16 32) (c0_i32_33 : BitVec 32) (c1_i32_35 : BitVec 32) (k0_t3 : Fin k0_t3_loop.trips) :=
  k0_t4_body (F := F) i mF (Memref.isWhole_whole _) mL (Memref.isWhole_whole _) mR (Memref.isWhole_whole _) mO (Memref.isWhole_whole _) mD (Memref.isWhole_whole _) mLab (Memref.isWhole_whole _) mId (Memref.isWhole_whole _) mOl (Memref.isWhole_whole _) mH (Memref.isWhole_whole _) mC (Memref.isWhole_whole _) mS0 (Memref.isWhole_whole _) mS1 (Memref.isWhole_whole _) mS2 (Memref.isWhole_whole _) mS3 (Memref.isWhole_whole _) mS4 (Memref.isWhole_whole _) mS5 (Memref.isWhole_whole _) mS6 (Memref.isWhole_whole _) mS7 (Memref.isWhole_whole _) mM0 (Memref.isWhole_whole _) mM1 (Memref.isWhole_whole _) mM2 (Memref.isWhole_whole _) mM3 (Memref.isWhole_whole _) mM4 (Memref.isWhole_whole _) mM5 (Memref.isWhole_whole _) mM6 (Memref.isWhole_whole _) mM7 (Memref.isWhole_whole _) mRv (Memref.isWhole_whole _) mSt (Memref.isWhole_whole _) cc0_scratch24 cc0_scoped0 cc0_scoped1 cc0_scoped2 k0_t1 k0_h1 v41 v42 c0_i32_33 c1_i32_35 k0_t3

abbrev bT5 (i : grid0.Coords) (k0_t1 : Fin k0_t1_loop.trips) (v37 : BitVec 32) (k0_h1 : k0_cond1 i k0_t1 = 1#1) (v79 : Vec F S16 .i32) (v83 : IVec S16 32) (v86 : IVec S16 32) :=
  k0_t5_body (F := F) i mF (Memref.isWhole_whole _) mL (Memref.isWhole_whole _) mR (Memref.isWhole_whole _) mO (Memref.isWhole_whole _) mD (Memref.isWhole_whole _) mLab (Memref.isWhole_whole _) mId (Memref.isWhole_whole _) mOl (Memref.isWhole_whole _) mH (Memref.isWhole_whole _) mC (Memref.isWhole_whole _) mS0 (Memref.isWhole_whole _) mS1 (Memref.isWhole_whole _) mS2 (Memref.isWhole_whole _) mS3 (Memref.isWhole_whole _) mS4 (Memref.isWhole_whole _) mS5 (Memref.isWhole_whole _) mS6 (Memref.isWhole_whole _) mS7 (Memref.isWhole_whole _) mM0 (Memref.isWhole_whole _) mM1 (Memref.isWhole_whole _) mM2 (Memref.isWhole_whole _) mM3 (Memref.isWhole_whole _) mM4 (Memref.isWhole_whole _) mM5 (Memref.isWhole_whole _) mM6 (Memref.isWhole_whole _) mM7 (Memref.isWhole_whole _) mRv (Memref.isWhole_whole _) mSt (Memref.isWhole_whole _) cc0_scratch24 cc0_scoped0 cc0_scoped1 cc0_scoped2 k0_t1 v37 k0_h1 v79 v83 v86

abbrev bT6 (i : grid0.Coords) (k0_t1 : Fin k0_t1_loop.trips) (v37 : BitVec 32) (k0_h1 : k0_cond1 i k0_t1 = 1#1) :=
  k0_t6_body (F := F) i mF (Memref.isWhole_whole _) mL (Memref.isWhole_whole _) mR (Memref.isWhole_whole _) mO (Memref.isWhole_whole _) mD (Memref.isWhole_whole _) mLab (Memref.isWhole_whole _) mId (Memref.isWhole_whole _) mOl (Memref.isWhole_whole _) mH (Memref.isWhole_whole _) mC (Memref.isWhole_whole _) mS0 (Memref.isWhole_whole _) mS1 (Memref.isWhole_whole _) mS2 (Memref.isWhole_whole _) mS3 (Memref.isWhole_whole _) mS4 (Memref.isWhole_whole _) mS5 (Memref.isWhole_whole _) mS6 (Memref.isWhole_whole _) mS7 (Memref.isWhole_whole _) mM0 (Memref.isWhole_whole _) mM1 (Memref.isWhole_whole _) mM2 (Memref.isWhole_whole _) mM3 (Memref.isWhole_whole _) mM4 (Memref.isWhole_whole _) mM5 (Memref.isWhole_whole _) mM6 (Memref.isWhole_whole _) mM7 (Memref.isWhole_whole _) mRv (Memref.isWhole_whole _) mSt (Memref.isWhole_whole _) cc0_scratch24 cc0_scoped0 cc0_scoped1 cc0_scoped2 k0_t1 v37 k0_h1

abbrev bT7 (i : grid0.Coords) (k0_t1 : Fin k0_t1_loop.trips) (v37 : BitVec 32) (k0_h1 : k0_cond1 i k0_t1 = 1#1) (v114 : Vec F S16 .i32) :=
  k0_t7_body (F := F) i mF (Memref.isWhole_whole _) mL (Memref.isWhole_whole _) mR (Memref.isWhole_whole _) mO (Memref.isWhole_whole _) mD (Memref.isWhole_whole _) mLab (Memref.isWhole_whole _) mId (Memref.isWhole_whole _) mOl (Memref.isWhole_whole _) mH (Memref.isWhole_whole _) mC (Memref.isWhole_whole _) mS0 (Memref.isWhole_whole _) mS1 (Memref.isWhole_whole _) mS2 (Memref.isWhole_whole _) mS3 (Memref.isWhole_whole _) mS4 (Memref.isWhole_whole _) mS5 (Memref.isWhole_whole _) mS6 (Memref.isWhole_whole _) mS7 (Memref.isWhole_whole _) mM0 (Memref.isWhole_whole _) mM1 (Memref.isWhole_whole _) mM2 (Memref.isWhole_whole _) mM3 (Memref.isWhole_whole _) mM4 (Memref.isWhole_whole _) mM5 (Memref.isWhole_whole _) mM6 (Memref.isWhole_whole _) mM7 (Memref.isWhole_whole _) mRv (Memref.isWhole_whole _) mSt (Memref.isWhole_whole _) cc0_scratch24 cc0_scoped0 cc0_scoped1 cc0_scoped2 k0_t1 v37 k0_h1 v114

abbrev bT8 (i : grid0.Coords) (k0_t1 : Fin k0_t1_loop.trips) (v37 : BitVec 32) (k0_h1 : k0_cond1 i k0_t1 = 1#1) (k0_t6 : Fin k0_t6_loop.trips) (v114 : Vec F S16 .i32) (v120 : IVec S16 32) :=
  k0_t8_body (F := F) i mF (Memref.isWhole_whole _) mL (Memref.isWhole_whole _) mR (Memref.isWhole_whole _) mO (Memref.isWhole_whole _) mD (Memref.isWhole_whole _) mLab (Memref.isWhole_whole _) mId (Memref.isWhole_whole _) mOl (Memref.isWhole_whole _) mH (Memref.isWhole_whole _) mC (Memref.isWhole_whole _) mS0 (Memref.isWhole_whole _) mS1 (Memref.isWhole_whole _) mS2 (Memref.isWhole_whole _) mS3 (Memref.isWhole_whole _) mS4 (Memref.isWhole_whole _) mS5 (Memref.isWhole_whole _) mS6 (Memref.isWhole_whole _) mS7 (Memref.isWhole_whole _) mM0 (Memref.isWhole_whole _) mM1 (Memref.isWhole_whole _) mM2 (Memref.isWhole_whole _) mM3 (Memref.isWhole_whole _) mM4 (Memref.isWhole_whole _) mM5 (Memref.isWhole_whole _) mM6 (Memref.isWhole_whole _) mM7 (Memref.isWhole_whole _) mRv (Memref.isWhole_whole _) mSt (Memref.isWhole_whole _) cc0_scratch24 cc0_scoped0 cc0_scoped1 cc0_scoped2 k0_t1 v37 k0_h1 k0_t6 v114 v120

abbrev bT9 (i : grid0.Coords) (k0_t1 : Fin k0_t1_loop.trips) (v37 : BitVec 32) (k0_h1 : k0_cond1 i k0_t1 = 1#1) (v124_0 : IVec S16 32) :=
  k0_t9_body (F := F) i mF (Memref.isWhole_whole _) mL (Memref.isWhole_whole _) mR (Memref.isWhole_whole _) mO (Memref.isWhole_whole _) mD (Memref.isWhole_whole _) mLab (Memref.isWhole_whole _) mId (Memref.isWhole_whole _) mOl (Memref.isWhole_whole _) mH (Memref.isWhole_whole _) mC (Memref.isWhole_whole _) mS0 (Memref.isWhole_whole _) mS1 (Memref.isWhole_whole _) mS2 (Memref.isWhole_whole _) mS3 (Memref.isWhole_whole _) mS4 (Memref.isWhole_whole _) mS5 (Memref.isWhole_whole _) mS6 (Memref.isWhole_whole _) mS7 (Memref.isWhole_whole _) mM0 (Memref.isWhole_whole _) mM1 (Memref.isWhole_whole _) mM2 (Memref.isWhole_whole _) mM3 (Memref.isWhole_whole _) mM4 (Memref.isWhole_whole _) mM5 (Memref.isWhole_whole _) mM6 (Memref.isWhole_whole _) mM7 (Memref.isWhole_whole _) mRv (Memref.isWhole_whole _) mSt (Memref.isWhole_whole _) cc0_scratch24 cc0_scoped0 cc0_scoped1 cc0_scoped2 k0_t1 v37 k0_h1 v124_0

abbrev bT10 (i : grid0.Coords) (k0_t1 : Fin k0_t1_loop.trips) (v37 : BitVec 32) (k0_h1 : k0_cond1 i k0_t1 = 1#1) (v41 : IVec S16 32) (v94 : BitVec 32) (k0_hw13 : k0_chk13 i k0_t1 v94) :=
  k0_t10_body (F := F) i mF (Memref.isWhole_whole _) mL (Memref.isWhole_whole _) mR (Memref.isWhole_whole _) mO (Memref.isWhole_whole _) mD (Memref.isWhole_whole _) mLab (Memref.isWhole_whole _) mId (Memref.isWhole_whole _) mOl (Memref.isWhole_whole _) mH (Memref.isWhole_whole _) mC (Memref.isWhole_whole _) mS0 (Memref.isWhole_whole _) mS1 (Memref.isWhole_whole _) mS2 (Memref.isWhole_whole _) mS3 (Memref.isWhole_whole _) mS4 (Memref.isWhole_whole _) mS5 (Memref.isWhole_whole _) mS6 (Memref.isWhole_whole _) mS7 (Memref.isWhole_whole _) mM0 (Memref.isWhole_whole _) mM1 (Memref.isWhole_whole _) mM2 (Memref.isWhole_whole _) mM3 (Memref.isWhole_whole _) mM4 (Memref.isWhole_whole _) mM5 (Memref.isWhole_whole _) mM6 (Memref.isWhole_whole _) mM7 (Memref.isWhole_whole _) mRv (Memref.isWhole_whole _) mSt (Memref.isWhole_whole _) cc0_scratch24 cc0_scoped0 cc0_scoped1 cc0_scoped2 k0_t1 v37 k0_h1 v41 v94 k0_hw13

abbrev bT11 (i : grid0.Coords) (k0_t1 : Fin k0_t1_loop.trips) (k0_h1 : k0_cond1 i k0_t1 = 1#1) (v41 : IVec S16 32) (v44 : IVec S16 32) (v46 : IVec S16 32) (v48 : IVec S16 32) (v50 : IVec S16 32) (v52 : IVec S16 32) (v54 : IVec S16 32) (v56 : IVec S16 32) (v58 : IVec S16 32) (v94 : BitVec 32) (k0_hw13 : k0_chk13 i k0_t1 v94) (c0_i32_73 : BitVec 32) (c1_i32_75 : BitVec 32) (k0_t10 : Fin (k0_t10_loop v94).trips) (v114 : Vec F S16 .i32) :=
  k0_t11_body (F := F) i mF (Memref.isWhole_whole _) mL (Memref.isWhole_whole _) mR (Memref.isWhole_whole _) mO (Memref.isWhole_whole _) mD (Memref.isWhole_whole _) mLab (Memref.isWhole_whole _) mId (Memref.isWhole_whole _) mOl (Memref.isWhole_whole _) mH (Memref.isWhole_whole _) mC (Memref.isWhole_whole _) mS0 (Memref.isWhole_whole _) mS1 (Memref.isWhole_whole _) mS2 (Memref.isWhole_whole _) mS3 (Memref.isWhole_whole _) mS4 (Memref.isWhole_whole _) mS5 (Memref.isWhole_whole _) mS6 (Memref.isWhole_whole _) mS7 (Memref.isWhole_whole _) mM0 (Memref.isWhole_whole _) mM1 (Memref.isWhole_whole _) mM2 (Memref.isWhole_whole _) mM3 (Memref.isWhole_whole _) mM4 (Memref.isWhole_whole _) mM5 (Memref.isWhole_whole _) mM6 (Memref.isWhole_whole _) mM7 (Memref.isWhole_whole _) mRv (Memref.isWhole_whole _) mSt (Memref.isWhole_whole _) cc0_scratch24 cc0_scoped0 cc0_scoped1 cc0_scoped2 k0_t1 k0_h1 v41 v44 v46 v48 v50 v52 v54 v56 v58 v94 k0_hw13 c0_i32_73 c1_i32_75 k0_t10 v114

abbrev bT12 (i : grid0.Coords) (k0_t1 : Fin k0_t1_loop.trips) (v37 : BitVec 32) (k0_h1 : k0_cond1 i k0_t1 = 1#1) (v41 : IVec S16 32) (v94 : BitVec 32) (k0_hw13 : k0_chk13 i k0_t1 v94) (v111 : BitVec 32) :=
  k0_t12_body (F := F) i mF (Memref.isWhole_whole _) mL (Memref.isWhole_whole _) mR (Memref.isWhole_whole _) mO (Memref.isWhole_whole _) mD (Memref.isWhole_whole _) mLab (Memref.isWhole_whole _) mId (Memref.isWhole_whole _) mOl (Memref.isWhole_whole _) mH (Memref.isWhole_whole _) mC (Memref.isWhole_whole _) mS0 (Memref.isWhole_whole _) mS1 (Memref.isWhole_whole _) mS2 (Memref.isWhole_whole _) mS3 (Memref.isWhole_whole _) mS4 (Memref.isWhole_whole _) mS5 (Memref.isWhole_whole _) mS6 (Memref.isWhole_whole _) mS7 (Memref.isWhole_whole _) mM0 (Memref.isWhole_whole _) mM1 (Memref.isWhole_whole _) mM2 (Memref.isWhole_whole _) mM3 (Memref.isWhole_whole _) mM4 (Memref.isWhole_whole _) mM5 (Memref.isWhole_whole _) mM6 (Memref.isWhole_whole _) mM7 (Memref.isWhole_whole _) mRv (Memref.isWhole_whole _) mSt (Memref.isWhole_whole _) cc0_scratch24 cc0_scoped0 cc0_scoped1 cc0_scoped2 k0_t1 v37 k0_h1 v41 v94 k0_hw13 v111

abbrev bT14 (i : grid0.Coords) (k0_t1 : Fin k0_t1_loop.trips) (v37 : BitVec 32) (k0_h1 : k0_cond1 i k0_t1 = 1#1) (v67_0 : IVec S16 32) (v67_1 : IVec S16 32) :=
  k0_t14_body (F := F) i mF (Memref.isWhole_whole _) mL (Memref.isWhole_whole _) mR (Memref.isWhole_whole _) mO (Memref.isWhole_whole _) mD (Memref.isWhole_whole _) mLab (Memref.isWhole_whole _) mId (Memref.isWhole_whole _) mOl (Memref.isWhole_whole _) mH (Memref.isWhole_whole _) mC (Memref.isWhole_whole _) mS0 (Memref.isWhole_whole _) mS1 (Memref.isWhole_whole _) mS2 (Memref.isWhole_whole _) mS3 (Memref.isWhole_whole _) mS4 (Memref.isWhole_whole _) mS5 (Memref.isWhole_whole _) mS6 (Memref.isWhole_whole _) mS7 (Memref.isWhole_whole _) mM0 (Memref.isWhole_whole _) mM1 (Memref.isWhole_whole _) mM2 (Memref.isWhole_whole _) mM3 (Memref.isWhole_whole _) mM4 (Memref.isWhole_whole _) mM5 (Memref.isWhole_whole _) mM6 (Memref.isWhole_whole _) mM7 (Memref.isWhole_whole _) mRv (Memref.isWhole_whole _) mSt (Memref.isWhole_whole _) cc0_scratch24 cc0_scoped0 cc0_scoped1 cc0_scoped2 k0_t1 v37 k0_h1 v67_0 v67_1

abbrev bP1 (i : grid0.Coords) (k0_t1 : Fin k0_t1_loop.trips) (k0_h1 : k0_cond1 i k0_t1 = 1#1) (c0_i32_27 : BitVec 32) (c1_i32_29 : BitVec 32) (k0_t2 : Fin k0_t2_loop.trips) :=
  k0_part1_skel (F := F) i mF (Memref.isWhole_whole _) mL (Memref.isWhole_whole _) mR (Memref.isWhole_whole _) mO (Memref.isWhole_whole _) mD (Memref.isWhole_whole _) mLab (Memref.isWhole_whole _) mId (Memref.isWhole_whole _) mOl (Memref.isWhole_whole _) mH (Memref.isWhole_whole _) mC (Memref.isWhole_whole _) mS0 (Memref.isWhole_whole _) mS1 (Memref.isWhole_whole _) mS2 (Memref.isWhole_whole _) mS3 (Memref.isWhole_whole _) mS4 (Memref.isWhole_whole _) mS5 (Memref.isWhole_whole _) mS6 (Memref.isWhole_whole _) mS7 (Memref.isWhole_whole _) mM0 (Memref.isWhole_whole _) mM1 (Memref.isWhole_whole _) mM2 (Memref.isWhole_whole _) mM3 (Memref.isWhole_whole _) mM4 (Memref.isWhole_whole _) mM5 (Memref.isWhole_whole _) mM6 (Memref.isWhole_whole _) mM7 (Memref.isWhole_whole _) mRv (Memref.isWhole_whole _) mSt (Memref.isWhole_whole _) cc0_scratch24 cc0_scoped0 cc0_scoped1 cc0_scoped2 k0_t1 k0_h1 c0_i32_27 c1_i32_29 k0_t2

abbrev bP2 (i : grid0.Coords) (k0_t1 : Fin k0_t1_loop.trips) (k0_h1 : k0_cond1 i k0_t1 = 1#1) (v41 : IVec S16 32) (v44 : IVec S16 32) (v46 : IVec S16 32) (v48 : IVec S16 32) (v50 : IVec S16 32) (v52 : IVec S16 32) (v54 : IVec S16 32) (v56 : IVec S16 32) (v58 : IVec S16 32) (v94 : BitVec 32) (k0_hw13 : k0_chk13 i k0_t1 v94) (c0_i32_73 : BitVec 32) (c1_i32_75 : BitVec 32) (k0_t10 : Fin (k0_t10_loop v94).trips) :=
  k0_part2_skel (F := F) i mF (Memref.isWhole_whole _) mL (Memref.isWhole_whole _) mR (Memref.isWhole_whole _) mO (Memref.isWhole_whole _) mD (Memref.isWhole_whole _) mLab (Memref.isWhole_whole _) mId (Memref.isWhole_whole _) mOl (Memref.isWhole_whole _) mH (Memref.isWhole_whole _) mC (Memref.isWhole_whole _) mS0 (Memref.isWhole_whole _) mS1 (Memref.isWhole_whole _) mS2 (Memref.isWhole_whole _) mS3 (Memref.isWhole_whole _) mS4 (Memref.isWhole_whole _) mS5 (Memref.isWhole_whole _) mS6 (Memref.isWhole_whole _) mS7 (Memref.isWhole_whole _) mM0 (Memref.isWhole_whole _) mM1 (Memref.isWhole_whole _) mM2 (Memref.isWhole_whole _) mM3 (Memref.isWhole_whole _) mM4 (Memref.isWhole_whole _) mM5 (Memref.isWhole_whole _) mM6 (Memref.isWhole_whole _) mM7 (Memref.isWhole_whole _) mRv (Memref.isWhole_whole _) mSt (Memref.isWhole_whole _) cc0_scratch24 cc0_scoped0 cc0_scoped1 cc0_scoped2 k0_t1 k0_h1 v41 v44 v46 v48 v50 v52 v54 v56 v58 v94 k0_hw13 c0_i32_73 c1_i32_75 k0_t10

abbrev bP4 (i : grid0.Coords) (k0_t1 : Fin k0_t1_loop.trips) (k0_h1 : k0_cond1 i k0_t1 = 1#1) (v41 : IVec S16 32) (v42 : IVec S16 32) (c0_i32_33 : BitVec 32) (c1_i32_35 : BitVec 32) (k0_t3 : Fin k0_t3_loop.trips) :=
  k0_part4_skel (F := F) i mF (Memref.isWhole_whole _) mL (Memref.isWhole_whole _) mR (Memref.isWhole_whole _) mO (Memref.isWhole_whole _) mD (Memref.isWhole_whole _) mLab (Memref.isWhole_whole _) mId (Memref.isWhole_whole _) mOl (Memref.isWhole_whole _) mH (Memref.isWhole_whole _) mC (Memref.isWhole_whole _) mS0 (Memref.isWhole_whole _) mS1 (Memref.isWhole_whole _) mS2 (Memref.isWhole_whole _) mS3 (Memref.isWhole_whole _) mS4 (Memref.isWhole_whole _) mS5 (Memref.isWhole_whole _) mS6 (Memref.isWhole_whole _) mS7 (Memref.isWhole_whole _) mM0 (Memref.isWhole_whole _) mM1 (Memref.isWhole_whole _) mM2 (Memref.isWhole_whole _) mM3 (Memref.isWhole_whole _) mM4 (Memref.isWhole_whole _) mM5 (Memref.isWhole_whole _) mM6 (Memref.isWhole_whole _) mM7 (Memref.isWhole_whole _) mRv (Memref.isWhole_whole _) mSt (Memref.isWhole_whole _) cc0_scratch24 cc0_scoped0 cc0_scoped1 cc0_scoped2 k0_t1 k0_h1 v41 v42 c0_i32_33 c1_i32_35 k0_t3

abbrev bP5 (i : grid0.Coords) (k0_t1 : Fin k0_t1_loop.trips) (k0_h1 : k0_cond1 i k0_t1 = 1#1) (v67_0 : IVec S16 32) (v67_1 : IVec S16 32) (c0_i32_37 : BitVec 32) (c1_i32_39 : BitVec 32) (k0_t14 : Fin k0_t14_loop.trips) :=
  k0_part5_skel (F := F) i mF (Memref.isWhole_whole _) mL (Memref.isWhole_whole _) mR (Memref.isWhole_whole _) mO (Memref.isWhole_whole _) mD (Memref.isWhole_whole _) mLab (Memref.isWhole_whole _) mId (Memref.isWhole_whole _) mOl (Memref.isWhole_whole _) mH (Memref.isWhole_whole _) mC (Memref.isWhole_whole _) mS0 (Memref.isWhole_whole _) mS1 (Memref.isWhole_whole _) mS2 (Memref.isWhole_whole _) mS3 (Memref.isWhole_whole _) mS4 (Memref.isWhole_whole _) mS5 (Memref.isWhole_whole _) mS6 (Memref.isWhole_whole _) mS7 (Memref.isWhole_whole _) mM0 (Memref.isWhole_whole _) mM1 (Memref.isWhole_whole _) mM2 (Memref.isWhole_whole _) mM3 (Memref.isWhole_whole _) mM4 (Memref.isWhole_whole _) mM5 (Memref.isWhole_whole _) mM6 (Memref.isWhole_whole _) mM7 (Memref.isWhole_whole _) mRv (Memref.isWhole_whole _) mSt (Memref.isWhole_whole _) cc0_scratch24 cc0_scoped0 cc0_scoped1 cc0_scoped2 k0_t1 k0_h1 v67_0 v67_1 c0_i32_37 c1_i32_39 k0_t14

abbrev bP6 (i : grid0.Coords) (k0_t1 : Fin k0_t1_loop.trips) (k0_h1 : k0_cond1 i k0_t1 = 1#1) (k0_t14 : Fin k0_t14_loop.trips) (arg32 : BitVec 32) (v78 : Vec F S16 .f32) (v90 : FVec F S16 .f32) (v92 : IVec S16 1) (v106 : FVec F S16 .f32) (v108 : Vec F S16 .f32) :=
  k0_part6_skel (F := F) i mF (Memref.isWhole_whole _) mL (Memref.isWhole_whole _) mR (Memref.isWhole_whole _) mO (Memref.isWhole_whole _) mD (Memref.isWhole_whole _) mLab (Memref.isWhole_whole _) mId (Memref.isWhole_whole _) mOl (Memref.isWhole_whole _) mH (Memref.isWhole_whole _) mC (Memref.isWhole_whole _) mS0 (Memref.isWhole_whole _) mS1 (Memref.isWhole_whole _) mS2 (Memref.isWhole_whole _) mS3 (Memref.isWhole_whole _) mS4 (Memref.isWhole_whole _) mS5 (Memref.isWhole_whole _) mS6 (Memref.isWhole_whole _) mS7 (Memref.isWhole_whole _) mM0 (Memref.isWhole_whole _) mM1 (Memref.isWhole_whole _) mM2 (Memref.isWhole_whole _) mM3 (Memref.isWhole_whole _) mM4 (Memref.isWhole_whole _) mM5 (Memref.isWhole_whole _) mM6 (Memref.isWhole_whole _) mM7 (Memref.isWhole_whole _) mRv (Memref.isWhole_whole _) mSt (Memref.isWhole_whole _) cc0_scratch24 cc0_scoped0 cc0_scoped1 cc0_scoped2 k0_t1 k0_h1 k0_t14 arg32 v78 v90 v92 v106 v108

abbrev bP7 (i : grid0.Coords) (k0_t1 : Fin k0_t1_loop.trips) (k0_h1 : k0_cond1 i k0_t1 = 1#1) (k0_t14 : Fin k0_t14_loop.trips) (arg32 : BitVec 32) (v78 : Vec F S16 .f32) (v90 : FVec F S16 .f32) (v92 : IVec S16 1) (v141 : Vec F S16 .f32) (v142 : FVec F S16 .f32) (v143 : FVec F S16 .f32) :=
  k0_part7_skel (F := F) i mF (Memref.isWhole_whole _) mL (Memref.isWhole_whole _) mR (Memref.isWhole_whole _) mO (Memref.isWhole_whole _) mD (Memref.isWhole_whole _) mLab (Memref.isWhole_whole _) mId (Memref.isWhole_whole _) mOl (Memref.isWhole_whole _) mH (Memref.isWhole_whole _) mC (Memref.isWhole_whole _) mS0 (Memref.isWhole_whole _) mS1 (Memref.isWhole_whole _) mS2 (Memref.isWhole_whole _) mS3 (Memref.isWhole_whole _) mS4 (Memref.isWhole_whole _) mS5 (Memref.isWhole_whole _) mS6 (Memref.isWhole_whole _) mS7 (Memref.isWhole_whole _) mM0 (Memref.isWhole_whole _) mM1 (Memref.isWhole_whole _) mM2 (Memref.isWhole_whole _) mM3 (Memref.isWhole_whole _) mM4 (Memref.isWhole_whole _) mM5 (Memref.isWhole_whole _) mM6 (Memref.isWhole_whole _) mM7 (Memref.isWhole_whole _) mRv (Memref.isWhole_whole _) mSt (Memref.isWhole_whole _) cc0_scratch24 cc0_scoped0 cc0_scoped1 cc0_scoped2 k0_t1 k0_h1 k0_t14 arg32 v78 v90 v92 v141 v142 v143

abbrev bP8 (i : grid0.Coords) (k0_t1 : Fin k0_t1_loop.trips) (v37 : BitVec 32) (k0_h1 : k0_cond1 i k0_t1 = 1#1) :=
  k0_part8_skel (F := F) i mF (Memref.isWhole_whole _) mL (Memref.isWhole_whole _) mR (Memref.isWhole_whole _) mO (Memref.isWhole_whole _) mD (Memref.isWhole_whole _) mLab (Memref.isWhole_whole _) mId (Memref.isWhole_whole _) mOl (Memref.isWhole_whole _) mH (Memref.isWhole_whole _) mC (Memref.isWhole_whole _) mS0 (Memref.isWhole_whole _) mS1 (Memref.isWhole_whole _) mS2 (Memref.isWhole_whole _) mS3 (Memref.isWhole_whole _) mS4 (Memref.isWhole_whole _) mS5 (Memref.isWhole_whole _) mS6 (Memref.isWhole_whole _) mS7 (Memref.isWhole_whole _) mM0 (Memref.isWhole_whole _) mM1 (Memref.isWhole_whole _) mM2 (Memref.isWhole_whole _) mM3 (Memref.isWhole_whole _) mM4 (Memref.isWhole_whole _) mM5 (Memref.isWhole_whole _) mM6 (Memref.isWhole_whole _) mM7 (Memref.isWhole_whole _) mRv (Memref.isWhole_whole _) mSt (Memref.isWhole_whole _) cc0_scratch24 cc0_scoped0 cc0_scoped1 cc0_scoped2 k0_t1 v37 k0_h1

abbrev bP9 (i : grid0.Coords)  :=
  k0_part9_skel (F := F) i mF (Memref.isWhole_whole _) mL (Memref.isWhole_whole _) mR (Memref.isWhole_whole _) mO (Memref.isWhole_whole _) mD (Memref.isWhole_whole _) mLab (Memref.isWhole_whole _) mId (Memref.isWhole_whole _) mOl (Memref.isWhole_whole _) mH (Memref.isWhole_whole _) mC (Memref.isWhole_whole _) mS0 (Memref.isWhole_whole _) mS1 (Memref.isWhole_whole _) mS2 (Memref.isWhole_whole _) mS3 (Memref.isWhole_whole _) mS4 (Memref.isWhole_whole _) mS5 (Memref.isWhole_whole _) mS6 (Memref.isWhole_whole _) mS7 (Memref.isWhole_whole _) mM0 (Memref.isWhole_whole _) mM1 (Memref.isWhole_whole _) mM2 (Memref.isWhole_whole _) mM3 (Memref.isWhole_whole _) mM4 (Memref.isWhole_whole _) mM5 (Memref.isWhole_whole _) mM6 (Memref.isWhole_whole _) mM7 (Memref.isWhole_whole _) mRv (Memref.isWhole_whole _) mSt (Memref.isWhole_whole _) cc0_scratch24 cc0_scoped0 cc0_scoped1 cc0_scoped2

end Cert.Proof
-- ==== Proof.Model.lean ====
/-
  What a tile's accumulators hold, as functions of a part and a channel, and how a group of sixteen slots changes them.
-/
module

public import proofs.«01_k».proof.Proof.Base

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

open Cert.Proof.Lanes Cert.Proof.Place Cert.Proof.Chunk

variable {F : FTy → Type}

local notation "𝕄" => MT nD τ sig (HIx 1) (Elt F) ℕ UU ℕ

variable [FloatOps F]

section Pure

/-- The channel of lane `k` of group `g`. -/
def ch (g : Fin 8) (k : Fin 16) : Fin 128 := ⟨16 * g.val + k.val, by omega⟩

theorem ch_surj (c : Fin 128) : ∃ g k, c = ch g k := ⟨⟨c.val / 16, by omega⟩, ⟨c.val % 16, by omega⟩, Fin.ext (by show c.val = 16 * (c.val / 16) + c.val % 16; omega)⟩

/-- Row `p`, lane `k` of an accumulator. -/
def ix (p k : Fin 16) : S16x16.Idx := fun a => match a with | 0 => p | 1 => k

theorem ix_eta (y : S16x16.Idx) : y = ix (y 0) (y 1) := by
  funext a; match a with | 0 => rfl | 1 => rfl

theorem ix_ext {α : Type} {X Y : S16x16.Idx → α} (h : ∀ p k, X (ix p k) = Y (ix p k)) : X = Y := by
  funext y; rw [ix_eta y]; exact h _ _

/-- Row `r`, column `q` of the data. -/
def dx (r : Fin 128) (q : Fin 529) : S128x529.Idx := fun a => match a with | 0 => r | 1 => q

theorem dx_eta (y : S128x529.Idx) : y = dx (y 0) (y 1) := by
  funext a; match a with | 0 => rfl | 1 => rfl

/-- Slot `t` of the order's arrays. -/
def slot (t : Fin 768) : S768.Idx := Shape.ofLane (d := ![768]) t

theorem slot_eta (y : S768.Idx) : y = slot (y 0) := by
  funext a; obtain rfl := Fin.eq_zero a; rfl

/-- The array of a per-part, per-channel state that group `g`'s buffer holds. -/
def arr {F : FTy → Type} (S : Fin 16 → Fin 128 → F .f32) (g : Fin 8) : S16x16.Idx → F .f32 := fun y => S (y 0) (ch g (y 1))

/-- The state with part `p`'s row joined with `T`. -/
def bump {F : FTy → Type} (f : F .f32 → F .f32 → F .f32) (S : Fin 16 → Fin 128 → F .f32) (p : ℕ) (T : Fin 128 → F .f32) : Fin 16 → Fin 128 → F .f32 :=
  fun p' c => if p'.val = p then f (S p' c) (T c) else S p' c

variable {F : FTy → Type} [FloatOps F]

/-- A column of the data by a word's value (any value out of range). -/
def colAt (D : S128x529.Idx → F .f32) (c : Fin 128) (q : ℕ) : F .f32 := if h : q < 529 then D (dx c ⟨q, h⟩) else D (dx c 0)

/-- The running join of the columns `ids 0 … ids (n-1)`. -/
def run (f : F .f32 → F .f32 → F .f32) (z : F .f32) (D : S128x529.Idx → F .f32) (ids : ℕ → ℕ) (c : Fin 128) : ℕ → F .f32
  | 0 => z
  | n + 1 => f (run f z D ids c n) (colAt D c (ids n))

/-- A word of an order's array by its slot's number. -/
def wordAt (ids : S768.Idx → BitVec 32) (t : ℕ) : ℕ := if h : t < 768 then (ids (slot ⟨t, h⟩)).toNat else 0

/-- The state after the first `n` groups of sixteen slots. -/
def accN (f : F .f32 → F .f32 → F .f32) (z : F .f32) (D : S128x529.Idx → F .f32) (ids labs : S768.Idx → BitVec 32) (S : Fin 16 → Fin 128 → F .f32) : ℕ → Fin 16 → Fin 128 → F .f32
  | 0 => S
  | n + 1 => bump f (accN f z D ids labs S n) (wordAt labs (16 * n)) (fun c => run f z D (fun j => wordAt ids (16 * n + j)) c 16)

/-- The two joins, and where each starts. -/
abbrev zS : F .f32 := Scalar.ofBits .f32 0x00000000#32
abbrev zM : F .f32 := Scalar.ofBits .f32 0xC2C80000#32
abbrev fS : F .f32 → F .f32 → F .f32 := FloatOps.addf
abbrev fM : F .f32 → F .f32 → F .f32 := FloatOps.maximumf

/-- A word of lane `k` plus `16 * g`: the channels' vector. -/
def IsCh (g : Fin 8) (v : IVec S16 32) : Prop := ∀ k, v (ln k) = BitVec.ofNat 32 (16 * g.val + k.val)

theorem isCh_of (g : Fin 8) (m : BitVec 32) (hm : m = BitVec.ofNat 32 (16 * g.val)) : IsCh g (addi (iota .scVector S16 32 [0] iota_S16_d0_w32_scVector) (broadcast S16 m)) := by
  intro k
  show iota .scVector S16 32 [0] iota_S16_d0_w32_scVector (ln k) + m = _
  rw [iota_ln, hm]
  apply BitVec.eq_of_toNat_eq
  have := g.isLt; have := k.isLt
  rw [BitVec.toNat_add]; simp only [BitVec.toNat_ofNat]; omega

theorem isCh0 : IsCh 0 k0_pay111 := isCh_of 0 0#32 rfl
theorem isCh1 : IsCh 1 k0_pay112 := isCh_of 1 16#32 rfl
theorem isCh2 : IsCh 2 k0_pay113 := isCh_of 2 32#32 rfl
theorem isCh3 : IsCh 3 k0_pay114 := isCh_of 3 48#32 rfl
theorem isCh4 : IsCh 4 k0_pay115 := isCh_of 4 64#32 rfl
theorem isCh5 : IsCh 5 k0_pay116 := isCh_of 5 80#32 rfl
theorem isCh6 : IsCh 6 k0_pay117 := isCh_of 6 96#32 rfl
theorem isCh7 : IsCh 7 k0_pay118 := isCh_of 7 112#32 rfl

/-- A gather of the data: every lane reads its channel at the column that the word names. -/
theorem gather_ln (g : Fin 8) (v q : IVec S16 32) (hv : IsCh g v) (Dt : S128x529.Idx → F .f32) (n : ℕ) (hq : ∀ k, (q (ln k)).toNat = n)
    (h : ∀ a x, ((![v, q] : Fin 2 → IVec S16 32) a x).toNat < S128x529.size a) (k : Fin 16) :
    loadIdx (F := F) (s := S128x529) (t := S16) (e := .f32) Dt ![v, q] h (ln k) = colAt Dt (ch g k) n := by
  have h1 : n < 529 := by rw [← hq k]; exact h 1 (ln k)
  unfold loadIdx colAt
  rw [dif_pos h1]
  congr 1
  funext a
  match a with
  | 0 =>
    apply Fin.ext
    show (v (ln k)).toNat = 16 * g.val + k.val
    rw [hv k, BitVec.toNat_ofNat]; omega
  | 1 => exact Fin.ext (hq k)

/-- The vector of a channel function at group `g`. -/
def tv (T : Fin 128 → F .f32) (g : Fin 8) : FVec F S16 .f32 := fun x => T (ch g (x 0))

theorem tv_ln (T : Fin 128 → F .f32) (g : Fin 8) (k : Fin 16) : tv T g (ln k) = T (ch g k) := rfl

theorem sum_step (D : S128x529.Idx → F .f32) (z : F .f32) (ids : ℕ → ℕ) (g : Fin 8) (v q : IVec S16 32) (hv : IsCh g v) (n : ℕ) (hq : ∀ k, (q (ln k)).toNat = ids n)
    (h : ∀ a x, ((![v, q] : Fin 2 → IVec S16 32) a x).toNat < S128x529.size a) :
    addf (tv (fun c => run fS z D ids c n) g) (loadIdx (F := F) (s := S128x529) (t := S16) (e := .f32) D ![v, q] h) = tv (fun c => run fS z D ids c (n + 1)) g :=
  ext_ln fun k => congrArg (FloatOps.addf _) (gather_ln g v q hv D _ hq h k)

theorem max_step (D : S128x529.Idx → F .f32) (z : F .f32) (ids : ℕ → ℕ) (g : Fin 8) (v q : IVec S16 32) (hv : IsCh g v) (n : ℕ) (hq : ∀ k, (q (ln k)).toNat = ids n)
    (h : ∀ a x, ((![v, q] : Fin 2 → IVec S16 32) a x).toNat < S128x529.size a) :
    maximumf (tv (fun c => run fM z D ids c n) g) (loadIdx (F := F) (s := S128x529) (t := S16) (e := .f32) D ![v, q] h) = tv (fun c => run fM z D ids c (n + 1)) g :=
  ext_ln fun k => congrArg (FloatOps.maximumf _) (gather_ln g v q hv D _ hq h k)

/-- A row's index: part `p` in every lane, and the lane. -/
theorem row_at (v w : IVec S16 32) (p : Fin 16) (hv : ∀ k, (v (ln k)).toNat = p.val) (hw : ∀ k, (w (ln k)).toNat = k.val)
    (h : ∀ a x, ((![v, w] : Fin 2 → IVec S16 32) a x).toNat < S16x16.size a) (k : Fin 16) : idxAt (s := S16x16) ![v, w] h (ln k) = ix p k := by
  funext a
  match a with
  | 0 => exact Fin.ext (hv k)
  | 1 => exact Fin.ext (hw k)

/-- A row of an accumulator gathered, joined and scattered back. -/
theorem scat (f : F .f32 → F .f32 → F .f32) (S : Fin 16 → Fin 128 → F .f32) (T : Fin 128 → F .f32) (g : Fin 8) (v w : IVec S16 32) (p : Fin 16)
    (hv : ∀ k, (v (ln k)).toNat = p.val) (hw : ∀ k, (w (ln k)).toNat = k.val)
    (h h' : ∀ a x, ((![v, w] : Fin 2 → IVec S16 32) a x).toNat < S16x16.size a) (u : FVec F S16 .f32)
    (hu : ∀ k, u (ln k) = f (loadIdx (F := F) (s := S16x16) (t := S16) (e := .f32) (arr S g) ![v, w] h (ln k)) (tv T g (ln k))) :
    storeIdx (F := F) (s := S16x16) (e := .f32) (d := ![16]) (arr S g) ![v, w] u (fun _ => 1#1) false h' = arr (bump f S p.val T) g := by
  apply ix_ext
  intro p' k
  by_cases hp : p' = p
  · subst hp
    have e := storeIdx_hit (F := F) (s := S16x16) (e := .f32) (d := ![16]) (arr S g) ![v, w] u (fun _ => 1#1) false h' k rfl (fun k' _ hk' => by
      intro e
      have e1 : ix p' k = ix p' k' := (row_at v w p' hv hw h' k).symm.trans (e.trans (row_at v w p' hv hw h' k'))
      exact hk' (congrFun e1 1).symm)
    have e0 : idxAt (s := S16x16) ![v, w] h' (Shape.ofLane (d := ![16]) k) = ix p' k := row_at v w p' hv hw h' k
    rw [e0] at e
    rw [e, if_neg Bool.false_ne_true]
    refine (hu k).trans ?_
    show f (arr S g (idxAt (s := S16x16) ![v, w] h (ln k))) (T (ch g k)) = if p'.val = p'.val then f (S p' (ch g k)) (T (ch g k)) else _
    rw [if_pos rfl, row_at v w p' hv hw h k]; rfl
  · have e := storeIdx_miss (F := F) (s := S16x16) (e := .f32) (d := ![16]) (arr S g) ![v, w] u (fun _ => 1#1) false h' (ix p' k) (fun k' _ => by
      have e0 : idxAt (s := S16x16) ![v, w] h' (Shape.ofLane (d := ![16]) k') = ix p k' := row_at v w p hv hw h' k'
      rw [e0]; intro e; exact hp (congrFun e 0))
    rw [e]
    show S p' (ch g k) = if p'.val = p.val then _ else S p' (ch g k)
    rw [if_neg (fun e => hp (Fin.ext e))]

/-- The sixteen vectors that the tokens' loop carries after `n` of them. -/
abbrev tup (D : S128x529.Idx → F .f32) (ids : ℕ → ℕ) (n : ℕ) : FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 :=
  (tv (fun c => run fS zS D ids c n) 0, tv (fun c => run fS zS D ids c n) 1, tv (fun c => run fS zS D ids c n) 2, tv (fun c => run fS zS D ids c n) 3,
   tv (fun c => run fS zS D ids c n) 4, tv (fun c => run fS zS D ids c n) 5, tv (fun c => run fS zS D ids c n) 6, tv (fun c => run fS zS D ids c n) 7,
   tv (fun c => run fM zM D ids c n) 0, tv (fun c => run fM zM D ids c n) 1, tv (fun c => run fM zM D ids c n) 2, tv (fun c => run fM zM D ids c n) 3,
   tv (fun c => run fM zM D ids c n) 4, tv (fun c => run fM zM D ids c n) 5, tv (fun c => run fM zM D ids c n) 6, tv (fun c => run fM zM D ids c n) 7)

theorem row768 (X : IVec S768 32) (n : ℕ) (hn : n < 48) (off : Fin 1 → ℕ) (ho : off = ![16 * n]) (inb) (k : Fin 16) :
    X ((Rect.unit (s := S768) off S16.size inb).toLoadRect.idx (ln k)) = X (slot ⟨16 * n + k.val, by omega⟩) := by
  subst ho
  congr 1
  funext a; obtain rfl := Fin.eq_zero a
  apply Fin.ext
  show 16 * n + 1 * k.val = 16 * n + k.val
  omega

theorem wordAt_row (X : IVec S768 32) (n : ℕ) (hn : n < 48) (k : Fin 16) : wordAt X (16 * n + k.val) = (X (slot ⟨16 * n + k.val, by omega⟩)).toNat := by
  unfold wordAt; rw [dif_pos (by omega)]

end Pure

end Cert.Proof
-- ==== Proof.BodyA.lean ====
/-
  The trips of the integer loops at a tile: the histogram's, the pads', the token blocks'.
-/
module

public import proofs.«01_k».proof.Proof.Base

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

open Cert.Proof.Lanes Cert.Proof.Place Cert.Proof.Chunk

variable {F : FTy → Type}

local notation "𝕄" => MT nD τ sig (HIx 1) (Elt F) ℕ UU ℕ

variable [FloatOps F]

/-- Token `t`'s label, of the labels' buffer. -/
def labOf (X : IVec S512 32) (t : Fin 512) : ℕ := (X (Shape.ofLane (d := ![512]) t)).toNat

theorem row512 (X : IVec S512 32) (n : ℕ) (hn : n < 32) (off : Fin 1 → ℕ) (ho : off = ![16 * n]) (inb) (k : Fin 16) :
    (X ((Rect.unit (s := S512) off S16.size inb).toLoadRect.idx (ln k))).toNat = labOf X (tk n hn k) := by
  subst ho
  unfold labOf
  congr 2
  funext a; obtain rfl := Fin.eq_zero a
  apply Fin.ext
  show 16 * n + 1 * k.val = 16 * n + k.val
  omega

section Tile

variable (d : Dev nD) (L : grid0.Coords) (t1 : Fin k0_t1_loop.trips) (h1 : k0_cond1 L t1 = 1#1)

theorem cnt_body (v41 c0 c1 t3) (k : Fin k0_t4_loop.trips) (acc : Unit) (X : IVec S512 32) (hX : ∀ t, labOf X t < 16) :
    (iprop(owns (th d L) mLab fullShare X ∗ ∃ H, ⌜HistN (labOf X) k.val H⌝ ∗ owns (th d L) mH fullShare H) : sProp 𝕄)
      ⊢ wp frame (wpE (defs₀ (F := F)) 𝒱₀ (th d L) none) Set.univ (bT4 (F := F) L t1 h1 v41 k0_pay110 c0 c1 t3 k acc)
          fun _ => iprop(owns (th d L) mLab fullShare X ∗ ∃ H, ⌜HistN (labOf X) (k.val + 1) H⌝ ∗ owns (th d L) mH fullShare H) := by
  have hk : k.val < 32 := k.isLt
  unfold bT4 k0_t4_body
  simp only [Prog.lift, Prog.bind_op, Prog.bind_ret, Prog.pure_eq_ret]
  iintro ⟨HX, %H, %hH, HH⟩
  iapply (ow_load (c := th d L) (M := mLab)) $$ HX
  iintro HX
  have hv := row512 X k.val hk _ (k0_off4_eq k) (k0_off4_inb L t1 k h1)
  have hc : k0_chk9 L t1 (fun j => X ((Rect.unit (s := S512) (k0_off4 k) S16.size (k0_off4_inb L t1 k h1)).toLoadRect.idx j)) := by
    intro _ a x
    obtain rfl := Fin.eq_zero a
    obtain ⟨q, rfl⟩ := ln_surj x
    exact lt_of_eq_of_lt (hv q) (hX _)
  iapply (ow_assume hc)
  iapply (ow_storeIdx (c := th d L) (M := mH)) $$ HH
  iintro HH
  rw [wp_ret]; imodintro
  isplitl [HX]; · iexact HX
  iexists _; isplitr
  · ipureintro; exact hist_step (F := F) (labOf X) k.val hk H (fun j => X ((Rect.unit (s := S512) (k0_off4 k) S16.size (k0_off4_inb L t1 k h1)).toLoadRect.idx j)) hv hH (hc h1)
  iexact HH

theorem pad_body (v37) (k : Fin k0_t5_loop.trips) (acc : Unit) (lab : Fin 512 → ℕ) (hl : ∀ t, lab t < 16) (H C S : IVec S16 32) (hw : Words lab H C S) :
    (iprop(∃ ids labs, ⌜Pads lab ids labs k.val⌝ ∗ owns (th d L) mId fullShare ids ∗ owns (th d L) mOl fullShare labs) : sProp 𝕄)
      ⊢ wp frame (wpE (defs₀ (F := F)) 𝒱₀ (th d L) none) Set.univ (bT5 (F := F) L t1 v37 h1 H C S k acc)
          fun _ => iprop(∃ ids labs, ⌜Pads lab ids labs (k.val + 1)⌝ ∗ owns (th d L) mId fullShare ids ∗ owns (th d L) mOl fullShare labs) := by
  unfold bT5 k0_t5_body
  simp only [Prog.lift, Prog.bind_op, Prog.bind_ret, Prog.pure_eq_ret]
  iintro ⟨%ids, %labs, %hp, HI, HL⟩
  have hc : k0_chk10 L t1 (k0_pay132 (F := F) H S k) := ⟨fun _ => pad_chk (F := F) hl hw k, fun _ => pad_chk (F := F) hl hw k⟩
  iapply (ow_assume hc)
  iapply (ow_storeIdx (c := th d L) (M := mId)) $$ HI
  iintro HI
  iapply (ow_storeIdx (c := th d L) (M := mOl)) $$ HL
  iintro HL
  rw [wp_ret]; imodintro
  iexists _, _; isplitr
  · ipureintro; exact pads_step (F := F) hl hw k hp (hc.1 h1) (hc.2 h1)
  isplitl [HI]; · iexact HI
  iexact HL

theorem sort_body (v37) (k : Fin k0_t6_loop.trips) (acc : Unit) (X : IVec S512 32) (hX : ∀ t, labOf X t < 16) :
    (iprop(owns (th d L) mLab fullShare X ∗ ∃ ids labs cur, ⌜Pads (labOf X) ids labs 16 ∧ Toks (labOf X) ids labs (16 * k.val) ∧ CurN (labOf X) k.val cur⌝
        ∗ owns (th d L) mId fullShare ids ∗ owns (th d L) mOl fullShare labs ∗ owns (th d L) mC fullShare cur) : sProp 𝕄)
      ⊢ wp frame (wpE (defs₀ (F := F)) 𝒱₀ (th d L) none) Set.univ (bT6 (F := F) L t1 v37 h1 k acc)
          fun _ => iprop(owns (th d L) mLab fullShare X ∗ ∃ ids labs cur, ⌜Pads (labOf X) ids labs 16 ∧ Toks (labOf X) ids labs (16 * (k.val + 1)) ∧ CurN (labOf X) (k.val + 1) cur⌝
            ∗ owns (th d L) mId fullShare ids ∗ owns (th d L) mOl fullShare labs ∗ owns (th d L) mC fullShare cur) := by
  have hk : k.val < 32 := k.isLt
  unfold bT6 k0_t6_body
  simp only [Prog.lift, Prog.bind_op, Prog.bind_ret, Prog.pure_eq_ret]
  iintro ⟨HX, %ids, %labs, %cur, %hp, HI, HL, HC⟩
  obtain ⟨hp, ht, hcur⟩ := hp
  iapply (ow_load (c := th d L) (M := mLab)) $$ HX
  iintro HX
  have hv := row512 X k.val hk _ (k0_off5_eq k) (k0_off5_inb L t1 k h1)
  generalize hV : (fun j => X ((Rect.unit (s := S512) (k0_off5 k) S16.size (k0_off5_inb L t1 k h1)).toLoadRect.idx j)) = W
  replace hv : ∀ q, (W (ln q)).toNat = labOf X (tk k.val hk q) := fun q => by rw [← hV]; exact hv q
  have hW : ∀ q, (W (ln q)).toNat < 16 := fun q => by rw [hv]; exact hX _
  iapply (ow_for _ _ _ _ (fun n acc => iprop(⌜∀ q, acc (ln q) = BitVec.ofNat 32 (rkN (kn W) n q)⌝)) (fun p acc => by
    unfold k0_t7_body
    iintro %h
    first | rw [Prog.pure_eq_ret, wp_ret] | rw [wp_ret]
    imodintro
    ipureintro
    exact fun q => rank_step (F := F) W hW p acc h q)) $$ []
  · ipureintro; intro q; rw [rkN_zero]; rfl
  iintro %R %hR
  replace hR : ∀ q, R (ln q) = BitVec.ofNat 32 (rk (kn W) q) := fun q => by rw [hR q]; exact congrArg _ (rkN_all (kn W) q)
  iapply (ow_for _ _ _ _ (fun n acc => iprop(⌜PlacedN W R k.val n acc.1 acc.2⌝)) (fun p acc => by
    obtain ⟨acc1, acc2⟩ := acc
    unfold k0_t8_body
    show _ ⊢ wp _ _ _ (Prog.ret _) _
    iintro %h
    rw [wp_ret]; imodintro
    ipureintro
    exact place_step (F := F) W R hR k p acc1 acc2 h)) $$ []
  · ipureintro; intro q hq; exact absurd hq (Nat.not_lt_zero _)
  iintro %skv %hpl
  replace hpl : PlacedN W W k.val 16 skv.1 skv.2 := hpl
  have hsk := skey_lt (lab := labOf X) k.val hk W skv.1 skv.2 hX hv hpl
  have hc : k0_chk11 L t1 skv.1 := ⟨fun _ => hsk, fun _ => hsk⟩
  iapply (ow_assume hc)
  iapply (ow_for _ _ _ _ (fun n acc => iprop(⌜PrevN skv.1 n acc⌝)) (fun p acc => by
    unfold k0_t9_body
    iintro %h
    first | rw [Prog.pure_eq_ret, wp_ret] | rw [wp_ret]
    imodintro
    ipureintro
    exact prev_step skv.1 p acc h)) $$ []
  · ipureintro; intro q k hq; exact absurd hq (Nat.not_lt_zero _)
  iintro %prev %hpr
  replace hpr : PrevN skv.1 15 prev := hpr
  iapply (ow_loadIdx (c := th d L) (M := mC)) $$ HC
  iintro HC
  have hpc := place_chk (F := F) (lab := labOf X) k.val hk W skv.1 skv.2 prev cur hX hv hpl hpr hcur hsk
  have hc' : k0_chk12 L t1 (k0_pay144 (F := F) skv.1 prev (loadIdx (F := F) (s := S16) (t := S16) (e := .i32) cur ![skv.1] hsk)) := ⟨fun _ => hpc, fun _ => hpc⟩
  iapply (ow_assume hc')
  iapply (ow_storeIdx (c := th d L) (M := mId)) $$ HI
  iintro HI
  iapply (ow_storeIdx (c := th d L) (M := mOl)) $$ HL
  iintro HL
  iapply (ow_storeIdx (c := th d L) (M := mC)) $$ HC
  iintro HC
  rw [wp_ret]; imodintro
  isplitl [HX]; · iexact HX
  iexists _, _, _; isplitr
  · ipureintro
    obtain ⟨a1, a2⟩ := toks_step (F := F) (lab := labOf X) k.val hk W skv.1 skv.2 prev cur hX hv hpl hpr hcur hp ht hsk hpc hpc
    exact ⟨a1, a2, cur_step (F := F) (lab := labOf X) k.val hk W skv.1 skv.2 cur hX hv hpl hcur hsk⟩
  isplitl [HI]; · iexact HI
  isplitl [HL]; · iexact HL
  iexact HC

end Tile

end Cert.Proof
-- ==== Proof.BodyB.lean ====
/-
  The trips of the loops over the groups of sixteen slots and over a group's tokens.
-/
module

public import proofs.«01_k».proof.Proof.Model
public import proofs.«01_k».proof.Proof.BodyA

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

open Cert.Proof.Lanes Cert.Proof.Place Cert.Proof.Chunk

variable {F : FTy → Type}

local notation "𝕄" => MT nD τ sig (HIx 1) (Elt F) ℕ UU ℕ

variable [FloatOps F]

/-! ## The number of groups -/

theorem t10_facts : ∀ m : Fin 48, (k0_t10_loop (BitVec.ofNat 32 (16 * m.val))).OK ∧ (k0_t10_loop (BitVec.ofNat 32 (16 * m.val))).trips = m.val
    ∧ ∀ t : Fin (k0_t10_loop (BitVec.ofNat 32 (16 * m.val))).trips, k0_off6 (BitVec.ofNat 32 (16 * m.val)) t 0 = 16 * t.val := by decide +kernel

theorem chk13_of (i : grid0.Coords) (t1 : Fin k0_t1_loop.trips) (m : Fin 48) : k0_chk13 i t1 (BitVec.ofNat 32 (16 * m.val)) := by
  obtain ⟨h1, h2, h3⟩ := t10_facts m
  refine ⟨fun _ => h1, fun t _ a => ?_, fun _ => Scf.rem_ok _ _, fun t => (Scf.rem_no_trip _ _ t).elim⟩
  obtain rfl := Fin.eq_zero a
  rw [h3 t]
  have := t.isLt; have := m.isLt
  show 16 * t.val + 16 ≤ 768
  omega

theorem off6_of (m : Fin 48) (t : Fin (k0_t10_loop (BitVec.ofNat 32 (16 * m.val))).trips) : k0_off6 (BitVec.ofNat 32 (16 * m.val)) t = ![16 * t.val] := by
  funext a; obtain rfl := Fin.eq_zero a
  exact (t10_facts m).2.2 t

attribute [local irreducible] scan iota

/-! ## The accumulators at a tile -/

section Tile

variable (d : Dev nD) (L : grid0.Coords) (t1 : Fin k0_t1_loop.trips) (h1 : k0_cond1 L t1 = 1#1)

/-- The sixteen accumulators with their contents. -/
def Accs (XS XM : Fin 8 → S16x16.Idx → Elt F .f32) : sProp 𝕄 :=
  iprop(owns (th d L) mS0 fullShare (XS 0) ∗ owns (th d L) mM0 fullShare (XM 0) ∗ owns (th d L) mS1 fullShare (XS 1) ∗ owns (th d L) mM1 fullShare (XM 1)
    ∗ owns (th d L) mS2 fullShare (XS 2) ∗ owns (th d L) mM2 fullShare (XM 2) ∗ owns (th d L) mS3 fullShare (XS 3) ∗ owns (th d L) mM3 fullShare (XM 3)
    ∗ owns (th d L) mS4 fullShare (XS 4) ∗ owns (th d L) mM4 fullShare (XM 4) ∗ owns (th d L) mS5 fullShare (XS 5) ∗ owns (th d L) mM5 fullShare (XM 5)
    ∗ owns (th d L) mS6 fullShare (XS 6) ∗ owns (th d L) mM6 fullShare (XM 6) ∗ owns (th d L) mS7 fullShare (XS 7) ∗ owns (th d L) mM7 fullShare (XM 7))

/-- A row of an accumulator read, joined and written back. -/
theorem ow_pair {α : Type} {Q : α → sProp 𝕄} {M : Memref sig (th d L).2.kind .vmem S16x16 .f32} (f : F .f32 → F .f32 → F .f32) (S : Fin 16 → Fin 128 → F .f32) (T : Fin 128 → F .f32) (g : Fin 8)
    {v w : IVec S16 32} (p : Fin 16) (hv : ∀ k, (v (ln k)).toNat = p.val) (hw : ∀ k, (w (ln k)).toNat = k.val)
    {h h' : ∀ a x, ((![v, w] : Fin 2 → IVec S16 32) a x).toNat < S16x16.size a} {hl : M.view.Loads} {hs : (M.access (.whole S16x16)).Stores Finset.univ}
    {u : Vec F S16 .f32 → FVec F S16 .f32} (hu : ∀ y k, u y (ln k) = f (y (ln k)) (tv T g (ln k)))
    {k : PUnit → Prog (TpuEff nD τ sig (Elt F) Λ₀ (th d L).2) α} :
    (owns (th d L) M fullShare (arr S g) : sProp 𝕄) ⊢ iprop((owns (th d L) M fullShare (arr (bump f S p.val T) g) -∗ wp frame (wpE (defs₀ (F := F)) 𝒱₀ (th d L) none) Set.univ (k ⟨⟩) Q)
      -∗ wp frame (wpE (defs₀ (F := F)) 𝒱₀ (th d L) none) Set.univ (SparseCore.vectorLoadIdx M ![v, w] h hl >>= fun y =>
          SparseCore.vectorStoreIdx (d := ![16]) M ![v, w] (u y) (fun _ => 1#1) false h' hs >>= k) Q) := by
  iintro H Hk
  iapply (ow_loadIdx (c := th d L) (M := M)) $$ H
  iintro H
  iapply (ow_storeIdx (c := th d L) (M := M)) $$ H
  iintro H
  rw [scat f S T g v w p hv hw h h' _ (fun k => hu _ k)]
  iapply Hk $$ H

/-- A token's trip. -/
theorem tok_body (v41 v94 hw13 c0 c1 t10) (ids : Vec F S16 .i32) (D : S128x529.Idx → F .f32) (k : Fin k0_t11_loop.trips) (acc)
    (w : ℕ → ℕ) (hw : ∀ q : Fin 16, (ids (ln q)).toNat = w q.val) (hid : ∀ q : Fin 16, w q.val < 529) :
    (iprop(owns (th d L) mD fullShare D ∗ ⌜acc = tup D w k.val⌝) : sProp 𝕄)
      ⊢ wp frame (wpE (defs₀ (F := F)) 𝒱₀ (th d L) none) Set.univ (bT11 (F := F) L t1 h1 v41 k0_pay111 k0_pay112 k0_pay113 k0_pay114 k0_pay115 k0_pay116 k0_pay117 k0_pay118 v94 hw13 c0 c1 t10 ids k acc)
          fun acc => iprop(owns (th d L) mD fullShare D ∗ ⌜acc = tup D w (k.val + 1)⌝) := by
  have hk : k.val < 16 := k.isLt
  unfold bT11 k0_t11_body
  iintro ⟨HD, %ha⟩
  subst ha
  dsimp only [tup]
  have hq : ∀ j, (k0_pay32 (F := F) ids k (ln j)).toNat = w k.val := fun j => by
    rw [pay32_ln (F := F) ids k j ⟨k.val, hk⟩ rfl]; exact hw _
  have hb : ∀ (g : Fin 8) (v : IVec S16 32) (hv : IsCh g v), ∀ a x, ((![v, k0_pay32 (F := F) ids k] : Fin 2 → IVec S16 32) a x).toNat < S128x529.size a := by
    intro g v hv a x
    obtain ⟨q, rfl⟩ := ln_surj x
    match a with
    | 0 =>
      show (v (ln q)).toNat < 128
      rw [hv q, BitVec.toNat_ofNat]; omega
    | 1 =>
      show (k0_pay32 (F := F) ids k (ln q)).toNat < 529
      exact lt_of_eq_of_lt (hq q) (hid ⟨k.val, hk⟩)
  have hc : k0_chk14 L t1 k0_pay111 k0_pay112 k0_pay113 k0_pay114 k0_pay115 k0_pay116 k0_pay117 k0_pay118 (k0_pay32 (F := F) ids k) :=
    ⟨fun _ => hb 0 _ isCh0, fun _ => hb 1 _ isCh1, fun _ => hb 2 _ isCh2, fun _ => hb 3 _ isCh3, fun _ => hb 4 _ isCh4, fun _ => hb 5 _ isCh5, fun _ => hb 6 _ isCh6, fun _ => hb 7 _ isCh7⟩
  simp only [Prog.lift, Prog.bind_op, Prog.bind_ret, Prog.pure_eq_ret]
  iapply (ow_assume hc)
  iapply (ow_loadIdx (c := th d L) (M := mD)) $$ HD
  iintro HD
  iapply (ow_loadIdx (c := th d L) (M := mD)) $$ HD
  iintro HD
  iapply (ow_loadIdx (c := th d L) (M := mD)) $$ HD
  iintro HD
  iapply (ow_loadIdx (c := th d L) (M := mD)) $$ HD
  iintro HD
  iapply (ow_loadIdx (c := th d L) (M := mD)) $$ HD
  iintro HD
  iapply (ow_loadIdx (c := th d L) (M := mD)) $$ HD
  iintro HD
  iapply (ow_loadIdx (c := th d L) (M := mD)) $$ HD
  iintro HD
  iapply (ow_loadIdx (c := th d L) (M := mD)) $$ HD
  iintro HD
  rw [wp_ret]; imodintro
  isplitl [HD]; · iexact HD
  ipureintro
  refine congrArg₂ Prod.mk (sum_step D zS w 0 _ _ isCh0 _ hq (hb 0 _ isCh0)) ?_
  refine congrArg₂ Prod.mk (sum_step D zS w 1 _ _ isCh1 _ hq (hb 1 _ isCh1)) ?_
  refine congrArg₂ Prod.mk (sum_step D zS w 2 _ _ isCh2 _ hq (hb 2 _ isCh2)) ?_
  refine congrArg₂ Prod.mk (sum_step D zS w 3 _ _ isCh3 _ hq (hb 3 _ isCh3)) ?_
  refine congrArg₂ Prod.mk (sum_step D zS w 4 _ _ isCh4 _ hq (hb 4 _ isCh4)) ?_
  refine congrArg₂ Prod.mk (sum_step D zS w 5 _ _ isCh5 _ hq (hb 5 _ isCh5)) ?_
  refine congrArg₂ Prod.mk (sum_step D zS w 6 _ _ isCh6 _ hq (hb 6 _ isCh6)) ?_
  refine congrArg₂ Prod.mk (sum_step D zS w 7 _ _ isCh7 _ hq (hb 7 _ isCh7)) ?_
  refine congrArg₂ Prod.mk (max_step D zM w 0 _ _ isCh0 _ hq (hb 0 _ isCh0)) ?_
  refine congrArg₂ Prod.mk (max_step D zM w 1 _ _ isCh1 _ hq (hb 1 _ isCh1)) ?_
  refine congrArg₂ Prod.mk (max_step D zM w 2 _ _ isCh2 _ hq (hb 2 _ isCh2)) ?_
  refine congrArg₂ Prod.mk (max_step D zM w 3 _ _ isCh3 _ hq (hb 3 _ isCh3)) ?_
  refine congrArg₂ Prod.mk (max_step D zM w 4 _ _ isCh4 _ hq (hb 4 _ isCh4)) ?_
  refine congrArg₂ Prod.mk (max_step D zM w 5 _ _ isCh5 _ hq (hb 5 _ isCh5)) ?_
  refine congrArg₂ Prod.mk (max_step D zM w 6 _ _ isCh6 _ hq (hb 6 _ isCh6)) ?_
  exact max_step D zM w 7 _ _ isCh7 _ hq (hb 7 _ isCh7)

/-- A group's first part: the words are read, the tokens joined, three rows written. -/
theorem group_fst {α : Type} {Q : α → sProp 𝕄} (v41 : IVec S16 32) (h41 : ∀ k, (v41 (ln k)).toNat = k.val) (m : Fin 48) (hw13 c0 c1) (k : Fin (k0_t10_loop (BitVec.ofNat 32 (16 * m.val))).trips)
    (ids labs : Vec F S768 .i32) (D : S128x529.Idx → F .f32) (S M : Fin 16 → Fin 128 → F .f32) (p : Fin 16)
    (hl : wordAt labs (16 * k.val) = p.val) (hid : ∀ q : Fin 16, wordAt ids (16 * k.val + q.val) < 529) {kk} :
    (iprop(owns (th d L) mId fullShare ids ∗ owns (th d L) mOl fullShare labs ∗ owns (th d L) mD fullShare D
        ∗ owns (th d L) mS0 fullShare (arr S 0) ∗ owns (th d L) mM0 fullShare (arr M 0) ∗ owns (th d L) mS1 fullShare (arr S 1)) : sProp 𝕄)
      ⊢ iprop((∀ v hw, ⌜∀ q, (v (ln q)).toNat = p.val⌝ -∗ owns (th d L) mId fullShare ids -∗ owns (th d L) mOl fullShare labs -∗ owns (th d L) mD fullShare D
        -∗ owns (th d L) mS0 fullShare (arr (bump fS S p.val (fun c => run fS zS D (fun j => wordAt ids (16 * k.val + j)) c 16)) 0)
        -∗ owns (th d L) mM0 fullShare (arr (bump fM M p.val (fun c => run fM zM D (fun j => wordAt ids (16 * k.val + j)) c 16)) 0)
        -∗ owns (th d L) mS1 fullShare (arr (bump fS S p.val (fun c => run fS zS D (fun j => wordAt ids (16 * k.val + j)) c 16)) 1)
        -∗ wp frame (wpE (defs₀ (F := F)) 𝒱₀ (th d L) none) Set.univ (kk ⟨v, hw, tv (fun c => run fS zS D (fun j => wordAt ids (16 * k.val + j)) c 16) 2, tv (fun c => run fS zS D (fun j => wordAt ids (16 * k.val + j)) c 16) 3, tv (fun c => run fS zS D (fun j => wordAt ids (16 * k.val + j)) c 16) 4, tv (fun c => run fS zS D (fun j => wordAt ids (16 * k.val + j)) c 16) 5, tv (fun c => run fS zS D (fun j => wordAt ids (16 * k.val + j)) c 16) 6, tv (fun c => run fS zS D (fun j => wordAt ids (16 * k.val + j)) c 16) 7, tv (fun c => run fM zM D (fun j => wordAt ids (16 * k.val + j)) c 16) 1, tv (fun c => run fM zM D (fun j => wordAt ids (16 * k.val + j)) c 16) 2, tv (fun c => run fM zM D (fun j => wordAt ids (16 * k.val + j)) c 16) 3, tv (fun c => run fM zM D (fun j => wordAt ids (16 * k.val + j)) c 16) 4, tv (fun c => run fM zM D (fun j => wordAt ids (16 * k.val + j)) c 16) 5, tv (fun c => run fM zM D (fun j => wordAt ids (16 * k.val + j)) c 16) 6, tv (fun c => run fM zM D (fun j => wordAt ids (16 * k.val + j)) c 16) 7⟩) Q)
      -∗ wp frame (wpE (defs₀ (F := F)) 𝒱₀ (th d L) none) Set.univ (bP2 (F := F) L t1 h1 v41 k0_pay111 k0_pay112 k0_pay113 k0_pay114 k0_pay115 k0_pay116 k0_pay117 k0_pay118 (BitVec.ofNat 32 (16 * m.val)) hw13 c0 c1 k >>= kk) Q) := by
  have hk : k.val < 48 := lt_trans (lt_of_lt_of_eq k.isLt (t10_facts m).2.1) m.isLt
  rw [wp_bind]
  unfold bP2 k0_part2_skel
  simp only [Prog.lift, Prog.bind_op, Prog.bind_ret, Prog.pure_eq_ret]
  iintro ⟨HI, HL, HD, HS0, HM0, HS1⟩ Hk
  iapply (ow_load (c := th d L) (M := mId)) $$ HI
  iintro HI
  iapply (ow_load (c := th d L) (M := mOl)) $$ HL
  iintro HL
  have hvI := fun q => row768 ids k.val hk _ (off6_of m k) (k0_off6_inb L t1 (BitVec.ofNat 32 (16 * m.val)) hw13 k h1) q
  have hvL := row768 labs k.val hk _ (off6_of m k) (k0_off6_inb L t1 (BitVec.ofNat 32 (16 * m.val)) hw13 k h1) 0
  generalize hVI : (fun j => ids ((Rect.unit (s := S768) (k0_off6 (BitVec.ofNat 32 (16 * m.val)) k) S16.size (k0_off6_inb L t1 (BitVec.ofNat 32 (16 * m.val)) hw13 k h1)).toLoadRect.idx j)) = VI
  replace hvI : ∀ q : Fin 16, (VI (ln q)).toNat = wordAt ids (16 * k.val + q.val) := fun q => by
    rw [← hVI, wordAt_row ids k.val hk q]; exact congrArg _ (hvI q)
  generalize hVL : (fun j => labs ((Rect.unit (s := S768) (k0_off6 (BitVec.ofNat 32 (16 * m.val)) k) S16.size (k0_off6_inb L t1 (BitVec.ofNat 32 (16 * m.val)) hw13 k h1)).toLoadRect.idx j)) = VL
  have hv : ∀ q, (k0_pay15 (F := F) VL (ln q)).toNat = p.val := fun q => by
    rw [pay15_ln, ← hVL, ← hl]
    exact (congrArg _ hvL).trans (wordAt_row labs k.val hk 0).symm
  have hc : k0_chk15 L t1 v41 (k0_pay15 (F := F) VL) := by
    have hb : ∀ a x, ((![k0_pay15 (F := F) VL, v41] : Fin 2 → IVec S16 32) a x).toNat < S16x16.size a := by
      intro a x
      obtain ⟨q, rfl⟩ := ln_surj x
      match a with
      | 0 => exact lt_of_eq_of_lt (hv q) p.isLt
      | 1 => exact lt_of_eq_of_lt (h41 q) q.isLt
    unfold k0_chk15
    repeat' apply And.intro
    all_goals exact fun _ => hb
  iapply (ow_assume hc)
  iapply (ow_for _ _ _ _ (fun n acc => iprop(owns (th d L) mD fullShare D ∗ ⌜acc = tup D (fun j => wordAt ids (16 * k.val + j)) n⌝)) (fun q acc =>
    tok_body (F := F) d L t1 h1 v41 _ hw13 c0 c1 k VI D q acc _ hvI hid)) $$ [HD]
  · isplitl [HD]; · iexact HD
    ipureintro; rfl
  iintro %acc ⟨HD, %ha⟩
  subst ha
  dsimp only [tup]
  iapply (ow_pair d L (M := mS0) fS S (fun c => run fS zS D (fun j => wordAt ids (16 * k.val + j)) c 16) 0 p hv h41 (fun _ _ => rfl)) $$ HS0
  iintro HS0
  iapply (ow_pair d L (M := mM0) fM M (fun c => run fM zM D (fun j => wordAt ids (16 * k.val + j)) c 16) 0 p hv h41 (fun _ _ => rfl)) $$ HM0
  iintro HM0
  iapply (ow_pair d L (M := mS1) fS S (fun c => run fS zS D (fun j => wordAt ids (16 * k.val + j)) c 16) 1 p hv h41 (fun _ _ => rfl)) $$ HS1
  iintro HS1
  rw [wp_ret]; imodintro
  iapply Hk $$ %(k0_pay15 (F := F) VL) %hc %hv HI HL HD HS0 HM0 HS1

/-- A group's trip. -/
theorem group_body (v37) (v41 : IVec S16 32) (h41 : ∀ k, (v41 (ln k)).toNat = k.val) (m : Fin 48) (hw13) (k : Fin (k0_t10_loop (BitVec.ofNat 32 (16 * m.val))).trips) (acc : Unit)
    (ids labs : Vec F S768 .i32) (D : S128x529.Idx → F .f32) (S M : Fin 16 → Fin 128 → F .f32)
    (hl : ∀ n < m.val, wordAt labs (16 * n) < 16) (hid : ∀ n < m.val, ∀ q : Fin 16, wordAt ids (16 * n + q.val) < 529) :
    (iprop(owns (th d L) mId fullShare ids ∗ owns (th d L) mOl fullShare labs ∗ owns (th d L) mD fullShare D ∗ Accs (F := F) d L (fun g => arr (accN fS zS D ids labs S k.val) g) (fun g => arr (accN fM zM D ids labs M k.val) g)) : sProp 𝕄)
      ⊢ wp frame (wpE (defs₀ (F := F)) 𝒱₀ (th d L) none) Set.univ (bT10 (F := F) L t1 v37 h1 v41 (BitVec.ofNat 32 (16 * m.val)) hw13 k acc)
          fun _ => iprop(owns (th d L) mId fullShare ids ∗ owns (th d L) mOl fullShare labs ∗ owns (th d L) mD fullShare D ∗ Accs (F := F) d L (fun g => arr (accN fS zS D ids labs S (k.val + 1)) g) (fun g => arr (accN fM zM D ids labs M (k.val + 1)) g)) := by
  have hk : k.val < m.val := lt_of_lt_of_eq k.isLt (t10_facts m).2.1
  obtain ⟨p, hp⟩ : ∃ p : Fin 16, wordAt labs (16 * k.val) = p.val := ⟨⟨_, hl _ hk⟩, rfl⟩
  have eS : accN fS zS D ids labs S (k.val + 1) = bump fS (accN fS zS D ids labs S k.val) p.val (fun c => run fS zS D (fun j => wordAt ids (16 * k.val + j)) c 16) := by
    rw [← hp]; rfl
  have eM : accN fM zM D ids labs M (k.val + 1) = bump fM (accN fM zM D ids labs M k.val) p.val (fun c => run fM zM D (fun j => wordAt ids (16 * k.val + j)) c 16) := by
    rw [← hp]; rfl
  rw [eS, eM]
  unfold Accs bT10 k0_t10_body
  rw [k0_part2_eq_skeleton]
  iintro ⟨HI, HL, HD, HS0, HM0, HS1, HM1, HS2, HM2, HS3, HM3, HS4, HM4, HS5, HM5, HS6, HM6, HS7, HM7⟩
  iapply (group_fst (F := F) d L t1 h1 v41 h41 m hw13 _ _ k ids labs D (accN fS zS D ids labs S k.val) (accN fM zM D ids labs M k.val) p hp (hid _ hk)) $$ [HI HL HD HS0 HM0 HS1]
  · isplitl [HI]; · iexact HI
    isplitl [HL]; · iexact HL
    isplitl [HD]; · iexact HD
    isplitl [HS0]; · iexact HS0
    isplitl [HM0]; · iexact HM0
    iexact HS1
  iintro %v %hc %hv HI HL HD HS0 HM0 HS1
  dsimp only
  simp only [Prog.lift, Prog.bind_op, Prog.bind_ret, Prog.pure_eq_ret]
  iapply (ow_pair d L (M := mM1) fM (accN fM zM D ids labs M k.val) (fun c => run fM zM D (fun j => wordAt ids (16 * k.val + j)) c 16) 1 p hv h41 (fun _ _ => rfl)) $$ HM1
  iintro HM1
  iapply (ow_pair d L (M := mS2) fS (accN fS zS D ids labs S k.val) (fun c => run fS zS D (fun j => wordAt ids (16 * k.val + j)) c 16) 2 p hv h41 (fun _ _ => rfl)) $$ HS2
  iintro HS2
  iapply (ow_pair d L (M := mM2) fM (accN fM zM D ids labs M k.val) (fun c => run fM zM D (fun j => wordAt ids (16 * k.val + j)) c 16) 2 p hv h41 (fun _ _ => rfl)) $$ HM2
  iintro HM2
  iapply (ow_pair d L (M := mS3) fS (accN fS zS D ids labs S k.val) (fun c => run fS zS D (fun j => wordAt ids (16 * k.val + j)) c 16) 3 p hv h41 (fun _ _ => rfl)) $$ HS3
  iintro HS3
  iapply (ow_pair d L (M := mM3) fM (accN fM zM D ids labs M k.val) (fun c => run fM zM D (fun j => wordAt ids (16 * k.val + j)) c 16) 3 p hv h41 (fun _ _ => rfl)) $$ HM3
  iintro HM3
  iapply (ow_pair d L (M := mS4) fS (accN fS zS D ids labs S k.val) (fun c => run fS zS D (fun j => wordAt ids (16 * k.val + j)) c 16) 4 p hv h41 (fun _ _ => rfl)) $$ HS4
  iintro HS4
  iapply (ow_pair d L (M := mM4) fM (accN fM zM D ids labs M k.val) (fun c => run fM zM D (fun j => wordAt ids (16 * k.val + j)) c 16) 4 p hv h41 (fun _ _ => rfl)) $$ HM4
  iintro HM4
  iapply (ow_pair d L (M := mS5) fS (accN fS zS D ids labs S k.val) (fun c => run fS zS D (fun j => wordAt ids (16 * k.val + j)) c 16) 5 p hv h41 (fun _ _ => rfl)) $$ HS5
  iintro HS5
  iapply (ow_pair d L (M := mM5) fM (accN fM zM D ids labs M k.val) (fun c => run fM zM D (fun j => wordAt ids (16 * k.val + j)) c 16) 5 p hv h41 (fun _ _ => rfl)) $$ HM5
  iintro HM5
  iapply (ow_pair d L (M := mS6) fS (accN fS zS D ids labs S k.val) (fun c => run fS zS D (fun j => wordAt ids (16 * k.val + j)) c 16) 6 p hv h41 (fun _ _ => rfl)) $$ HS6
  iintro HS6
  iapply (ow_pair d L (M := mM6) fM (accN fM zM D ids labs M k.val) (fun c => run fM zM D (fun j => wordAt ids (16 * k.val + j)) c 16) 6 p hv h41 (fun _ _ => rfl)) $$ HM6
  iintro HM6
  iapply (ow_pair d L (M := mS7) fS (accN fS zS D ids labs S k.val) (fun c => run fS zS D (fun j => wordAt ids (16 * k.val + j)) c 16) 7 p hv h41 (fun _ _ => rfl)) $$ HS7
  iintro HS7
  iapply (ow_pair d L (M := mM7) fM (accN fM zM D ids labs M k.val) (fun c => run fM zM D (fun j => wordAt ids (16 * k.val + j)) c 16) 7 p hv h41 (fun _ _ => rfl)) $$ HM7
  iintro HM7
  rw [wp_ret]; imodintro
  isplitl [HI]; · iexact HI
  isplitl [HL]; · iexact HL
  isplitl [HD]; · iexact HD
  isplitl [HS0]; · iexact HS0
  isplitl [HM0]; · iexact HM0
  isplitl [HS1]; · iexact HS1
  isplitl [HM1]; · iexact HM1
  isplitl [HS2]; · iexact HS2
  isplitl [HM2]; · iexact HM2
  isplitl [HS3]; · iexact HS3
  isplitl [HM3]; · iexact HM3
  isplitl [HS4]; · iexact HS4
  isplitl [HM4]; · iexact HM4
  isplitl [HS5]; · iexact HS5
  isplitl [HM5]; · iexact HM5
  isplitl [HS6]; · iexact HS6
  isplitl [HM6]; · iexact HM6
  isplitl [HS7]; · iexact HS7
  iexact HM7

end Tile

end Cert.Proof
-- ==== Proof.BodyC.lean ====
/-
  The trips of the loops that set the accumulators and that write the staged output.
-/
module

public import proofs.«01_k».proof.Proof.BodyB
public import Idealize.ShloMosaic.Lib.Pipeline.Value

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

open Cert.Proof.Lanes Cert.Proof.Place Cert.Proof.Chunk

variable {F : FTy → Type}

local notation "𝕄" => MT nD τ sig (HIx 1) (Elt F) ℕ UU ℕ

variable [FloatOps F]

section Rows

/-- Lane `k` of a one-row vector. -/
def r1 (k : Fin 16) : S1x16.Idx := fun a => match a with | 0 => ⟨0, Nat.one_pos⟩ | 1 => k

theorem r1_surj (x : S1x16.Idx) : ∃ k, x = r1 k := ⟨x 1, by
  funext a
  match a with
  | 0 => exact Fin.ext (by have h : (x 0).val < 1 := (x 0).isLt; show (x 0).val = 0; omega)
  | 1 => rfl⟩

theorem cast_up {α : Type} (v : S16.Idx → α) (h : S16.ShapeCasts S1x16) (k : Fin 16) : shapeCast S1x16 v h (r1 k) = v (ln k) := by
  refine (shapeCast_addUnit_apply (n := 1) ![16] v h (r1 k)).trans ?_
  congr 1; funext a; obtain rfl := Fin.eq_zero a; rfl

theorem cast_down {α : Type} (v : S1x16.Idx → α) (h : S1x16.ShapeCasts S16) (k : Fin 16) : shapeCast S16 v h (ln k) = v (r1 k) := by
  refine (shapeCast_dropUnit_apply (n := 1) ![16] v h (ln k)).trans ?_
  congr 1; funext a
  match a with
  | 0 => rfl
  | 1 => rfl

theorem emb16 (off : Fin 2 → ℕ) (p : Fin 16) (ho : off = ![p.val, 0]) (inb) (k : Fin 16) : (Rect.unit (s := S16x16) off S1x16.size inb).emb (r1 k) = ix p k := by
  subst ho
  funext a
  match a with
  | 0 => exact Fin.ext (show p.val + 1 * 0 = p.val by omega)
  | 1 => exact Fin.ext (show 0 + 1 * k.val = k.val by omega)

/-- Row `p`, channel `c` of the staged output. -/
def ox (p : Fin 16) (c : Fin 128) : S16x128.Idx := fun a => match a with | 0 => p | 1 => c

theorem ox_eta (y : S16x128.Idx) : y = ox (y 0) (y 1) := by
  funext a; match a with | 0 => rfl | 1 => rfl

theorem emb128 (off : Fin 2 → ℕ) (p : Fin 16) (g : Fin 8) (ho : off = ![p.val, 16 * g.val]) (inb) (k : Fin 16) : (Rect.unit (s := S16x128) off S1x16.size inb).emb (r1 k) = ox p (ch g k) := by
  subst ho
  funext a
  match a with
  | 0 => exact Fin.ext (show p.val + 1 * 0 = p.val by omega)
  | 1 => exact Fin.ext (show 16 * g.val + 1 * k.val = 16 * g.val + k.val by omega)

/-- The rows below `n` hold `z`. -/
def InitN (z : F .f32) (n : ℕ) (X : S16x16.Idx → F .f32) : Prop := ∀ p k : Fin 16, p.val < n → X (ix p k) = z

omit [FloatOps F] in
theorem InitN.step {z : F .f32} {p : Fin 16} {X Y : S16x16.Idx → F .f32} {off : Fin 2 → ℕ} (ho : off = ![p.val, 0]) {inb} {u : S16.Idx → F .f32} (hu : ∀ k, u (ln k) = z) {h : S16.ShapeCasts S1x16}
    (hY : PutAt (F := F) (e := .f32) (Rect.unit (s := S16x16) off S1x16.size inb) X Y (shapeCast S1x16 u h)) (hX : InitN z p.val X) : InitN z (p.val + 1) Y := by
  intro q k hq
  by_cases e : q = p
  · subst e
    have := hY.1 (r1 k)
    rw [emb16 off q ho] at this
    rw [this, cast_up]; exact hu k
  · rw [hY.2 (ix q k) fun x => ?_]
    · exact hX q k (by have : q.val ≠ p.val := fun h => e (Fin.ext h); omega)
    · obtain ⟨k', rfl⟩ := r1_surj x
      rw [emb16 off p ho]
      intro h; exact e (congrFun h 0)

omit [FloatOps F] in
theorem InitN.all {z : F .f32} {X : S16x16.Idx → F .f32} (h : InitN z 16 X) (g : Fin 8) : X = arr (fun _ _ => z) g :=
  ix_ext fun p k => h p k p.isLt

/-- The rows below `p`, and the first `16 * g` channels of row `p`, are written. -/
def OutG (f : Fin 16 → Fin 128 → F .f32) (p g : ℕ) (X : S16x128.Idx → F .f32) : Prop :=
  ∀ (q : Fin 16) (c : Fin 128), (q.val < p ∨ (q.val = p ∧ c.val < 16 * g)) → X (ox q c) = f q c

omit [FloatOps F] in
theorem OutG.step {f : Fin 16 → Fin 128 → F .f32} {p : Fin 16} {g : Fin 8} {X Y : S16x128.Idx → F .f32} {off : Fin 2 → ℕ} (ho : off = ![p.val, 16 * g.val]) {inb} {u : S16.Idx → F .f32}
    (hu : ∀ k, u (ln k) = f p (ch g k)) {h : S16.ShapeCasts S1x16}
    (hY : PutAt (F := F) (e := .f32) (Rect.unit (s := S16x128) off S1x16.size inb) X Y (shapeCast S1x16 u h)) (hX : OutG f p.val g.val X) : OutG f p.val (g.val + 1) Y := by
  intro q c hq
  by_cases e : q = p ∧ c.val / 16 = g.val
  · obtain ⟨rfl, e⟩ := e
    have hc : c = ch g ⟨c.val % 16, by omega⟩ := Fin.ext (by show c.val = 16 * g.val + c.val % 16; omega)
    have := hY.1 (r1 ⟨c.val % 16, by omega⟩)
    rw [emb128 off q g ho, ← hc, cast_up, hu, ← hc] at this
    exact this
  · rw [hY.2 (ox q c) fun x => ?_]
    · refine hX q c ?_
      rcases hq with hq | ⟨hq, hc⟩
      · exact .inl hq
      · have : c.val / 16 ≠ g.val := fun h => e ⟨Fin.ext hq, h⟩
        exact .inr ⟨hq, by omega⟩
    · obtain ⟨k, rfl⟩ := r1_surj x
      rw [emb128 off p g ho]
      intro h
      refine e ⟨congrFun h 0, ?_⟩
      have h1 : c = ch g k := congrFun h 1
      rw [h1]; show (16 * g.val + k.val) / 16 = g.val; omega

omit [FloatOps F] in
theorem OutG.next {f : Fin 16 → Fin 128 → F .f32} {p : ℕ} {X : S16x128.Idx → F .f32} (h : OutG f p 8 X) : OutG f (p + 1) 0 X :=
  fun q c hq => h q c (by have := c.isLt; omega)

/-- The reciprocal's table at a number. -/
def rAt (R : S2056.Idx → F .f32) (n : ℕ) : F .f32 := if h : n < 2056 then R (Shape.ofLane (d := ![2056]) (show Fin 2056 from ⟨n, h⟩)) else R (Shape.ofLane (d := ![2056]) (show Fin 2056 from 0))

/-- What the output holds for part `p`, channel `c`. -/
def fout (S M : Fin 16 → Fin 128 → F .f32) (cnt npad : IVec S16 32) (R : S2056.Idx → F .f32) (p : Fin 16) (c : Fin 128) : F .f32 :=
  FloatOps.addf (FloatOps.mulf (FloatOps.addf (S p c) (FloatOps.mulf (Scalar.ofBits .f32 0x42C80000#32) (FloatOps.sitofp .f32 (npad (ln p))))) (rAt R (cnt (ln p)).toNat))
    (if Scalar.cmpi .sgt (cnt (ln p)) 0#32 = 1#1 then M p c else zS)

/-- A row of an accumulator, as it is loaded. -/
theorem row_ld (S : Fin 16 → Fin 128 → F .f32) (g : Fin 8) (off : Fin 2 → ℕ) (p : Fin 16) (ho : off = ![p.val, 0]) (inb) (h : S1x16.ShapeCasts S16) (k : Fin 16) :
    shapeCast S16 (fun j => arr S g ((Rect.unit (s := S16x16) off S1x16.size inb).toLoadRect.idx j)) h (ln k) = S p (ch g k) := by
  rw [cast_down]
  exact (congrArg (arr S g) (emb16 off p ho inb k)).trans rfl

/-- The written value from its parts. -/
theorem fout_of (S M : Fin 16 → Fin 128 → F .f32) (cnt npad : IVec S16 32) (R : S2056.Idx → F .f32) (p : Fin 16) (g : Fin 8) (k : Fin 16) {a b w x : F .f32} {m : BitVec 1}
    (ha : a = S p (ch g k)) (hb : b = M p (ch g k)) (hw : w = FloatOps.mulf (Scalar.ofBits .f32 0x42C80000#32) (FloatOps.sitofp .f32 (npad (ln p)))) (hx : x = rAt R (cnt (ln p)).toNat)
    (hm : m = Scalar.cmpi .sgt (cnt (ln p)) 0#32) :
    FloatOps.addf (FloatOps.mulf (FloatOps.addf a w) x) (if m = 1#1 then b else zS) = fout S M cnt npad R p (ch g k) := by
  subst ha hb hw hx hm; rfl

end Rows

attribute [local irreducible] scan iota

section Tile

variable (d : Dev nD) (L : grid0.Coords) (t1 : Fin k0_t1_loop.trips) (h1 : k0_cond1 L t1 = 1#1)

/-- A row of an accumulator set. -/
theorem ow_init {α : Type} {Q : α → sProp 𝕄} {M : Memref sig (th d L).2.kind .vmem S16x16 .f32} {z : F .f32} {p : Fin 16} {X : S16x16.Idx → F .f32} (hX : InitN z p.val X) {off : Fin 2 → ℕ}
    (ho : off = ![p.val, 0]) {inb} {u : S16.Idx → F .f32} (hu : ∀ k, u (ln k) = z) {h : S16.ShapeCasts S1x16} {hl hx hm}
    {k : PUnit → Prog (TpuEff nD τ sig (Elt F) Λ₀ (th d L).2) α} :
    (owns (th d L) M fullShare X : sProp 𝕄) ⊢ iprop((∀ Y, ⌜InitN z (p.val + 1) Y⌝ -∗ owns (th d L) M fullShare Y -∗ wp frame (wpE (defs₀ (F := F)) 𝒱₀ (th d L) none) Set.univ (k ⟨⟩) Q)
      -∗ wp frame (wpE (defs₀ (F := F)) 𝒱₀ (th d L) none) Set.univ (.op (.load M (Rect.unit (s := S16x16) off S1x16.size inb).toLoadRect hl) fun _ =>
          .op (.store M (Rect.unit (s := S16x16) off S1x16.size inb) (shapeCast S1x16 u h) Finset.univ hx hm) k) Q) := by
  iintro H Hk
  iapply (ow_load (c := th d L) (M := M)) $$ H
  iintro H
  iapply (ow_store (c := th d L) (M := M)) $$ H
  iintro %Y %hY H
  iapply Hk $$ %Y %(InitN.step ho hu hY hX) H

/-- Sixteen channels of the staged output written. -/
theorem ow_out {α : Type} {Q : α → sProp 𝕄} (f : Fin 16 → Fin 128 → F .f32) (p : Fin 16) (g : Fin 8) {X : S16x128.Idx → F .f32} (hX : OutG f p.val g.val X) {off : Fin 2 → ℕ}
    (ho : off = ![p.val, 16 * g.val]) {inb} {u : S16.Idx → F .f32} (hu : ∀ k, u (ln k) = f p (ch g k)) {h : S16.ShapeCasts S1x16} {hl hx hm}
    {k : PUnit → Prog (TpuEff nD τ sig (Elt F) Λ₀ (th d L).2) α} :
    (owns (th d L) mSt fullShare X : sProp 𝕄) ⊢ iprop((∀ Y, ⌜OutG f p.val (g.val + 1) Y⌝ -∗ owns (th d L) mSt fullShare Y -∗ wp frame (wpE (defs₀ (F := F)) 𝒱₀ (th d L) none) Set.univ (k ⟨⟩) Q)
      -∗ wp frame (wpE (defs₀ (F := F)) 𝒱₀ (th d L) none) Set.univ (.op (.load mSt (Rect.unit (s := S16x128) off S1x16.size inb).toLoadRect hl) fun _ =>
          .op (.store mSt (Rect.unit (s := S16x128) off S1x16.size inb) (shapeCast S1x16 u h) Finset.univ hx hm) k) Q) := by
  iintro H Hk
  iapply (ow_load (c := th d L) (M := mSt)) $$ H
  iintro H
  iapply (ow_store (c := th d L) (M := mSt)) $$ H
  iintro %Y %hY H
  iapply Hk $$ %Y %(OutG.step ho hu hY hX) H

/-- The accumulators with their first `n` rows at the joins' starts. -/
def InitAccs (n : ℕ) : sProp 𝕄 :=
  iprop(∃ XS XM : Fin 8 → S16x16.Idx → Elt F .f32, ⌜∀ g, InitN (F := F) zS n (XS g) ∧ InitN (F := F) zM n (XM g)⌝ ∗ Accs (F := F) d L XS XM)

/-- An initialisation's trip. -/
theorem init_body (v37) (k : Fin k0_t2_loop.trips) (acc : Unit) :
    (InitAccs (F := F) d L k.val : sProp 𝕄)
      ⊢ wp frame (wpE (defs₀ (F := F)) 𝒱₀ (th d L) none) Set.univ (bT2 (F := F) L t1 v37 h1 k acc) fun _ => InitAccs (F := F) d L (k.val + 1) := by
  have hk : k.val < 16 := k.isLt
  obtain ⟨p, hp⟩ : ∃ p : Fin 16, k.val = p.val := ⟨⟨k.val, hk⟩, rfl⟩
  have ho : k0_off1 k = ![p.val, 0] := by rw [k0_off1_eq, hp]
  rw [hp]
  unfold InitAccs Accs bT2 k0_t2_body
  rw [k0_part1_eq_skeleton]
  iintro ⟨%XS, %XM, %hX, HS0, HM0, HS1, HM1, HS2, HM2, HS3, HM3, HS4, HM4, HS5, HM5, HS6, HM6, HS7, HM7⟩
  rw [wp_bind]
  unfold k0_part1_skel
  simp only [Prog.lift, Prog.bind_op, Prog.bind_ret, Prog.pure_eq_ret]
  iapply (ow_init (F := F) d L (M := mS0) (z := zS) (hX 0).1 ho (fun _ => rfl)) $$ HS0
  iintro %YS0 %hS0 HS0
  iapply (ow_init (F := F) d L (M := mM0) (z := zM) (hX 0).2 ho (fun _ => rfl)) $$ HM0
  iintro %YM0 %hM0 HM0
  iapply (ow_init (F := F) d L (M := mS1) (z := zS) (hX 1).1 ho (fun _ => rfl)) $$ HS1
  iintro %YS1 %hS1 HS1
  iapply (ow_init (F := F) d L (M := mM1) (z := zM) (hX 1).2 ho (fun _ => rfl)) $$ HM1
  iintro %YM1 %hM1 HM1
  iapply (ow_init (F := F) d L (M := mS2) (z := zS) (hX 2).1 ho (fun _ => rfl)) $$ HS2
  iintro %YS2 %hS2 HS2
  iapply (ow_init (F := F) d L (M := mM2) (z := zM) (hX 2).2 ho (fun _ => rfl)) $$ HM2
  iintro %YM2 %hM2 HM2
  iapply (ow_init (F := F) d L (M := mS3) (z := zS) (hX 3).1 ho (fun _ => rfl)) $$ HS3
  iintro %YS3 %hS3 HS3
  iapply (ow_init (F := F) d L (M := mM3) (z := zM) (hX 3).2 ho (fun _ => rfl)) $$ HM3
  iintro %YM3 %hM3 HM3
  rw [wp_ret]; imodintro
  dsimp only
  iapply (ow_init (F := F) d L (M := mS4) (z := zS) (hX 4).1 ho (fun _ => rfl)) $$ HS4
  iintro %YS4 %hS4 HS4
  iapply (ow_init (F := F) d L (M := mM4) (z := zM) (hX 4).2 ho (fun _ => rfl)) $$ HM4
  iintro %YM4 %hM4 HM4
  iapply (ow_init (F := F) d L (M := mS5) (z := zS) (hX 5).1 ho (fun _ => rfl)) $$ HS5
  iintro %YS5 %hS5 HS5
  iapply (ow_init (F := F) d L (M := mM5) (z := zM) (hX 5).2 ho (fun _ => rfl)) $$ HM5
  iintro %YM5 %hM5 HM5
  iapply (ow_init (F := F) d L (M := mS6) (z := zS) (hX 6).1 ho (fun _ => rfl)) $$ HS6
  iintro %YS6 %hS6 HS6
  iapply (ow_init (F := F) d L (M := mM6) (z := zM) (hX 6).2 ho (fun _ => rfl)) $$ HM6
  iintro %YM6 %hM6 HM6
  iapply (ow_init (F := F) d L (M := mS7) (z := zS) (hX 7).1 ho (fun _ => rfl)) $$ HS7
  iintro %YS7 %hS7 HS7
  iapply (ow_init (F := F) d L (M := mM7) (z := zM) (hX 7).2 ho (fun _ => rfl)) $$ HM7
  iintro %YM7 %hM7 HM7
  rw [wp_ret]; imodintro
  iexists ![YS0, YS1, YS2, YS3, YS4, YS5, YS6, YS7], ![YM0, YM1, YM2, YM3, YM4, YM5, YM6, YM7]
  isplitr
  · ipureintro
    intro g
    match g with
    | 0 => exact ⟨hS0, hM0⟩
    | 1 => exact ⟨hS1, hM1⟩
    | 2 => exact ⟨hS2, hM2⟩
    | 3 => exact ⟨hS3, hM3⟩
    | 4 => exact ⟨hS4, hM4⟩
    | 5 => exact ⟨hS5, hM5⟩
    | 6 => exact ⟨hS6, hM6⟩
    | 7 => exact ⟨hS7, hM7⟩
  isplitl [HS0]; · iexact HS0
  isplitl [HM0]; · iexact HM0
  isplitl [HS1]; · iexact HS1
  isplitl [HM1]; · iexact HM1
  isplitl [HS2]; · iexact HS2
  isplitl [HM2]; · iexact HM2
  isplitl [HS3]; · iexact HS3
  isplitl [HM3]; · iexact HM3
  isplitl [HS4]; · iexact HS4
  isplitl [HM4]; · iexact HM4
  isplitl [HS5]; · iexact HS5
  isplitl [HM5]; · iexact HM5
  isplitl [HS6]; · iexact HS6
  isplitl [HM6]; · iexact HM6
  isplitl [HS7]; · iexact HS7
  iexact HM7

/-- The initialised accumulators. -/
theorem init_done : (InitAccs (F := F) d L 16 : sProp 𝕄) ⊢ Accs (F := F) d L (fun g => arr (fun _ _ => zS) g) (fun g => arr (fun _ _ => zM) g) := by
  unfold InitAccs
  iintro ⟨%XS, %XM, %hX, H⟩
  have e1 : XS = fun g => arr (fun _ _ => zS) g := funext fun g => (hX g).1.all g
  have e2 : XM = fun g => arr (fun _ _ => zM) g := funext fun g => (hX g).2.all g
  subst e1 e2
  iexact H

/-- A part's trip of the output. -/
theorem out_body (v37) (cnt npad : IVec S16 32) (hcnt : ∀ q, (cnt (ln q)).toNat < 2056) (k : Fin k0_t14_loop.trips) (acc : Unit) (S M : Fin 16 → Fin 128 → F .f32) (R : S2056.Idx → F .f32) :
    (iprop(owns (th d L) mRv fullShare R ∗ Accs (F := F) d L (fun g => arr S g) (fun g => arr M g) ∗ ∃ X, ⌜OutG (F := F) (fout S M cnt npad R) k.val 0 X⌝ ∗ owns (th d L) mSt fullShare X) : sProp 𝕄)
      ⊢ wp frame (wpE (defs₀ (F := F)) 𝒱₀ (th d L) none) Set.univ (bT14 (F := F) L t1 v37 h1 cnt npad k acc)
          fun _ => iprop(owns (th d L) mRv fullShare R ∗ Accs (F := F) d L (fun g => arr S g) (fun g => arr M g) ∗ ∃ X, ⌜OutG (F := F) (fout S M cnt npad R) (k.val + 1) 0 X⌝ ∗ owns (th d L) mSt fullShare X) := by
  have hk : k.val < 16 := k.isLt
  obtain ⟨p, hp⟩ : ∃ p : Fin 16, k.val = p.val := ⟨⟨k.val, hk⟩, rfl⟩
  have ho : k0_off8 k = ![p.val, 0] := by rw [k0_off8_eq, hp]
  have ho0 : k0_off9 k = ![p.val, 16 * ((0 : Fin 8)).val] := by rw [k0_off9_eq, hp]; rfl
  have ho1 : k0_off10 k = ![p.val, 16 * ((1 : Fin 8)).val] := by rw [k0_off10_eq, hp]; rfl
  have ho2 : k0_off11 k = ![p.val, 16 * ((2 : Fin 8)).val] := by rw [k0_off11_eq, hp]; rfl
  have ho3 : k0_off12 k = ![p.val, 16 * ((3 : Fin 8)).val] := by rw [k0_off12_eq, hp]; rfl
  have ho4 : k0_off13 k = ![p.val, 16 * ((4 : Fin 8)).val] := by rw [k0_off13_eq, hp]; rfl
  have ho5 : k0_off14 k = ![p.val, 16 * ((5 : Fin 8)).val] := by rw [k0_off14_eq, hp]; rfl
  have ho6 : k0_off15 k = ![p.val, 16 * ((6 : Fin 8)).val] := by rw [k0_off15_eq, hp]; rfl
  have ho7 : k0_off16 k = ![p.val, 16 * ((7 : Fin 8)).val] := by rw [k0_off16_eq, hp]; rfl
  have h77 : ∀ q, k0_pay94 cnt 0#32 1#32 k (ln q) = cnt (ln p) := fun q => pay94_ln cnt k q p hp
  have h90 : ∀ q, k0_pay95 (F := F) npad 0#32 1#32 k (ln q) = FloatOps.mulf (Scalar.ofBits .f32 0x42C80000#32) (FloatOps.sitofp .f32 (npad (ln p))) := fun q => pay95_ln npad k q p hp
  have h92 : ∀ q, k0_pay96 (k0_pay94 cnt 0#32 1#32 k) (ln q) = Scalar.cmpi .sgt (cnt (ln p)) 0#32 := fun q => by
    show Scalar.cmpi .sgt (k0_pay94 cnt 0#32 1#32 k (ln q)) 0#32 = _; rw [h77]
  have hb : ∀ a x, ((![k0_pay94 cnt 0#32 1#32 k] : Fin 1 → IVec S16 32) a x).toNat < S2056.size a := by
    intro a x
    obtain rfl := Fin.eq_zero a
    obtain ⟨q, rfl⟩ := ln_surj x
    exact lt_of_eq_of_lt (congrArg _ (h77 q)) (hcnt p)
  have h78 : ∀ q, loadIdx (F := F) (s := S2056) (t := S16) (e := .f32) R ![k0_pay94 cnt 0#32 1#32 k] hb (ln q) = rAt R (cnt (ln p)).toNat := fun q => by
    unfold loadIdx rAt
    rw [dif_pos (hcnt p)]
    congr 1; funext a; obtain rfl := Fin.eq_zero a
    apply Fin.ext
    show (k0_pay94 cnt 0#32 1#32 k (ln q)).toNat = (cnt (ln p)).toNat
    rw [h77]
  have hc : k0_chk18 L t1 (k0_pay94 cnt 0#32 1#32 k) := fun _ => hb
  unfold Accs bT14 k0_t14_body
  rw [k0_part5_eq_skeleton, k0_part6_eq_skeleton, k0_part7_eq_skeleton]
  rw [hp]
  iintro ⟨HR, ⟨HS0, HM0, HS1, HM1, HS2, HM2, HS3, HM3, HS4, HM4, HS5, HM5, HS6, HM6, HS7, HM7⟩, %X0, %hX0, HX⟩
  rw [wp_bind]
  unfold k0_part5_skel
  simp only [Prog.lift, Prog.bind_op, Prog.bind_ret, Prog.pure_eq_ret]
  iapply (ow_assume hc)
  iapply (ow_loadIdx (c := th d L) (M := mRv)) $$ HR
  iintro HR
  iapply (ow_load (c := th d L) (M := mS0)) $$ HS0
  iintro HS0
  iapply (ow_load (c := th d L) (M := mM0)) $$ HM0
  iintro HM0
  iapply (ow_out (F := F) d L (fout S M cnt npad R) p 0 hX0 ho0 (fun q => fout_of S M cnt npad R p 0 q (row_ld S 0 _ p ho _ shapeCasts_S1x16_S16 q) (row_ld M 0 _ p ho _ shapeCasts_S1x16_S16 q) (h90 q) (h78 q) (h92 q))) $$ HX
  iintro %X1 %hX1 HX
  replace hX1 : OutG (F := F) (fout S M cnt npad R) p.val 1 X1 := hX1
  iapply (ow_load (c := th d L) (M := mS1)) $$ HS1
  iintro HS1
  iapply (ow_load (c := th d L) (M := mM1)) $$ HM1
  iintro HM1
  rw [wp_ret]; imodintro
  dsimp only
  rw [wp_bind]
  unfold k0_part6_skel
  simp only [Prog.lift, Prog.bind_op, Prog.bind_ret, Prog.pure_eq_ret]
  iapply (ow_out (F := F) d L (fout S M cnt npad R) p 1 hX1 ho1 (fun q => fout_of S M cnt npad R p 1 q (row_ld S 1 _ p ho _ shapeCasts_S1x16_S16 q) (row_ld M 1 _ p ho _ shapeCasts_S1x16_S16 q) (h90 q) (h78 q) (h92 q))) $$ HX
  iintro %X2 %hX2 HX
  replace hX2 : OutG (F := F) (fout S M cnt npad R) p.val 2 X2 := hX2
  iapply (ow_load (c := th d L) (M := mS2)) $$ HS2
  iintro HS2
  iapply (ow_load (c := th d L) (M := mM2)) $$ HM2
  iintro HM2
  iapply (ow_out (F := F) d L (fout S M cnt npad R) p 2 hX2 ho2 (fun q => fout_of S M cnt npad R p 2 q (row_ld S 2 _ p ho _ shapeCasts_S1x16_S16 q) (row_ld M 2 _ p ho _ shapeCasts_S1x16_S16 q) (h90 q) (h78 q) (h92 q))) $$ HX
  iintro %X3 %hX3 HX
  replace hX3 : OutG (F := F) (fout S M cnt npad R) p.val 3 X3 := hX3
  iapply (ow_load (c := th d L) (M := mS3)) $$ HS3
  iintro HS3
  iapply (ow_load (c := th d L) (M := mM3)) $$ HM3
  iintro HM3
  iapply (ow_out (F := F) d L (fout S M cnt npad R) p 3 hX3 ho3 (fun q => fout_of S M cnt npad R p 3 q (row_ld S 3 _ p ho _ shapeCasts_S1x16_S16 q) (row_ld M 3 _ p ho _ shapeCasts_S1x16_S16 q) (h90 q) (h78 q) (h92 q))) $$ HX
  iintro %X4 %hX4 HX
  replace hX4 : OutG (F := F) (fout S M cnt npad R) p.val 4 X4 := hX4
  iapply (ow_load (c := th d L) (M := mS4)) $$ HS4
  iintro HS4
  iapply (ow_load (c := th d L) (M := mM4)) $$ HM4
  iintro HM4
  rw [wp_ret]; imodintro
  dsimp only
  rw [wp_bind]
  unfold k0_part7_skel
  simp only [Prog.lift, Prog.bind_op, Prog.bind_ret, Prog.pure_eq_ret]
  iapply (ow_out (F := F) d L (fout S M cnt npad R) p 4 hX4 ho4 (fun q => fout_of S M cnt npad R p 4 q (row_ld S 4 _ p ho _ shapeCasts_S1x16_S16 q) (row_ld M 4 _ p ho _ shapeCasts_S1x16_S16 q) (h90 q) (h78 q) (h92 q))) $$ HX
  iintro %X5 %hX5 HX
  replace hX5 : OutG (F := F) (fout S M cnt npad R) p.val 5 X5 := hX5
  iapply (ow_load (c := th d L) (M := mS5)) $$ HS5
  iintro HS5
  iapply (ow_load (c := th d L) (M := mM5)) $$ HM5
  iintro HM5
  iapply (ow_out (F := F) d L (fout S M cnt npad R) p 5 hX5 ho5 (fun q => fout_of S M cnt npad R p 5 q (row_ld S 5 _ p ho _ shapeCasts_S1x16_S16 q) (row_ld M 5 _ p ho _ shapeCasts_S1x16_S16 q) (h90 q) (h78 q) (h92 q))) $$ HX
  iintro %X6 %hX6 HX
  replace hX6 : OutG (F := F) (fout S M cnt npad R) p.val 6 X6 := hX6
  iapply (ow_load (c := th d L) (M := mS6)) $$ HS6
  iintro HS6
  iapply (ow_load (c := th d L) (M := mM6)) $$ HM6
  iintro HM6
  iapply (ow_out (F := F) d L (fout S M cnt npad R) p 6 hX6 ho6 (fun q => fout_of S M cnt npad R p 6 q (row_ld S 6 _ p ho _ shapeCasts_S1x16_S16 q) (row_ld M 6 _ p ho _ shapeCasts_S1x16_S16 q) (h90 q) (h78 q) (h92 q))) $$ HX
  iintro %X7 %hX7 HX
  replace hX7 : OutG (F := F) (fout S M cnt npad R) p.val 7 X7 := hX7
  iapply (ow_load (c := th d L) (M := mS7)) $$ HS7
  iintro HS7
  iapply (ow_load (c := th d L) (M := mM7)) $$ HM7
  iintro HM7
  rw [wp_ret]; imodintro
  iapply (ow_out (F := F) d L (fout S M cnt npad R) p 7 hX7 ho7 (fun q => fout_of S M cnt npad R p 7 q (row_ld S 7 _ p ho _ shapeCasts_S1x16_S16 q) (row_ld M 7 _ p ho _ shapeCasts_S1x16_S16 q) (h90 q) (h78 q) (h92 q))) $$ HX
  iintro %X8 %hX8 HX
  replace hX8 : OutG (F := F) (fout S M cnt npad R) p.val 8 X8 := hX8
  rw [wp_ret]; imodintro
  isplitl [HR]; · iexact HR
  isplitl [HS0 HM0 HS1 HM1 HS2 HM2 HS3 HM3 HS4 HM4 HS5 HM5 HS6 HM6 HS7 HM7]
  · isplitl [HS0]; · iexact HS0
    isplitl [HM0]; · iexact HM0
    isplitl [HS1]; · iexact HS1
    isplitl [HM1]; · iexact HM1
    isplitl [HS2]; · iexact HS2
    isplitl [HM2]; · iexact HM2
    isplitl [HS3]; · iexact HS3
    isplitl [HM3]; · iexact HM3
    isplitl [HS4]; · iexact HS4
    isplitl [HM4]; · iexact HM4
    isplitl [HS5]; · iexact HS5
    isplitl [HM5]; · iexact HM5
    isplitl [HS6]; · iexact HS6
    isplitl [HM6]; · iexact HM6
    isplitl [HS7]; · iexact HS7
    iexact HM7
  iexists X8; isplitr
  · ipureintro; exact hX8.next
  iexact HX

end Tile

end Cert.Proof
-- ==== Proof.Copy.lean ====
/-
  Local copies and their waits, over owned memrefs.
-/
module

public import proofs.«01_k».proof.Proof.BodyC
public import Idealize.ShloMosaic.Lib.Pipeline.Value

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

open Cert.Proof.Lanes Cert.Proof.Place Cert.Proof.Chunk

variable {F : FTy → Type}

local notation "𝕄" => MT nD τ sig (HIx 1) (Elt F) ℕ UU ℕ

variable [FloatOps F]

section Copies

variable {c : Thread nD τ} {α : Type} {s : Shape} {e : EltTy} {sp sp' : Space}

/-- The counters' part of the resources. -/
abbrev EC : UEmb Counters (MT nD τ sig (HIx 1) (Elt F) ℕ UU ℕ) := countersEmb

/-- A memref and the same elements read as another shape. -/
theorem ow_squeeze {M : Memref sig c.2.kind sp s e} {q : PosShare TreeShare} {t : Shape} (hq : s.Squeezes t) (hc : s.ShapeCasts t) (X : s.Idx → Elt F e) :
    (owns c M q X : sProp 𝕄) ⊢ owns c (M.squeeze t hq) q (shapeCast t X hc) := by
  unfold owns
  iintro ⟨%f, %hf, H⟩
  iexists f
  isplitr
  · ipureintro; subst hf; rfl
  · have hs : (M.squeeze t hq).view.set = M.view.set := View.set_reshape _ _
    have h : (M.view.loc c ↦[M.view.set]{q} f : sProp 𝕄) ⊢ ((M.squeeze t hq).view.loc c ↦[(M.squeeze t hq).view.set]{q} f) := by
      rw [hs]
    iapply h $$ H

theorem ow_unsqueeze {M : Memref sig c.2.kind sp s e} {q : PosShare TreeShare} {t : Shape} (hq : s.Squeezes t) (hc : t.ShapeCasts s) (Y : t.Idx → Elt F e) :
    (owns c (M.squeeze t hq) q Y : sProp 𝕄) ⊢ owns c M q (shapeCast s Y hc) := by
  unfold owns
  iintro ⟨%f, %hf, H⟩
  iexists f
  isplitr
  · ipureintro; subst hf
    exact (shapeCast_shapeCast (M.view.read (Elt F) f) (show s.ShapeCasts t from hc.symm) hc).symm
  · have hs : (M.squeeze t hq).view.set = M.view.set := View.set_reshape _ _
    have h : ((M.squeeze t hq).view.loc c ↦[(M.squeeze t hq).view.set]{q} f : sProp 𝕄) ⊢ (M.view.loc c ↦[M.view.set]{q} f) := by
      rw [hs]
    iapply h $$ H

/-- A local copy issued: in flight it holds both ends, and lands with the source's value at the destination. -/
theorem ow_start {Q : α → sProp 𝕄} {src : Memref sig c.2.kind sp s e} {dst : Memref sig c.2.kind sp' s e} {sm : DmaSem sig}
    {hsrc : src.view.WordExact} {hdst : dst.view.WordExact} {hsem : DmaTarget.Typed (nD := nD) sp (.dma sm) (.here dst)}
    {k : PUnit → Prog (TpuEff nD τ sig (Elt F) Λ₀ c.2) α} {q : PosShare TreeShare} {X Y : s.Idx → Elt F e} (hn : 0 < s.numel) :
    iprop(owns c src q X ∗ owns c dst fullShare Y ∗ semVal (c, .dma sm) 0)
      ⊢ (iprop((Transfers.Flight EC c (.dma sm) (none : HIx 1) dst.view.dmaCredit iprop(owns c dst fullShare X ∗ owns c src q X)
              -∗ wp frame (wpE (defs₀ (F := F)) 𝒱₀ c none) Set.univ (k ⟨⟩) Q)
          -∗ wp frame (wpE (defs₀ (F := F)) 𝒱₀ c none) Set.univ (.op (.enqueueDma src (.here dst) (.dma sm) hsrc hdst hsem) k) Q) : sProp 𝕄) := by
  unfold owns
  iintro ⟨⟨%fs, %hfs, Hs⟩, ⟨%fd, %hfd, Hd⟩, Hv⟩ Hk
  iapply (Transfers.wp_dmaLocal EC 𝒱₀ c none (src := src) (dst := dst) (sm := .dma sm) (via := .same) (none : HIx 1) dst.view.dmaCredit rfl
    (View.amount_pos _ (.dma sm) hn) (Finset.Subset.refl _)) $$ [Hs Hd Hv]
  · isplitl [Hs]; · iexact Hs
    isplitl [Hd]; · iexact Hd
    iexact Hv
  iintro Hf
  iapply Hk
  have hm : iprop((dst.view.loc c ↦[dst.view.set]{fullShare} (dst.view.write (Elt F) fd ((ReadAs.same : ReadAs (Elt F) s e s e).apply (src.view.read (Elt F) fs)) Finset.univ))
        ∗ (src.view.loc c ↦[src.view.set]{q} fs))
      ⊢ (iprop((∃ f, ⌜dst.view.read (Elt F) f = X⌝ ∗ dst.view.loc c ↦[dst.view.set]{fullShare} f)
          ∗ ∃ f, ⌜src.view.read (Elt F) f = X⌝ ∗ src.view.loc c ↦[src.view.set]{q} f) : sProp 𝕄) := by
    iintro ⟨Ha, Hb⟩
    isplitl [Ha]
    · iexists (dst.view.write (Elt F) fd ((ReadAs.same : ReadAs (Elt F) s e s e).apply (src.view.read (Elt F) fs)) Finset.univ)
      isplitr
      · ipureintro
        exact (View.read_write_univ _ _).trans hfs
      · iexact Ha
    · iexists fs; isplitr
      · ipureintro; exact hfs
      · iexact Hb
  iapply (Transfers.Flight_mono EC c hm) $$ Hf

/-- The wait on a copy in flight. -/
theorem ow_wait {Q : α → sProp 𝕄} {t : Shape} {e' : EltTy} {sm : DmaSem sig} {srcw : Memref sig c.2.kind sp' t e'} {dst : Memref sig c.2.kind sp s e}
    {hsrc : srcw.view.WordExact} {hdst : dst.view.WordExact}
    {k : PUnit → Prog (TpuEff nD τ sig (Elt F) Λ₀ c.2) α} {D : sProp 𝕄} {O : CellTallies nD τ sig (HIx 1)} {W : Waits sig (HIx 1)} :
    iprop(Transfers.MayWaits c (none : HIx 1) O ∗ Transfers.Flight EC c (.dma sm) (none : HIx 1) dst.view.dmaCredit D
        ∗ ∃ W', ⌜∀ p ∈ W', p ∈ W ∨ p.2 = none⌝ ∗ owes c O W')
      ⊢ (iprop((iprop(D ∗ semVal (c, .dma sm) 0 ∗ ∃ W', ⌜∀ p ∈ W', p ∈ W ∨ p.2 = none⌝ ∗ owes c O W')
              -∗ wp frame (wpE (defs₀ (F := F)) 𝒱₀ c none) Set.univ (k ⟨⟩) Q)
          -∗ wp frame (wpE (defs₀ (F := F)) 𝒱₀ c none) Set.univ (.op (.waitDma2 sm srcw dst hsrc hdst) k) Q) : sProp 𝕄) := by
  iintro ⟨#HM, Hf, %W', %hW, HO⟩ Hk
  iapply (Transfers.wp_waitLocalO EC 𝒱₀ c none (srcw := srcw) (dstw := dst) (none : HIx 1) rfl) $$ [Hf HO]
  · isplitl [Hf]; · iexact Hf
    isplitl [HO]; · iexact HO
    iapply (Transfers.MayWaits.elim (.dma sm)) $$ HM
  iintro ⟨HD, Hv, HO⟩
  iapply Hk
  isplitl [HD]; · iexact HD
  isplitl [Hv]; · iexact Hv
  iexists _
  isplitr
  swap
  · iexact HO
  · ipureintro
    intro p hp
    rcases Finset.mem_insert.mp hp with h | h
    · exact Or.inr (by rw [h])
    · exact hW p h

end Copies

end Cert.Proof
-- ==== Proof.BodyD.lean ====
/-
  A chunk: its copies, its sort and its sums.
-/
module

public import proofs.«01_k».proof.Proof.Copy

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

open Cert.Proof.Lanes Cert.Proof.Place Cert.Proof.Chunk

variable {F : FTy → Type}

local notation "𝕄" => MT nD τ sig (HIx 1) (Elt F) ℕ UU ℕ

variable [FloatOps F]

/-! ## Which row and which tokens a chunk's copies bring -/

/-- The row a tile works on in its trip. -/
def rowN (i : grid0.Coords) (t1 : Fin k0_t1_loop.trips) : ℕ := 2 * (i 1).val + (i 0).val + 32 * t1.val

theorem row_lt : ∀ (i : grid0.Coords) (t1 : Fin k0_t1_loop.trips), k0_cond1 i t1 = 1#1 → rowN i t1 < 120 := by decide +kernel
theorem off2_eq : ∀ (i : grid0.Coords) (t1 : Fin k0_t1_loop.trips) (t3 : Fin k0_t3_loop.trips), k0_cond1 i t1 = 1#1 → k0_off2 i t1 t3 = ![rowN i t1 / 30, 0, rowN i t1 % 30, 512 * t3.val] := by decide +kernel
theorem off3_eq : ∀ (i : grid0.Coords) (t1 : Fin k0_t1_loop.trips) (t3 : Fin k0_t3_loop.trips), k0_cond1 i t1 = 1#1 → k0_off3 i t1 t3 = ![rowN i t1 / 30, rowN i t1 % 30, 512 * t3.val] := by decide +kernel

/-- The features' and the labels' index of batch, channel, part sequence and token. -/
def fIx (b : Fin 4) (c : Fin 128) (s : Fin 30) (t : Fin 2048) : S4x128x30x2048.Idx := fun | 0 => b | 1 => c | 2 => s | 3 => t | ⟨_ + 4, h⟩ => absurd h (Nat.not_lt.2 (Nat.le_add_left _ _))
def lIx (b : Fin 4) (s : Fin 30) (t : Fin 2048) : S4x30x2048.Idx := fun | 0 => b | 1 => s | 2 => t | ⟨_ + 3, h⟩ => absurd h (Nat.not_lt.2 (Nat.le_add_left _ _))
/-- A row's batch and its sequence. -/
def rb (n : Fin 120) : Fin 4 := ⟨n.val / 30, by omega⟩
def rs (n : Fin 120) : Fin 30 := ⟨n.val % 30, by omega⟩
/-- Token `q` of chunk `k`. -/
def tq (k : Fin 4) (q : Fin 512) : Fin 2048 := ⟨512 * k.val + q.val, by omega⟩
/-- The staging buffer's index. -/
def sx (c : Fin 128) (q : Fin 512) : S128x512.Idx := fun | 0 => c | 1 => q | ⟨_ + 2, h⟩ => absurd h (Nat.not_lt.2 (Nat.le_add_left _ _))

def sx4 (c : Fin 128) (q : Fin 512) : S1x128x1x512.Idx := fun | 0 => (0 : Fin 1) | 1 => c | 2 => (0 : Fin 1) | 3 => q | ⟨_ + 4, h⟩ => absurd h (Nat.not_lt.2 (Nat.le_add_left _ _))
def sx3 (q : Fin 512) : S1x1x512.Idx := fun | 0 => (0 : Fin 1) | 1 => (0 : Fin 1) | 2 => q | ⟨_ + 3, h⟩ => absurd h (Nat.not_lt.2 (Nat.le_add_left _ _))

/-- A chunk's features and its labels. -/
def fch (X : S4x128x30x2048.Idx → F .f32) (n : Fin 120) (k : Fin 4) (c : Fin 128) (q : Fin 512) : F .f32 := X (fIx (rb n) c (rs n) (tq k q))
def lch (Lb : S4x30x2048.Idx → BitVec 32) (n : Fin 120) (k : Fin 4) : IVec S512 32 := fun x => Lb (lIx (rb n) (rs n) (tq k (x 0)))

theorem labOf_lch (Lb : S4x30x2048.Idx → BitVec 32) (n : Fin 120) (k : Fin 4) (t : Fin 512) : labOf (lch Lb n k) t = (Lb (lIx (rb n) (rs n) (tq k t))).toNat := rfl

section Tile

variable (d : Dev nD) (L : grid0.Coords) (t1 : Fin k0_t1_loop.trips) (h1 : k0_cond1 L t1 = 1#1)

/-- The pieces the copies name. -/
abbrev rF (t3 : Fin k0_t3_loop.trips) : Rect S4x128x30x2048 := Rect.unit (s := S4x128x30x2048) (k0_off2 L t1 t3) S1x128x1x512.size (k0_off2_inb L t1 t3 h1)
abbrev rL (t3 : Fin k0_t3_loop.trips) : Rect S4x30x2048 := Rect.unit (s := S4x30x2048) (k0_off3 L t1 t3) S1x1x512.size (k0_off3_inb L t1 t3 h1)
abbrev rD : Rect S128x529 := Rect.unit (s := S128x529) ![0, 0] S128x512.size inb_S128x529_S128x512_0_0
abbrev mFs (t3 : Fin k0_t3_loop.trips) := mF.slice (rF L t1 h1 t3) (fun _ => rfl)
abbrev mFq (t3 : Fin k0_t3_loop.trips) := (mFs L t1 h1 t3).squeeze S128x512 squeezes_S1x128x1x512_S128x512
abbrev mLs (t3 : Fin k0_t3_loop.trips) := mL.slice (rL L t1 h1 t3) (fun _ => rfl)
abbrev mLq (t3 : Fin k0_t3_loop.trips) := (mLs L t1 h1 t3).squeeze S512 squeezes_S1x1x512_S512
abbrev mDs : Memref sig .scVector .vmem S128x512 .f32 := mD.slice rD (fun _ => rfl)

def rowF : Fin 120 := ⟨rowN L t1, row_lt L t1 h1⟩

theorem sc_f : S1x128x1x512.ShapeCasts S128x512 := by decide
theorem sc_f' : S128x512.ShapeCasts S1x128x1x512 := by decide
theorem sc_l : S1x1x512.ShapeCasts S512 := by decide
theorem sc_l' : S512.ShapeCasts S1x1x512 := by decide

theorem f_val (t3 : Fin k0_t3_loop.trips) (X : S4x128x30x2048.Idx → F .f32) (c : Fin 128) (q : Fin 512) :
    shapeCast S128x512 (fun j => X ((rF L t1 h1 t3).emb j)) sc_f (sx c q) = fch X (rowF L t1 h1) ⟨t3.val, t3.isLt⟩ c q := by
  refine (shapeCast_apply _ _ (sx c q) (sx4 c q) ?_).trans ?_
  · rw [Shape.rowMajor_val_two, Shape.rowMajor_val_four]
    show ((0 * 128 + c.val) * 1 + 0) * 512 + q.val = c.val * 512 + q.val
    omega
  · unfold fch
    congr 1
    have ho := off2_eq L t1 t3 h1
    funext a
    apply Fin.ext
    show k0_off2 L t1 t3 a + 1 * _ = _
    rw [ho]
    match a with
    | 0 => show rowN L t1 / 30 + 1 * 0 = rowN L t1 / 30; omega
    | 1 => show 0 + 1 * c.val = c.val; omega
    | 2 => show rowN L t1 % 30 + 1 * 0 = rowN L t1 % 30; omega
    | 3 => show 512 * t3.val + 1 * q.val = 512 * t3.val + q.val; omega
    | ⟨_ + 4, h⟩ => exact absurd h (Nat.not_lt.2 (Nat.le_add_left _ _))

theorem l_val (t3 : Fin k0_t3_loop.trips) (Lb : S4x30x2048.Idx → BitVec 32) :
    shapeCast S512 (fun j => Lb ((rL L t1 h1 t3).emb j)) sc_l = lch Lb (rowF L t1 h1) ⟨t3.val, t3.isLt⟩ := by
  funext x
  refine (shapeCast_apply _ _ x (sx3 (x 0)) ?_).trans ?_
  · rw [Shape.rowMajor_val_one, Shape.rowMajor_val_three]
    show (0 * 1 + 0) * 512 + (x 0).val = (x 0).val
    omega
  · unfold lch
    congr 1
    have ho := off3_eq L t1 t3 h1
    funext a
    apply Fin.ext
    show k0_off3 L t1 t3 a + 1 * _ = _
    rw [ho]
    match a with
    | 0 => show rowN L t1 / 30 + 1 * 0 = rowN L t1 / 30; omega
    | 1 => show rowN L t1 % 30 + 1 * 0 = rowN L t1 % 30; omega
    | 2 => show 512 * t3.val + 1 * (x 0).val = 512 * t3.val + (x 0).val; omega
    | ⟨_ + 3, h⟩ => exact absurd h (Nat.not_lt.2 (Nat.le_add_left _ _))

/-- What a staging buffer holds when a chunk is in: the chunk's features, and the padding value in column 512. -/
def DatOK (X : S4x128x30x2048.Idx → F .f32) (n : Fin 120) (k : Fin 4) (D : S128x529.Idx → F .f32) : Prop :=
  (∀ c (q : Fin 512), D (dx c ⟨q.val, by omega⟩) = fch X n k c q) ∧ ∀ c, D (dx c 512) = zM
def PadCol (D : S128x529.Idx → F .f32) : Prop := ∀ c, D (dx c 512) = zM

theorem dat_ok (t3 : Fin k0_t3_loop.trips) (X : S4x128x30x2048.Idx → F .f32) (D : S128x529.Idx → F .f32) (hD : PadCol D) :
    DatOK X (rowF L t1 h1) ⟨t3.val, t3.isLt⟩ (rD.overlay D (shapeCast S128x512 (fun j => X ((rF L t1 h1 t3).emb j)) sc_f)) := by
  constructor
  · intro c q
    have e : dx c ⟨q.val, by omega⟩ = rD.emb (sx c q) := by
      funext a; apply Fin.ext
      match a with
      | 0 => show c.val = 0 + 1 * c.val; omega
      | 1 => show q.val = 0 + 1 * q.val; omega
      | ⟨_ + 2, h⟩ => exact absurd h (Nat.not_lt.2 (Nat.le_add_left _ _))
    rw [e, Rect.overlay_emb]
    exact f_val L t1 h1 t3 X c q
  · intro c
    rw [Rect.overlay_of_not_mem]
    · exact hD c
    · intro hm
      obtain ⟨i, hi⟩ := rD.exists_idx_of_mem hm
      have h := congrArg (fun x : S128x529.Idx => (x 1).val) hi
      have h' : 0 + 1 * (i 1).val = 512 := h
      have hlt : (i 1).val < 512 := (i 1).isLt
      omega

end Tile

end Cert.Proof
-- ==== Proof.BodyE.lean ====
/-
  A chunk's trip: the copies started, the labels counted.
-/
module

public import proofs.«01_k».proof.Proof.BodyD

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

open Cert.Proof.Lanes Cert.Proof.Place Cert.Proof.Chunk

variable {F : FTy → Type}

local notation "𝕄" => MT nD τ sig (HIx 1) (Elt F) ℕ UU ℕ

variable [FloatOps F]

section Whole16

variable {e : EltTy}

theorem emb_full (k : Fin 16) : (Rect.unit (s := S16) ![0] S16.size inb_S16_S16_0).emb (ln k) = ln k := by
  funext a; obtain rfl := Fin.eq_zero a
  apply Fin.ext; show 0 + 1 * k.val = k.val; omega

theorem ld_full (H : S16.Idx → Elt F e) : (fun j => H ((Rect.unit (s := S16) ![0] S16.size inb_S16_S16_0).toLoadRect.idx j)) = H := by
  funext x; obtain ⟨k, rfl⟩ := ln_surj x; exact congrArg H (emb_full k)

theorem put_full {X Y w : S16.Idx → Elt F e} (h : PutAt (F := F) (Rect.unit (s := S16) ![0] S16.size inb_S16_S16_0) X Y w) : Y = w := by
  funext x; obtain ⟨k, rfl⟩ := ln_surj x
  exact (congrArg Y (emb_full k)).symm.trans (h.1 (ln k))

end Whole16

section Tile

variable (d : Dev nD) (L : grid0.Coords) (t1 : Fin k0_t1_loop.trips) (h1 : k0_cond1 L t1 = 1#1)
  (O : CellTallies nD τ sig (HIx 1)) (W : Waits sig (HIx 1)) (qF qL : PosShare TreeShare)

/-- The counters of a tile's four semaphores at zero, and what it owes. -/
abbrev sA : sProp 𝕄 := semVal (th d L, .dma cc0_scratch24.sem) 0
abbrev s0 : sProp 𝕄 := semVal (th d L, .dma cc0_scoped0.sem) 0
abbrev s1 : sProp 𝕄 := semVal (th d L, .dma cc0_scoped1.sem) 0
abbrev s2 : sProp 𝕄 := semVal (th d L, .dma cc0_scoped2.sem) 0
abbrev ow : sProp 𝕄 := iprop(∃ W', ⌜∀ p ∈ W', p ∈ W ∨ p.2 = none⌝ ∗ owes (th d L) O W')

variable (X : S4x128x30x2048.Idx → F .f32) (Lb : S4x30x2048.Idx → BitVec 32)

abbrev fv (t3 : Fin k0_t3_loop.trips) : S128x512.Idx → Elt F .f32 := shapeCast S128x512 (fun j => X ((rF L t1 h1 t3).emb j)) sc_f
abbrev lv (t3 : Fin k0_t3_loop.trips) : S512.Idx → Elt F .i32 := lch Lb (rowF L t1 h1) ⟨t3.val, t3.isLt⟩

/-- A chunk's features on their way, with what is left of both ends. -/
def Fly (t3 : Fin k0_t3_loop.trips) (D : S128x529.Idx → F .f32) : sProp 𝕄 :=
  iprop(Transfers.Flight EC (th d L) (.dma cc0_scratch24.sem) (none : HIx 1) mDs.view.dmaCredit
      iprop(owns (th d L) mDs fullShare (fv L t1 h1 X t3) ∗ owns (th d L) (mFq L t1 h1 t3) qF (fv L t1 h1 X t3))
    ∗ (∃ f, ⌜mD.view.read (Elt F) f = D⌝ ∗ mD.view.loc (th d L) ↦[mD.view.set \ mDs.view.set]{fullShare} f)
    ∗ (∃ f, ⌜mF.view.read (Elt F) f = X⌝ ∗ mF.view.loc (th d L) ↦[mF.view.set \ (mFs L t1 h1 t3).view.set]{qF} f))

theorem part4_run (c0 c1 : BitVec 32) (t3 : Fin k0_t3_loop.trips) (D : S128x529.Idx → F .f32) (hLb : ∀ x, (Lb x).toNat < 16) :
    (iprop(Transfers.MayWaits (th d L) (none : HIx 1) O ∗ owns (th d L) mF qF X ∗ owns (th d L) mL qL Lb ∗ owns (th d L) mD fullShare D
        ∗ (∃ A, owns (th d L) mLab fullShare A) ∗ (∃ A, owns (th d L) mH fullShare A) ∗ (∃ A, owns (th d L) mC fullShare A)
        ∗ sA (F := F) d L ∗ s1 (F := F) d L ∗ ow (F := F) d L O W) : sProp 𝕄)
      ⊢ wp frame (wpE (defs₀ (F := F)) 𝒱₀ (th d L) none) Set.univ (bP4 (F := F) L t1 h1 (iota .scVector S16 32 [0] iota_S16_d0_w32_scVector) k0_pay110 c0 c1 t3)
          fun r => iprop(∃ H : IVec S16 32, ⌜HistN (labOf (lv (F := F) L t1 h1 Lb t3)) 32 H
              ∧ r.1 = H ∧ r.2.1 = k0_pay90 (F := F) H ∧ r.2.2.1 = k0_pay92 (F := F) H ∧ r.2.2.2 = k0_pay93 (F := F) (iota .scVector S16 32 [0] iota_S16_d0_w32_scVector) H⌝
            ∗ Fly (F := F) d L t1 h1 qF X t3 D ∗ owns (th d L) mL qL Lb ∗ owns (th d L) mLab fullShare (lv (F := F) L t1 h1 Lb t3)
            ∗ owns (th d L) mH fullShare H ∗ owns (th d L) mC fullShare (k0_pay92 (F := F) H) ∗ s1 (F := F) d L ∗ ow (F := F) d L O W) := by
  have hX : ∀ t, labOf (lv (F := F) L t1 h1 Lb t3) t < 16 := fun t => hLb _
  unfold bP4 k0_part4_skel
  simp only [Prog.lift, Prog.bind_op, Prog.bind_ret, Prog.pure_eq_ret]
  iintro ⟨#HM, HF, HL, HD, ⟨%A1, HLab⟩, ⟨%A2, HH⟩, ⟨%A3, HC⟩, HsA, Hs1, HO⟩
  ihave HF' := (owns_slice_split (th d L) mF qF (rF L t1 h1 t3) (fun _ => rfl) X) $$ HF
  icases HF' with ⟨HFs, HFr⟩
  ihave HFq := (ow_squeeze (c := th d L) (M := mFs L t1 h1 t3) squeezes_S1x128x1x512_S128x512 sc_f _) $$ HFs
  ihave HD' := (owns_slice_split (th d L) mD fullShare rD (fun _ => rfl) D) $$ HD
  icases HD' with ⟨HDs, HDr⟩
  iapply (ow_start (c := th d L) (src := mFq L t1 h1 t3) (dst := mDs) (sm := cc0_scratch24.sem) (by decide)) $$ [HFq HDs HsA]
  · isplitl [HFq]; · iexact HFq
    isplitl [HDs]; · iexact HDs
    iexact HsA
  iintro HFl
  ihave HL' := (owns_slice_split (th d L) mL qL (rL L t1 h1 t3) (fun _ => rfl) Lb) $$ HL
  icases HL' with ⟨HLs, %fL, %hfL, HLr⟩
  ihave HLq := (ow_squeeze (c := th d L) (M := mLs L t1 h1 t3) squeezes_S1x1x512_S512 sc_l _) $$ HLs
  iapply (ow_start (c := th d L) (src := mLq L t1 h1 t3) (dst := mLab) (sm := cc0_scoped1.sem) (by decide)) $$ [HLq HLab Hs1]
  · isplitl [HLq]; · iexact HLq
    isplitl [HLab]; · iexact HLab
    iexact Hs1
  iintro HFl1
  iapply (ow_wait (c := th d L) (dst := mLab) (sm := cc0_scoped1.sem) (O := O) (W := W)) $$ [HFl1 HO]
  · isplitr; · iexact HM
    isplitl [HFl1]; · iexact HFl1
    iexact HO
  iintro ⟨⟨HLab, HLq⟩, Hs1, HO⟩
  ihave HLs := (ow_unsqueeze (c := th d L) (M := mLs L t1 h1 t3) squeezes_S1x1x512_S512 sc_l' _) $$ HLq
  rw [shapeCast_shapeCast]
  ihave HL := (owns_slice_join (th d L) mL qL (rL L t1 h1 t3) (fun _ => rfl) (fun j => Lb ((rL L t1 h1 t3).emb j)) fL) $$ [HLs HLr]
  · isplitl [HLs]; · iexact HLs
    iexact HLr
  rw [show (rL L t1 h1 t3).overlay (mL.view.read (Elt F) fL) (fun j => Lb ((rL L t1 h1 t3).emb j)) = Lb by
    rw [hfL]; funext x
    by_cases hx : x ∈ (rL L t1 h1 t3).set
    · obtain ⟨i, rfl⟩ := (rL L t1 h1 t3).exists_idx_of_mem hx
      exact Rect.overlay_emb _ _ _ i
    · exact Rect.overlay_of_not_mem _ _ _ hx]
  rw [l_val]
  iapply (ow_load (c := th d L) (M := mH)) $$ HH
  iintro HH
  iapply (ow_store (c := th d L) (M := mH)) $$ HH
  iintro %H0 %hH0 HH
  have e0 := put_full hH0
  subst e0
  iapply (ow_for (c := th d L) k0_t4_loop (k0_t4_ok L t1 h1) ⟨⟩ (bT4 (F := F) L t1 h1 _ k0_pay110 c0 c1 t3)
    (fun n _ => iprop(owns (th d L) mLab fullShare (lv (F := F) L t1 h1 Lb t3) ∗ ∃ H, ⌜HistN (labOf (lv (F := F) L t1 h1 Lb t3)) n H⌝ ∗ owns (th d L) mH fullShare H))
    (fun k acc => cnt_body (F := F) d L t1 h1 _ c0 c1 t3 k acc _ hX)) $$ [HLab HH]
  · isplitl [HLab]; · iexact HLab
    iexists _; isplitr
    swap
    · iexact HH
    · ipureintro
      intro p
      rw [Nat.mul_zero, cntN_zero]; rfl
  iintro %acc ⟨HLab, %H, %hH, HH⟩
  replace hH : HistN (labOf (lv (F := F) L t1 h1 Lb t3)) 32 H := hH
  iapply (ow_load (c := th d L) (M := mH)) $$ HH
  iintro HH
  have e2 : (fun j => H ((Rect.unit (s := S16) ![0] ![16] inb_S16_S16_0).toLoadRect.idx j)) = H := ld_full (F := F) (e := .i32) H
  rw [e2]
  iapply (ow_load (c := th d L) (M := mC)) $$ HC
  iintro HC
  iapply (ow_store (c := th d L) (M := mC)) $$ HC
  iintro %C0 %hC0 HC
  have e1 := put_full hC0
  subst e1
  rw [wp_ret]; imodintro
  iexists H
  isplitr; · ipureintro; exact ⟨hH, rfl, rfl, rfl, rfl⟩
  isplitl [HFl HDr HFr]
  · unfold Fly
    isplitl [HFl]; · iexact HFl
    isplitl [HDr]; · iexact HDr
    iexact HFr
  isplitl [HL]; · iexact HL
  isplitl [HLab]; · iexact HLab
  isplitl [HH]; · iexact HH
  isplitl [HC]; · iexact HC
  isplitl [Hs1]; · iexact Hs1
  iexact HO

end Tile

end Cert.Proof
-- ==== Proof.BodyF.lean ====
/-
  A chunk's trip.
-/
module

public import proofs.«01_k».proof.Proof.BodyE

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

open Cert.Proof.Lanes Cert.Proof.Place Cert.Proof.Chunk

variable {F : FTy → Type}

local notation "𝕄" => MT nD τ sig (HIx 1) (Elt F) ℕ UU ℕ

variable [FloatOps F]

section Rows

variable (X : S4x128x30x2048.Idx → F .f32) (Lb : S4x30x2048.Idx → BitVec 32) (n : Fin 120)

/-- How many tokens of the first `k` chunks have label `p`, and how many pads they bring. -/
def cw (k p : ℕ) : ℕ := ∑ j ∈ Finset.range k, if h : j < 4 then hist (labOf (lch Lb n ⟨j, h⟩)) p else 0
def pw (k p : ℕ) : ℕ := ∑ j ∈ Finset.range k, if h : j < 4 then ceil (labOf (lch Lb n ⟨j, h⟩)) p - hist (labOf (lch Lb n ⟨j, h⟩)) p else 0

/-- The counts' words after `k` chunks. -/
def CntW (k : ℕ) (w : IVec S16 32) : Prop := ∀ p : Fin 16, w (ln p) = BitVec.ofNat 32 (cw Lb n k p.val)
def PadW (k : ℕ) (w : IVec S16 32) : Prop := ∀ p : Fin 16, w (ln p) = BitVec.ofNat 32 (pw Lb n k p.val)

/-- The sums and the maxima a row may have after `k` chunks, each sorted in some order the counting sort leaves. -/
def Reach : ℕ → (Fin 16 → Fin 128 → F .f32) → (Fin 16 → Fin 128 → F .f32) → Prop
  | 0, S, M => S = (fun _ _ => zS) ∧ M = fun _ _ => zM
  | k + 1, S, M => ∃ (hk : k < 4) (S0 M0 : Fin 16 → Fin 128 → F .f32) (ids labs : S768.Idx → BitVec 32) (D : S128x529.Idx → F .f32) (m : ℕ),
      Reach k S0 M0 ∧ Good (labOf (lch Lb n ⟨k, hk⟩)) ids labs ∧ st (labOf (lch Lb n ⟨k, hk⟩)) 16 = 16 * m ∧ DatOK X n ⟨k, hk⟩ D
        ∧ S = accN fS zS D ids labs S0 m ∧ M = accN fM zM D ids labs M0 m

variable {Lb n}

theorem cnt_step (k : ℕ) (hk : k < 4) {w H : IVec S16 32} (hw : CntW Lb n k w) (hH : HistN (labOf (lch Lb n ⟨k, hk⟩)) 32 H) :
    CntW Lb n (k + 1) (k0_pay129 (F := F) w H) := fun p => by
  have e : cw Lb n (k + 1) p.val = cw Lb n k p.val + hist (labOf (lch Lb n ⟨k, hk⟩)) p.val := by
    unfold cw; rw [Finset.sum_range_succ, dif_pos hk]
  rw [e, BitVec.ofNat_add]
  exact congrArg₂ (· + ·) (hw p) (hH p)

theorem pad_step (k : ℕ) (hk : k < 4) {w H C S : IVec S16 32} (hw : PadW Lb n k w) (hW : Words (labOf (lch Lb n ⟨k, hk⟩)) H C S) :
    PadW Lb n (k + 1) (k0_pay130 (F := F) w H C) := fun p => by
  have e : pw Lb n (k + 1) p.val = pw Lb n k p.val + (ceil (labOf (lch Lb n ⟨k, hk⟩)) p.val - hist (labOf (lch Lb n ⟨k, hk⟩)) p.val) := by
    unfold pw; rw [Finset.sum_range_succ, dif_pos hk]
  have e2 : BitVec.ofNat 32 (ceil (labOf (lch Lb n ⟨k, hk⟩)) p.val) - BitVec.ofNat 32 (hist (labOf (lch Lb n ⟨k, hk⟩)) p.val)
      = BitVec.ofNat 32 (ceil (labOf (lch Lb n ⟨k, hk⟩)) p.val - hist (labOf (lch Lb n ⟨k, hk⟩)) p.val) := by
    have h := hist_le_ceil (labOf (lch Lb n ⟨k, hk⟩)) p.val
    have h2 : BitVec.ofNat 32 (ceil (labOf (lch Lb n ⟨k, hk⟩)) p.val) = BitVec.ofNat 32 (ceil (labOf (lch Lb n ⟨k, hk⟩)) p.val - hist (labOf (lch Lb n ⟨k, hk⟩)) p.val) + BitVec.ofNat 32 (hist (labOf (lch Lb n ⟨k, hk⟩)) p.val) := by
      rw [← BitVec.ofNat_add]; congr 1; omega
    rw [h2, BitVec.add_sub_cancel]
  rw [e, BitVec.ofNat_add, ← e2, ← hW.c p, ← hW.h p, ← hw p]
  rfl

theorem cw_le (k p : ℕ) (hk : k ≤ 4) : cw Lb n k p ≤ 512 * k := by
  unfold cw
  refine (Finset.sum_le_card_nsmul _ _ 512 fun j _ => ?_).trans (by simp [Nat.mul_comm])
  split
  · exact hist_le _ _
  · omega

theorem pw_le (k p : ℕ) (hk : k ≤ 4) : pw Lb n k p ≤ 15 * k := by
  unfold pw
  refine (Finset.sum_le_card_nsmul _ _ 15 fun j _ => ?_).trans (by simp [Nat.mul_comm])
  split
  · have := ceil_le (labOf (lch Lb n ⟨j, by assumption⟩)) p; omega
  · omega

end Rows

theorem ow_call {c : Thread nD τ} {α β : Type} {P : sProp 𝕄} {p : Prog (TpuEff nD τ sig (Elt F) Λ₀ c.2) α} {Q : α → sProp 𝕄} {k : α → Prog (TpuEff nD τ sig (Elt F) Λ₀ c.2) β} {Q' : β → sProp 𝕄}
    (h : P ⊢ wp frame (wpE (defs₀ (F := F)) 𝒱₀ c none) Set.univ p Q) :
    P ⊢ iprop((∀ a, Q a -∗ wp frame (wpE (defs₀ (F := F)) 𝒱₀ c none) Set.univ (k a) Q') -∗ wp frame (wpE (defs₀ (F := F)) 𝒱₀ c none) Set.univ (p >>= k) Q') := by
  rw [wp_bind]
  iintro HP HK
  iapply (wp_wand_r frame (wpE (defs₀ (F := F)) 𝒱₀ c none) Set.univ)
  isplitl [HP]
  · iapply h $$ HP
  iexact HK

section Tile

variable (d : Dev nD) (L : grid0.Coords) (t1 : Fin k0_t1_loop.trips) (h1 : k0_cond1 L t1 = 1#1)
  (O : CellTallies nD τ sig (HIx 1)) (W : Waits sig (HIx 1)) (qF qL : PosShare TreeShare)
  (X : S4x128x30x2048.Idx → F .f32) (Lb : S4x30x2048.Idx → BitVec 32)

/-- A tile's integer scratch, at anything. -/
def Ints : sProp 𝕄 :=
  iprop((∃ A, owns (th d L) mLab fullShare A) ∗ (∃ A, owns (th d L) mH fullShare A) ∗ (∃ A, owns (th d L) mC fullShare A)
    ∗ ∃ ids labs, owns (th d L) mId fullShare ids ∗ owns (th d L) mOl fullShare labs)

/-- What a row's chunks keep. -/
def ChunkI (k : ℕ) (w : IVec S16 32 × IVec S16 32) : sProp 𝕄 :=
  iprop(owns (th d L) mF qF X ∗ owns (th d L) mL qL Lb ∗ (∃ D, ⌜PadCol (F := F) D⌝ ∗ owns (th d L) mD fullShare D) ∗ Ints (F := F) d L
    ∗ (∃ S M, ⌜Reach X Lb (rowF L t1 h1) k S M ∧ CntW Lb (rowF L t1 h1) k w.1 ∧ PadW Lb (rowF L t1 h1) k w.2⌝ ∗ Accs (F := F) d L (fun g => arr S g) (fun g => arr M g))
    ∗ sA (F := F) d L ∗ s1 (F := F) d L ∗ ow (F := F) d L O W)

theorem iota_toNat (k : Fin 16) : ((iota .scVector S16 32 [0] iota_S16_d0_w32_scVector) (ln k)).toNat = k.val := by
  rw [iota_ln]; simp; omega

/-- The word holding how many slots a chunk fills. -/
abbrev tot (H : IVec S16 32) : BitVec 32 := extractAt ![15] (k0_pay128 (k0_pay93 (F := F) (iota .scVector S16 32 [0] iota_S16_d0_w32_scVector) H)) inpos_S16_p15

theorem group_at (v37) (v41 : IVec S16 32) (h41 : ∀ k, (v41 (ln k)).toNat = k.val) (m : Fin 48) (v94 : BitVec 32) (hv : v94 = BitVec.ofNat 32 (16 * m.val)) (hw13) (k : Fin (k0_t10_loop v94).trips) (acc : Unit)
    (ids labs : Vec F S768 .i32) (D : S128x529.Idx → F .f32) (S M : Fin 16 → Fin 128 → F .f32)
    (hl : ∀ n < m.val, wordAt labs (16 * n) < 16) (hid : ∀ n < m.val, ∀ q : Fin 16, wordAt ids (16 * n + q.val) < 529) :
    (iprop(owns (th d L) mId fullShare ids ∗ owns (th d L) mOl fullShare labs ∗ owns (th d L) mD fullShare D ∗ Accs (F := F) d L (fun g => arr (accN fS zS D ids labs S k.val) g) (fun g => arr (accN fM zM D ids labs M k.val) g)) : sProp 𝕄)
      ⊢ wp frame (wpE (defs₀ (F := F)) 𝒱₀ (th d L) none) Set.univ (bT10 (F := F) L t1 v37 h1 v41 v94 hw13 k acc)
          fun _ => iprop(owns (th d L) mId fullShare ids ∗ owns (th d L) mOl fullShare labs ∗ owns (th d L) mD fullShare D ∗ Accs (F := F) d L (fun g => arr (accN fS zS D ids labs S (k.val + 1)) g) (fun g => arr (accN fM zM D ids labs M (k.val + 1)) g)) := by
  subst hv
  exact group_body (F := F) d L t1 h1 v37 v41 h41 m hw13 k acc ids labs D S M hl hid

theorem chunk_body (v37) (hLb : ∀ x, (Lb x).toNat < 16) (t3 : Fin k0_t3_loop.trips) (w : IVec S16 32 × IVec S16 32) :
    (iprop(Transfers.MayWaits (th d L) (none : HIx 1) O ∗ ChunkI (F := F) d L t1 h1 O W qF qL X Lb t3.val w) : sProp 𝕄)
      ⊢ wp frame (wpE (defs₀ (F := F)) 𝒱₀ (th d L) none) Set.univ (bT3 (F := F) L t1 v37 h1 (iota .scVector S16 32 [0] iota_S16_d0_w32_scVector) t3 w)
          (ChunkI (F := F) d L t1 h1 O W qF qL X Lb (t3.val + 1)) := by
  obtain ⟨wc, wp'⟩ := w
  have hk : t3.val < 4 := t3.isLt
  have hX : ∀ t, labOf (lv (F := F) L t1 h1 Lb t3) t < 16 := fun t => hLb _
  obtain ⟨m, hm⟩ := st_dvd (labOf (lv (F := F) L t1 h1 Lb t3)) 16
  have hm48 : m < 48 := by have := st_le (labOf (lv (F := F) L t1 h1 Lb t3)) hX 16 le_rfl; omega
  unfold bT3 k0_t3_body ChunkI Ints
  dsimp only
  rw [k0_part4_eq_skeleton]
  iintro ⟨#HM, HF, HL, ⟨%D, %hD, HD⟩, ⟨HLab, HH, HC, %ids0, %labs0, HId, HOl⟩, ⟨%S, %M, %hR, HA⟩, HsA, Hs1, HO⟩
  iapply (ow_call (c := th d L) (part4_run (F := F) d L t1 h1 O W qF qL X Lb 0#32 1#32 t3 D hLb)) $$ [HF HL HD HLab HH HC HsA Hs1 HO]
  · isplitr; · iexact HM
    isplitl [HF]; · iexact HF
    isplitl [HL]; · iexact HL
    isplitl [HD]; · iexact HD
    isplitl [HLab]; · iexact HLab
    isplitl [HH]; · iexact HH
    isplitl [HC]; · iexact HC
    isplitl [HsA]; · iexact HsA
    isplitl [Hs1]; · iexact Hs1
    iexact HO
  iintro %r ⟨%H', %hH, HFly, HL, HLab, HH, HC, Hs1, HO⟩
  obtain ⟨H, v83, v86, v91⟩ := r
  dsimp only at hH
  obtain ⟨hH, e79, rfl, rfl, rfl⟩ := hH
  subst e79
  have hW := words_of_hist (F := F) _ H hH
  have hv : tot (F := F) H = BitVec.ofNat 32 (16 * m) := by
    rw [tot, total_word (F := F) _ H hH, hm]
  have hc13 : k0_chk13 L t1 (tot (F := F) H) := hv ▸ chk13_of L t1 ⟨m, hm48⟩
  have htr : (k0_t10_loop (tot (F := F) H)).trips = m := hv ▸ (t10_facts ⟨m, hm48⟩).2.1
  dsimp only
  simp only [Prog.lift, Prog.bind_op, Prog.bind_ret, Prog.pure_eq_ret]
  iapply (ow_assume hc13)
  iapply (ow_for (c := th d L) k0_t5_loop (k0_t5_ok L t1 h1) ⟨⟩ (bT5 (F := F) L t1 v37 h1 H (k0_pay90 (F := F) H) (k0_pay92 (F := F) H))
    (fun n _ => iprop(∃ ids labs, ⌜Pads (labOf (lv (F := F) L t1 h1 Lb t3)) ids labs n⌝ ∗ owns (th d L) mId fullShare ids ∗ owns (th d L) mOl fullShare labs))
    (fun k acc => pad_body (F := F) d L t1 h1 v37 k acc _ hX _ _ _ hW)) $$ [HId HOl]
  · iexists ids0, labs0
    isplitr
    · ipureintro; intro p hp; exact absurd hp (Nat.not_lt_zero _)
    isplitl [HId]; · iexact HId
    iexact HOl
  iintro %acc5 ⟨%ids1, %labs1, %hp, HId, HOl⟩
  replace hp : Pads (labOf (lv (F := F) L t1 h1 Lb t3)) ids1 labs1 16 := hp
  iapply (ow_for (c := th d L) k0_t6_loop (k0_t6_ok L t1 h1) ⟨⟩ (bT6 (F := F) L t1 v37 h1)
    (fun n _ => iprop(owns (th d L) mLab fullShare (lv (F := F) L t1 h1 Lb t3) ∗ ∃ ids labs cur, ⌜Pads (labOf (lv (F := F) L t1 h1 Lb t3)) ids labs 16 ∧ Toks (labOf (lv (F := F) L t1 h1 Lb t3)) ids labs (16 * n) ∧ CurN (labOf (lv (F := F) L t1 h1 Lb t3)) n cur⌝
        ∗ owns (th d L) mId fullShare ids ∗ owns (th d L) mOl fullShare labs ∗ owns (th d L) mC fullShare cur))
    (fun k acc => sort_body (F := F) d L t1 h1 v37 k acc _ hX)) $$ [HLab HId HOl HC]
  · isplitl [HLab]; · iexact HLab
    iexists ids1, labs1, _
    isplitr
    swap
    · isplitl [HId]; · iexact HId
      isplitl [HOl]; · iexact HOl
      iexact HC
    · ipureintro
      exact ⟨hp, fun t ht => absurd ht (Nat.not_lt_zero _), curN_zero hW⟩
  iintro %acc6 ⟨HLab, %ids, %labs, %cur, %hs, HId, HOl, HC⟩
  replace hs : Pads (labOf (lv (F := F) L t1 h1 Lb t3)) ids labs 16 ∧ Toks (labOf (lv (F := F) L t1 h1 Lb t3)) ids labs 512 ∧ CurN (labOf (lv (F := F) L t1 h1 Lb t3)) 32 cur := hs
  have hG : Good (labOf (lv (F := F) L t1 h1 Lb t3)) ids labs := ⟨hX, hs.1, hs.2.1⟩
  unfold Fly
  icases HFly with ⟨HFl, ⟨%fD, %hfD, HDr⟩, %fF, %hfF, HFr⟩
  iapply (ow_wait (c := th d L) (dst := mDs) (sm := cc0_scratch24.sem) (O := O) (W := W)) $$ [HFl HO]
  · isplitr; · iexact HM
    isplitl [HFl]; · iexact HFl
    iexact HO
  iintro ⟨⟨HDs, HFq⟩, HsA, HO⟩
  ihave HFs := (ow_unsqueeze (c := th d L) (M := mFs L t1 h1 t3) squeezes_S1x128x1x512_S128x512 sc_f' _) $$ HFq
  rw [shapeCast_shapeCast]
  ihave HF := (owns_slice_join (th d L) mF qF (rF L t1 h1 t3) (fun _ => rfl) (fun j => X ((rF L t1 h1 t3).emb j)) fF) $$ [HFs HFr]
  · isplitl [HFs]; · iexact HFs
    iexact HFr
  rw [show (rF L t1 h1 t3).overlay (mF.view.read (Elt F) fF) (fun j => X ((rF L t1 h1 t3).emb j)) = X by
    rw [hfF]; funext x
    by_cases hx : x ∈ (rF L t1 h1 t3).set
    · obtain ⟨i, rfl⟩ := (rF L t1 h1 t3).exists_idx_of_mem hx
      exact Rect.overlay_emb _ _ _ i
    · exact Rect.overlay_of_not_mem _ _ _ hx]
  ihave HD := (owns_slice_join (th d L) mD fullShare rD (fun _ => rfl) (fv L t1 h1 X t3) fD) $$ [HDs HDr]
  · isplitl [HDs]; · iexact HDs
    iexact HDr
  rw [hfD]
  have hDat := dat_ok (F := F) L t1 h1 t3 X D hD
  generalize rD.overlay D (fv L t1 h1 X t3) = D1 at hDat
  have hl : ∀ n < m, wordAt labs (16 * n) < 16 := fun n hn => by
    have h : wordAt labs (16 * n + (0 : Fin 16).val) < 16 := by
      rw [wordAt_row labs n (by omega) 0]
      exact hG.lab_lt _ (by rw [hm]; show 16 * n + 0 < _; omega)
    exact h
  have hid : ∀ n < m, ∀ q : Fin 16, wordAt ids (16 * n + q.val) < 529 := fun n hn q => by
    rw [wordAt_row ids n (by omega) q]
    exact lt_of_le_of_lt (hG.id_lt _ (by rw [hm]; show 16 * n + q.val < _; omega)) (by norm_num)
  iapply (ow_for (c := th d L) (k0_t10_loop (tot (F := F) H)) (k0_t10_ok L t1 _ hc13 h1) ⟨⟩ (bT10 (F := F) L t1 v37 h1 (iota .scVector S16 32 [0] iota_S16_d0_w32_scVector) (tot (F := F) H) hc13)
    (fun n _ => iprop(owns (th d L) mId fullShare ids ∗ owns (th d L) mOl fullShare labs ∗ owns (th d L) mD fullShare D1 ∗ Accs (F := F) d L (fun g => arr (accN fS zS D1 ids labs S n) g) (fun g => arr (accN fM zM D1 ids labs M n) g)))
    (fun k acc => group_at (F := F) d L t1 h1 v37 _ iota_toNat ⟨m, hm48⟩ _ hv hc13 k acc ids labs D1 S M hl hid)) $$ [HId HOl HD HA]
  · isplitl [HId]; · iexact HId
    isplitl [HOl]; · iexact HOl
    isplitl [HD]; · iexact HD
    iexact HA
  iintro %acc10 ⟨HId, HOl, HD, HA⟩
  rw [htr]
  iapply (ow_for (c := th d L) (k0_t12_loop (tot (F := F) H)) (k0_t12_ok L t1 _ hc13 h1) ⟨⟩ (bT12 (F := F) L t1 v37 h1 (iota .scVector S16 32 [0] iota_S16_d0_w32_scVector) (tot (F := F) H) hc13 _)
    (fun n _ => iprop(emp)) (fun k acc => (Scf.rem_no_trip _ _ k).elim)) $$ []
  · itrivial
  iintro %acc12 -
  rw [wp_ret]; imodintro
  isplitl [HF]; · iexact HF
  isplitl [HL]; · iexact HL
  isplitl [HD]
  · iexists D1; isplitr; · ipureintro; exact hDat.2
    iexact HD
  isplitl [HLab HH HC HId HOl]
  · isplitl [HLab]; · iexists _; iexact HLab
    isplitl [HH]; · iexists _; iexact HH
    isplitl [HC]; · iexists _; iexact HC
    iexists ids, labs
    isplitl [HId]; · iexact HId
    iexact HOl
  isplitl [HA]
  · iexists (accN fS zS D1 ids labs S m), (accN fM zM D1 ids labs M m)
    isplitr
    swap
    · iexact HA
    · ipureintro
      exact ⟨⟨hk, S, M, ids, labs, D1, m, hR.1, hG, hm, hDat, rfl, rfl⟩, cnt_step (F := F) t3.val hk hR.2.1 hH, pad_step (F := F) t3.val hk hR.2.2 hW⟩
  isplitl [HsA]; · iexact HsA
  isplitl [Hs1]; · iexact Hs1
  iexact HO

end Tile

end Cert.Proof
-- ==== Proof.BodyG.lean ====
/-
  A row's trip.
-/
module

public import proofs.«01_k».proof.Proof.BodyF

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

open Cert.Proof.Lanes Cert.Proof.Place Cert.Proof.Chunk

variable {F : FTy → Type}

local notation "𝕄" => MT nD τ sig (HIx 1) (Elt F) ℕ UU ℕ

variable [FloatOps F]

/-! ## The padding column -/

/-- The first `n` groups of sixteen channels hold the padding value in column 512. -/
def ColN (n : ℕ) (D : S128x529.Idx → F .f32) : Prop := ∀ c : Fin 128, c.val < 16 * n → D (dx c 512) = zM

theorem col_chk (g : Fin 8) (w : IVec S16 32) (hw : ∀ k : Fin 16, (w (ln k)).toNat = 16 * g.val + k.val) :
    ∀ a x, ((![w, broadcast S16 512#32] : Fin 2 → IVec S16 32) a x).toNat < S128x529.size a := by
  intro a x
  match a with
  | 0 =>
    obtain ⟨k, rfl⟩ := ln_surj x
    refine lt_of_eq_of_lt (hw k) ?_
    show 16 * g.val + k.val < 128
    omega
  | 1 => show (512#32 : BitVec 32).toNat < 529; decide

theorem col_step (g : Fin 8) {D : S128x529.Idx → F .f32} (hD : ColN g.val D) {w : IVec S16 32} (hw : ∀ k : Fin 16, (w (ln k)).toNat = 16 * g.val + k.val)
    {v : FVec F S16 .f32} (hv : ∀ k, v (ln k) = zM) (h : ∀ a x, ((![w, broadcast S16 512#32] : Fin 2 → IVec S16 32) a x).toNat < S128x529.size a) :
    ColN (g.val + 1) (storeIdx (F := F) (s := S128x529) (e := .f32) (d := ![16]) D ![w, broadcast S16 512#32] v (fun _ => 1#1) false h) := by
  intro c hc
  have hat : ∀ k : Fin 16, idxAt (s := S128x529) (![w, broadcast S16 512#32] : Fin 2 → IVec S16 32) h (ln k) = dx (ch g k) 512 := by
    intro k; funext a; apply Fin.ext
    match a with
    | 0 => exact hw k
    | 1 => rfl
  by_cases e : c.val < 16 * g.val
  · rw [storeIdx_miss]
    · exact hD c e
    · intro k _ hk
      have hk' : dx c 512 = dx (ch g k) 512 := hk.trans (hat k)
      have h2 := congrArg (fun x : S128x529.Idx => (x 0).val) hk'
      have h3 : c.val = 16 * g.val + k.val := h2
      omega
  · obtain ⟨k, hk⟩ : ∃ k : Fin 16, c = ch g k := ⟨⟨c.val - 16 * g.val, by omega⟩, Fin.ext (by show c.val = 16 * g.val + (c.val - 16 * g.val); omega)⟩
    subst hk
    have hh := storeIdx_hit (F := F) (s := S128x529) (e := .f32) (d := ![16]) D ![w, broadcast S16 512#32] v (fun _ => 1#1) false h k rfl (by
      intro k' _ hne he
      have he' : dx (ch g k) 512 = dx (ch g k') 512 := (hat k).symm.trans (he.trans (hat k'))
      have h2 := congrArg (fun x : S128x529.Idx => (x 0).val) he'
      have h3 : 16 * g.val + k.val = 16 * g.val + k'.val := h2
      exact hne (Fin.ext (by omega)))
    have hh' := (congrArg _ (hat k)).symm.trans hh
    exact hh'.trans (hv k)

theorem io_at (n : ℕ) (hn : n ≤ 112) (k : Fin 16) : (addi (iota .scVector S16 32 [0] iota_S16_d0_w32_scVector) (broadcast S16 (BitVec.ofNat 32 n)) (ln k)).toNat = n + k.val := by
  show ((iota .scVector S16 32 [0] iota_S16_d0_w32_scVector) (ln k) + BitVec.ofNat 32 n).toNat = _
  rw [iota_ln, BitVec.toNat_add, BitVec.toNat_ofNat, BitVec.toNat_ofNat]
  omega

section Tile

variable (d : Dev nD) (L : grid0.Coords)
  (O : CellTallies nD τ sig (HIx 1)) (W : Waits sig (HIx 1)) (qF qL qR : PosShare TreeShare)
  (X : S4x128x30x2048.Idx → F .f32) (Lb : S4x30x2048.Idx → BitVec 32) (R : S2056.Idx → F .f32)

/-- What a row's output may be. -/
def RowOK (n : Fin 120) (out : Fin 16 → Fin 128 → F .f32) : Prop :=
  ∃ S M cnt npad, Reach X Lb n 4 S M ∧ CntW Lb n 4 cnt ∧ PadW Lb n 4 npad ∧ ∀ p c, out p c = fout S M cnt npad R p c

/-- What a tile keeps from row to row. -/
def RowI : sProp 𝕄 :=
  iprop(owns (th d L) mF qF X ∗ owns (th d L) mL qL Lb ∗ (∃ D, ⌜PadCol (F := F) D⌝ ∗ owns (th d L) mD fullShare D) ∗ Ints (F := F) d L
    ∗ (∃ XS XM, Accs (F := F) d L XS XM) ∗ owns (th d L) mRv fullShare R
    ∗ sA (F := F) d L ∗ s1 (F := F) d L ∗ ow (F := F) d L O W)

section Row

variable (t1 : Fin k0_t1_loop.trips) (h1 : k0_cond1 L t1 = 1#1)

theorem row_run (v37) (hLb : ∀ x, (Lb x).toNat < 16) :
    (iprop(Transfers.MayWaits (th d L) (none : HIx 1) O ∗ RowI (F := F) d L O W qF qL X Lb R ∗ ∃ Y, owns (th d L) mSt fullShare Y) : sProp 𝕄)
      ⊢ wp frame (wpE (defs₀ (F := F)) 𝒱₀ (th d L) none) Set.univ (bP8 (F := F) L t1 v37 h1)
          fun _ => iprop(RowI (F := F) d L O W qF qL X Lb R ∗ ∃ Y, ⌜RowOK X Lb R (rowF L t1 h1) fun p c => Y (ox p c)⌝ ∗ owns (th d L) mSt fullShare Y) := by
  unfold bP8 k0_part8_skel RowI
  simp only [Prog.lift, Prog.bind_op, Prog.bind_ret, Prog.pure_eq_ret]
  iintro ⟨#HM, ⟨HF, HL, HD, HI, ⟨%XS, %XM, HA⟩, HR, HsA, Hs1, HO⟩, %Y0, HY⟩
  iapply (ow_for (c := th d L) k0_t2_loop (k0_t2_ok L t1 h1) ⟨⟩ (bT2 (F := F) L t1 v37 h1) (fun n _ => InitAccs (F := F) d L n)
    (fun k acc => init_body (F := F) d L t1 h1 v37 k acc)) $$ [HA]
  · unfold InitAccs
    iexists XS, XM
    isplitr; · ipureintro; exact fun g => ⟨fun p k h => absurd h (Nat.not_lt_zero _), fun p k h => absurd h (Nat.not_lt_zero _)⟩
    iexact HA
  iintro %acc2 HA
  ihave HA := (show InitAccs (F := F) d L k0_t2_loop.trips ⊢ _ from init_done (F := F) d L) $$ HA
  iapply (ow_for (c := th d L) k0_t3_loop (k0_t3_ok L t1 h1) (k0_pay126, k0_pay127) (bT3 (F := F) L t1 v37 h1 (iota .scVector S16 32 [0] iota_S16_d0_w32_scVector))
    (fun n w => iprop(Transfers.MayWaits (th d L) (none : HIx 1) O ∗ ChunkI (F := F) d L t1 h1 O W qF qL X Lb n w))
    (fun k w => by
      iintro ⟨#HM, HI⟩
      iapply (wp_wand_r frame (wpE (defs₀ (F := F)) 𝒱₀ (th d L) none) Set.univ)
      isplitl [HI]
      · iapply (chunk_body (F := F) d L t1 h1 O W qF qL X Lb v37 hLb k w)
        isplitr; · iexact HM
        iexact HI
      iintro %a HI
      isplitr; · iexact HM
      iexact HI)) $$ [HF HL HD HI HA HsA Hs1 HO]
  · isplitr; · iexact HM
    unfold ChunkI
    isplitl [HF]; · iexact HF
    isplitl [HL]; · iexact HL
    isplitl [HD]; · iexact HD
    isplitl [HI]; · iexact HI
    isplitl [HA]
    · iexists (fun _ _ => zS), (fun _ _ => zM)
      isplitr
      · ipureintro
        exact ⟨⟨rfl, rfl⟩, fun p => rfl, fun p => rfl⟩
      iexact HA
    isplitl [HsA]; · iexact HsA
    isplitl [Hs1]; · iexact Hs1
    iexact HO
  iintro %w ⟨-, HC⟩
  obtain ⟨cnt, npad⟩ := w
  unfold ChunkI
  icases HC with ⟨HF, HL, HD, HI, ⟨%S, %M, %hR, HA⟩, HsA, Hs1, HO⟩
  replace hR : Reach X Lb (rowF L t1 h1) 4 S M ∧ CntW Lb (rowF L t1 h1) 4 cnt ∧ PadW Lb (rowF L t1 h1) 4 npad := hR
  have hcnt : ∀ q, (cnt (ln q)).toNat < 2056 := fun q => by
    rw [hR.2.1 q, BitVec.toNat_ofNat]
    have := cw_le (Lb := Lb) (n := rowF L t1 h1) 4 q.val le_rfl
    omega
  dsimp only
  iapply (ow_for (c := th d L) k0_t14_loop (k0_t14_ok L t1 h1) ⟨⟩ (bT14 (F := F) L t1 v37 h1 cnt npad)
    (fun n _ => iprop(owns (th d L) mRv fullShare R ∗ Accs (F := F) d L (fun g => arr S g) (fun g => arr M g) ∗ ∃ X, ⌜OutG (F := F) (fout S M cnt npad R) n 0 X⌝ ∗ owns (th d L) mSt fullShare X))
    (fun k acc => out_body (F := F) d L t1 h1 v37 cnt npad hcnt k acc S M R)) $$ [HR HA HY]
  · isplitl [HR]; · iexact HR
    isplitl [HA]; · iexact HA
    iexists Y0
    isplitr
    · ipureintro; intro q c h; rcases h with h | h
      · exact absurd h (Nat.not_lt_zero _)
      · omega
    iexact HY
  iintro %acc14 ⟨HR, HA, %Y, %hY, HY⟩
  replace hY : OutG (F := F) (fout S M cnt npad R) 16 0 Y := hY
  rw [wp_ret]; imodintro
  isplitl [HF HL HD HI HA HR HsA Hs1 HO]
  · isplitl [HF]; · iexact HF
    isplitl [HL]; · iexact HL
    isplitl [HD]; · iexact HD
    isplitl [HI]; · iexact HI
    isplitl [HA]; · iexists _, _; iexact HA
    isplitl [HR]; · iexact HR
    isplitl [HsA]; · iexact HsA
    isplitl [Hs1]; · iexact Hs1
    iexact HO
  iexists Y
  isplitr
  · ipureintro
    exact ⟨S, M, cnt, npad, hR.1, hR.2.1, hR.2.2, fun p c => hY p c (Or.inl p.isLt)⟩
  iexact HY

/-- A row's piece of the result. -/
abbrev mOq := (mO.slice (Rect.unit (s := S120x16x128) (k0_off17 L t1) S1x16x128.size (k0_off17_inb L t1 h1)) (fun _ => rfl)).squeeze S16x128 squeezes_S1x16x128_S16x128

end Row

/-- A trip's row, when it has one: at anything, or written. -/
def OutRow (done : Prop) (t1 : Fin k0_t1_loop.trips) : sProp 𝕄 :=
  if h1 : k0_cond1 L t1 = 1#1 then iprop(∃ Y, ⌜done → RowOK X Lb R (rowF L t1 h1) fun p c => Y (ox p c)⌝ ∗ owns (th d L) (mOq L t1 h1) fullShare Y) else iprop(emp)

theorem trip_run (v1) (hLb : ∀ x, (Lb x).toNat < 16) (t1 : Fin k0_t1_loop.trips) (acc : Unit) :
    (iprop(Transfers.MayWaits (th d L) (none : HIx 1) O ∗ RowI (F := F) d L O W qF qL X Lb R ∗ (∃ Y, owns (th d L) mSt fullShare Y) ∗ s2 (F := F) d L ∗ OutRow (F := F) d L X Lb R False t1) : sProp 𝕄)
      ⊢ wp frame (wpE (defs₀ (F := F)) 𝒱₀ (th d L) none) Set.univ (bT1 (F := F) L v1 t1 acc)
          fun _ => iprop(RowI (F := F) d L O W qF qL X Lb R ∗ (∃ Y, owns (th d L) mSt fullShare Y) ∗ s2 (F := F) d L ∗ OutRow (F := F) d L X Lb R True t1) := by
  unfold bT1 k0_t1_body OutRow
  dsimp only
  by_cases h1 : k0_cond1 L t1 = 1#1
  · rw [dif_pos h1, dif_pos h1, dif_pos h1, k0_part8_eq_skeleton]
    simp only [Prog.lift, Prog.bind_op, Prog.bind_ret, Prog.pure_eq_ret, Prog.bind_assoc]
    iintro ⟨#HM, HR, HY, Hs2, %Z, -, HZ⟩
    iapply (ow_call (c := th d L) (row_run (F := F) d L O W qF qL X Lb R t1 h1 _ hLb)) $$ [HR HY]
    · isplitr; · iexact HM
      isplitl [HR]; · iexact HR
      iexact HY
    iintro %r ⟨HR, %Y, %hY, HY⟩
    iapply (ow_start (c := th d L) (src := mSt) (dst := mOq L t1 h1) (sm := cc0_scoped2.sem) (by decide)) $$ [HY HZ Hs2]
    · isplitl [HY]; · iexact HY
      isplitl [HZ]; · iexact HZ
      iexact Hs2
    iintro HFl
    unfold RowI
    icases HR with ⟨HF, HL, HD, HI, HA, HRv, HsA, Hs1, HO⟩
    iapply (ow_wait (c := th d L) (dst := mOq L t1 h1) (sm := cc0_scoped2.sem) (O := O) (W := W)) $$ [HFl HO]
    · isplitr; · iexact HM
      isplitl [HFl]; · iexact HFl
      iexact HO
    iintro ⟨⟨HZ, HY⟩, Hs2, HO⟩
    rw [wp_ret]; imodintro
    isplitl [HF HL HD HI HA HRv HsA Hs1 HO]
    · isplitl [HF]; · iexact HF
      isplitl [HL]; · iexact HL
      isplitl [HD]; · iexact HD
      isplitl [HI]; · iexact HI
      isplitl [HA]; · iexact HA
      isplitl [HRv]; · iexact HRv
      isplitl [HsA]; · iexact HsA
      isplitl [Hs1]; · iexact Hs1
      iexact HO
    isplitl [HY]; · iexists _; iexact HY
    isplitl [Hs2]; · iexact Hs2
    iexists Y
    isplitr; · ipureintro; exact fun _ => hY
    iexact HZ
  · rw [dif_neg h1, dif_neg h1, dif_neg h1]
    simp only [Prog.lift, Prog.bind_op, Prog.bind_ret, Prog.pure_eq_ret]
    iintro ⟨-, HR, HY, Hs2, -⟩
    rw [wp_ret]; imodintro
    isplitl [HR]; · iexact HR
    isplitl [HY]; · iexact HY
    isplitl [Hs2]; · iexact Hs2
    itrivial

end Tile

end Cert.Proof
-- ==== Proof.BodyH.lean ====
/-
  A tile's whole run.
-/
module

public import proofs.«01_k».proof.Proof.BodyG

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

open Cert.Proof.Lanes Cert.Proof.Place Cert.Proof.Chunk

variable {F : FTy → Type}

local notation "𝕄" => MT nD τ sig (HIx 1) (Elt F) ℕ UU ℕ

variable [FloatOps F]

theorem sep_all {ι : Type} [DecidableEq ι] {s : Finset ι} {Φ Ψ : ι → sProp 𝕄} (h : ∀ i ∈ s, Φ i ⊢ Ψ i) : bigSep s Φ ⊢ bigSep s Ψ :=
  BI.bigSep_mono h

/-- The kernel's body at a tile. -/
abbrev bSC (i : grid0.Coords)  :=
  cc0__sc_body (F := F) i mF (Memref.isWhole_whole _) mL (Memref.isWhole_whole _) mR (Memref.isWhole_whole _) mO (Memref.isWhole_whole _) mD (Memref.isWhole_whole _) mLab (Memref.isWhole_whole _) mId (Memref.isWhole_whole _) mOl (Memref.isWhole_whole _) mH (Memref.isWhole_whole _) mC (Memref.isWhole_whole _) mS0 (Memref.isWhole_whole _) mS1 (Memref.isWhole_whole _) mS2 (Memref.isWhole_whole _) mS3 (Memref.isWhole_whole _) mS4 (Memref.isWhole_whole _) mS5 (Memref.isWhole_whole _) mS6 (Memref.isWhole_whole _) mS7 (Memref.isWhole_whole _) mM0 (Memref.isWhole_whole _) mM1 (Memref.isWhole_whole _) mM2 (Memref.isWhole_whole _) mM3 (Memref.isWhole_whole _) mM4 (Memref.isWhole_whole _) mM5 (Memref.isWhole_whole _) mM6 (Memref.isWhole_whole _) mM7 (Memref.isWhole_whole _) mRv (Memref.isWhole_whole _) mSt (Memref.isWhole_whole _) cc0_scratch24 cc0_scoped0 cc0_scoped1 cc0_scoped2

section Tile

variable (d : Dev nD) (L : grid0.Coords)
  (O : CellTallies nD τ sig (HIx 1)) (W : Waits sig (HIx 1)) (qF qL qR : PosShare TreeShare)
  (X : S4x128x30x2048.Idx → F .f32) (Lb : S4x30x2048.Idx → BitVec 32) (R : S2056.Idx → F .f32)

/-- A tile's scratch and its counters. -/
def Scr : sProp 𝕄 :=
  iprop((∃ D, owns (th d L) mD fullShare D) ∗ Ints (F := F) d L ∗ (∃ XS XM, Accs (F := F) d L XS XM) ∗ (∃ A, owns (th d L) mRv fullShare A) ∗ (∃ Y, owns (th d L) mSt fullShare Y)
    ∗ sA (F := F) d L ∗ s0 (F := F) d L ∗ s1 (F := F) d L ∗ s2 (F := F) d L)

/-- The preparation: the table copied in, the first five groups of the padding column set. -/
theorem prep_run (D : S128x529.Idx → F .f32) :
    (iprop(Transfers.MayWaits (th d L) (none : HIx 1) O ∗ owns (th d L) mR qR R ∗ owns (th d L) mD fullShare D ∗ (∃ A, owns (th d L) mRv fullShare A) ∗ s0 (F := F) d L ∗ ow (F := F) d L O W) : sProp 𝕄)
      ⊢ wp frame (wpE (defs₀ (F := F)) 𝒱₀ (th d L) none) Set.univ (bP9 (F := F) L)
          fun r => iprop(∃ D', ⌜ColN (F := F) 5 D' ∧ r.2.1 = iota .scVector S16 32 [0] iota_S16_d0_w32_scVector ∧ r.2.2.1 = k0_pay181 ∧ r.2.2.2.1 = broadcast S16 512#32 ∧ r.2.2.2.2.2 = zM⌝
            ∗ owns (th d L) mR qR R ∗ owns (th d L) mD fullShare D' ∗ owns (th d L) mRv fullShare R ∗ s0 (F := F) d L ∗ ow (F := F) d L O W) := by
  unfold bP9 k0_part9_skel
  simp only [Prog.lift, Prog.bind_op, Prog.bind_ret, Prog.pure_eq_ret]
  iintro ⟨#HM, HR, HD, ⟨%A, HRv⟩, Hs0, HO⟩
  iapply (ow_start (c := th d L) (src := mR) (dst := mRv) (sm := cc0_scoped0.sem) (by decide)) $$ [HR HRv Hs0]
  · isplitl [HR]; · iexact HR
    isplitl [HRv]; · iexact HRv
    iexact Hs0
  iintro HFl
  iapply (ow_wait (c := th d L) (dst := mRv) (sm := cc0_scoped0.sem) (O := O) (W := W)) $$ [HFl HO]
  · isplitr; · iexact HM
    isplitl [HFl]; · iexact HFl
    iexact HO
  iintro ⟨⟨HRv, HR⟩, Hs0, HO⟩
  have w0 := io_at 0 (by omega)
  have w1 := io_at 16 (by omega)
  have w2 := io_at 32 (by omega)
  have w3 := io_at 48 (by omega)
  have w4 := io_at 64 (by omega)
  have w5 := io_at 80 (by omega)
  have hD0 : ColN (F := F) ((0 : Fin 8)).val D := fun c hc => absurd hc (Nat.not_lt_zero _)
  iapply (ow_assume (show k0_chk1 k0_pay171 (broadcast S16 512#32) from col_chk 0 k0_pay171 w0))
  iapply (ow_storeIdx (c := th d L) (M := mD)) $$ HD
  iintro HD
  have hD1 : ColN (F := F) ((1 : Fin 8)).val _ := col_step (F := F) 0 hD0 (w := k0_pay171) w0 (v := k0_pay172 (F := F)) (fun _ => rfl) (col_chk 0 k0_pay171 w0)
  iapply (ow_assume (show k0_chk2 k0_pay173 (broadcast S16 512#32) from col_chk 1 k0_pay173 w1))
  iapply (ow_storeIdx (c := th d L) (M := mD)) $$ HD
  iintro HD
  have hD2 : ColN (F := F) ((2 : Fin 8)).val _ := col_step (F := F) 1 hD1 (w := k0_pay173) w1 (v := k0_pay174 (F := F)) (fun _ => rfl) (col_chk 1 k0_pay173 w1)
  iapply (ow_assume (show k0_chk3 k0_pay175 (broadcast S16 512#32) from col_chk 2 k0_pay175 w2))
  iapply (ow_storeIdx (c := th d L) (M := mD)) $$ HD
  iintro HD
  have hD3 : ColN (F := F) ((3 : Fin 8)).val _ := col_step (F := F) 2 hD2 (w := k0_pay175) w2 (v := k0_pay176 (F := F)) (fun _ => rfl) (col_chk 2 k0_pay175 w2)
  iapply (ow_assume (show k0_chk4 k0_pay177 (broadcast S16 512#32) from col_chk 3 k0_pay177 w3))
  iapply (ow_storeIdx (c := th d L) (M := mD)) $$ HD
  iintro HD
  have hD4 : ColN (F := F) ((4 : Fin 8)).val _ := col_step (F := F) 3 hD3 (w := k0_pay177) w3 (v := k0_pay178 (F := F)) (fun _ => rfl) (col_chk 3 k0_pay177 w3)
  iapply (ow_assume (show k0_chk5 k0_pay179 (broadcast S16 512#32) from col_chk 4 k0_pay179 w4))
  iapply (ow_storeIdx (c := th d L) (M := mD)) $$ HD
  iintro HD
  have hD5 : ColN (F := F) ((5 : Fin 8)).val _ := col_step (F := F) 4 hD4 (w := k0_pay179) w4 (v := k0_pay180 (F := F)) (fun _ => rfl) (col_chk 4 k0_pay179 w4)
  iapply (ow_assume (show k0_chk6 k0_pay181 (broadcast S16 512#32) from col_chk 5 k0_pay181 w5))
  rw [wp_ret]; imodintro
  iexists _
  isplitr
  swap
  · isplitl [HR]; · iexact HR
    isplitl [HD]; · iexact HD
    isplitl [HRv]; · iexact HRv
    isplitl [Hs0]; · iexact Hs0
    iexact HO
  · ipureintro; exact ⟨hD5, rfl, rfl, rfl, rfl⟩

theorem body_run (hLb : ∀ x, (Lb x).toNat < 16) :
    (iprop(Transfers.MayWaits (th d L) (none : HIx 1) O ∗ owns (th d L) mF qF X ∗ owns (th d L) mL qL Lb ∗ owns (th d L) mR qR R ∗ Scr (F := F) d L ∗ ow (F := F) d L O W
        ∗ bigSep (Finset.univ : Finset (Fin k0_t1_loop.trips)) (OutRow (F := F) d L X Lb R False)) : sProp 𝕄)
      ⊢ wp frame (wpE (defs₀ (F := F)) 𝒱₀ (th d L) none) Set.univ (bSC (F := F) L)
          fun _ => iprop(owns (th d L) mF qF X ∗ owns (th d L) mL qL Lb ∗ owns (th d L) mR qR R ∗ Scr (F := F) d L ∗ ow (F := F) d L O W
            ∗ bigSep (Finset.univ : Finset (Fin k0_t1_loop.trips)) (OutRow (F := F) d L X Lb R True)) := by
  unfold bSC Scr
  rw [cc0__sc_body_eq_skeleton]
  unfold cc0__sc_body_skel
  rw [k0_part9_eq_skeleton]
  iintro ⟨#HM, HF, HL, HR, ⟨⟨%D, HD⟩, HI, HA, HRv, HY, HsA, Hs0, Hs1, Hs2⟩, HO, HB⟩
  iapply (ow_call (c := th d L) (prep_run (F := F) d L O W qR R D)) $$ [HR HD HRv Hs0 HO]
  · isplitr; · iexact HM
    isplitl [HR]; · iexact HR
    isplitl [HD]; · iexact HD
    isplitl [HRv]; · iexact HRv
    isplitl [Hs0]; · iexact Hs0
    iexact HO
  iintro %r ⟨%D5, %h5, HR, HD, HRv, Hs0, HO⟩
  obtain ⟨v1, v2, v24, v25, hw6, cst⟩ := r
  dsimp only at h5
  obtain ⟨hD5, rfl, rfl, rfl, rfl⟩ := h5
  have w5 := io_at 80 (by omega)
  have w6 := io_at 96 (by omega)
  have w7 := io_at 112 (by omega)
  replace hD5 : ColN (F := F) ((5 : Fin 8)).val D5 := hD5
  simp only [Prog.lift, Prog.bind_op, Prog.bind_ret, Prog.pure_eq_ret]
  iapply (ow_storeIdx (c := th d L) (M := mD)) $$ HD
  iintro HD
  have hD6 : ColN (F := F) ((6 : Fin 8)).val _ := col_step (F := F) 5 hD5 (w := k0_pay181) w5 (v := k0_pay1 (F := F) zM) (fun _ => rfl) (col_chk 5 k0_pay181 w5)
  iapply (ow_assume (show k0_chk7 (k0_pay2 (iota .scVector S16 32 [0] iota_S16_d0_w32_scVector)) (broadcast S16 512#32) from col_chk 6 _ w6))
  iapply (ow_storeIdx (c := th d L) (M := mD)) $$ HD
  iintro HD
  have hD7 : ColN (F := F) ((7 : Fin 8)).val _ := col_step (F := F) 6 hD6 (w := k0_pay2 (iota .scVector S16 32 [0] iota_S16_d0_w32_scVector)) w6 (v := k0_pay3 (F := F)) (fun _ => rfl) (col_chk 6 _ w6)
  iapply (ow_assume (show k0_chk8 (k0_pay4 (iota .scVector S16 32 [0] iota_S16_d0_w32_scVector)) (broadcast S16 512#32) from col_chk 7 _ w7))
  iapply (ow_storeIdx (c := th d L) (M := mD)) $$ HD
  iintro HD
  have hD8 : ColN (F := F) 8 _ := col_step (F := F) 7 hD7 (w := k0_pay4 (iota .scVector S16 32 [0] iota_S16_d0_w32_scVector)) w7 (v := k0_pay5 (F := F)) (fun _ => rfl) (col_chk 7 _ w7)
  iapply (ow_for (c := th d L) k0_t1_loop k0_t1_ok ⟨⟩ (bT1 (F := F) L v1)
    (fun n _ => iprop(Transfers.MayWaits (th d L) (none : HIx 1) O ∗ RowI (F := F) d L O W qF qL X Lb R ∗ (∃ Y, owns (th d L) mSt fullShare Y) ∗ s2 (F := F) d L
      ∗ bigSep (Finset.univ : Finset (Fin k0_t1_loop.trips)) (fun t => OutRow (F := F) d L X Lb R (t.val < n) t)))
    (fun k acc => by
      rw [SparseCore.bigSep_erase' (Finset.mem_univ k)]
      rw [show OutRow (F := F) d L X Lb R (k.val < k.val) k = OutRow (F := F) d L X Lb R False k by
        rw [show (k.val < k.val) = False from propext ⟨fun h => absurd h (lt_irrefl _), False.elim⟩]]
      iintro ⟨#HM, HI, HY, Hs2, HB, HE⟩
      iapply (wp_wand_r frame (wpE (defs₀ (F := F)) 𝒱₀ (th d L) none) Set.univ)
      isplitl [HI HY Hs2 HB]
      · iapply (trip_run (F := F) d L O W qF qL X Lb R v1 hLb k acc)
        isplitr; · iexact HM
        isplitl [HI]; · iexact HI
        isplitl [HY]; · iexact HY
        isplitl [Hs2]; · iexact Hs2
        iexact HB
      iintro %a ⟨HI, HY, Hs2, HB⟩
      isplitr; · iexact HM
      isplitl [HI]; · iexact HI
      isplitl [HY]; · iexact HY
      isplitl [Hs2]; · iexact Hs2
      rw [SparseCore.bigSep_erase' (s := (Finset.univ : Finset (Fin k0_t1_loop.trips))) (i := k) (Finset.mem_univ k) (Φ := fun t => OutRow (F := F) d L X Lb R (t.val < k.val + 1) t)]
      rw [show OutRow (F := F) d L X Lb R (k.val < k.val + 1) k = OutRow (F := F) d L X Lb R True k by
        rw [show (k.val < k.val + 1) = True from propext ⟨fun _ => trivial, fun _ => Nat.lt_succ_self _⟩]]
      isplitl [HB]; · iexact HB
      iapply (sep_all (s := Finset.univ.erase k) (Φ := fun t => OutRow (F := F) d L X Lb R (t.val < k.val) t) (Ψ := fun t => OutRow (F := F) d L X Lb R (t.val < k.val + 1) t) (fun t ht => show OutRow (F := F) d L X Lb R (t.val < k.val) t ⊢ OutRow (F := F) d L X Lb R (t.val < k.val + 1) t by
        have hne : t.val ≠ k.val := fun h => (Finset.mem_erase.mp ht).1 (Fin.ext h)
        rw [show (t.val < k.val) = (t.val < k.val + 1) from propext (by omega)])) $$ HE)) $$ [HF HL HD HI HA HRv HsA Hs1 HO HY Hs2 HB]
  · isplitr; · iexact HM
    isplitl [HF HL HD HI HA HRv HsA Hs1 HO]
    · unfold RowI
      isplitl [HF]; · iexact HF
      isplitl [HL]; · iexact HL
      isplitl [HD]
      · iexists _; isplitr
        swap
        · iexact HD
        · ipureintro; exact fun c => hD8 c (by omega)
      isplitl [HI]; · iexact HI
      isplitl [HA]; · iexact HA
      isplitl [HRv]; · iexact HRv
      isplitl [HsA]; · iexact HsA
      isplitl [Hs1]; · iexact Hs1
      iexact HO
    isplitl [HY]; · iexact HY
    isplitl [Hs2]; · iexact Hs2
    rw [show (fun t : Fin k0_t1_loop.trips => OutRow (F := F) d L X Lb R (t.val < 0) t) = OutRow (F := F) d L X Lb R False from funext fun t => by
      rw [show (t.val < 0) = False from propext ⟨fun h => absurd h (Nat.not_lt_zero _), False.elim⟩]]
    iexact HB
  iintro %acc ⟨-, HI, HY, Hs2, HB⟩
  rw [show (fun t : Fin k0_t1_loop.trips => OutRow (F := F) d L X Lb R (t.val < k0_t1_loop.trips) t) = OutRow (F := F) d L X Lb R True from funext fun t => by
    rw [show (t.val < k0_t1_loop.trips) = True from propext ⟨fun _ => trivial, fun _ => t.isLt⟩]]
  unfold RowI
  icases HI with ⟨HF, HL, ⟨%D', -, HD⟩, HI, HA, HRv, HsA, Hs1, HO⟩
  rw [wp_ret]; imodintro
  isplitl [HF]; · iexact HF
  isplitl [HL]; · iexact HL
  isplitl [HR]; · iexact HR
  isplitr [HO HB]
  · isplitl [HD]; · iexists _; iexact HD
    isplitl [HI]; · iexact HI
    isplitl [HA]; · iexact HA
    isplitl [HRv]; · iexists _; iexact HRv
    isplitl [HY]; · iexact HY
    isplitl [HsA]; · iexact HsA
    isplitl [Hs0]; · iexact Hs0
    isplitl [Hs1]; · iexact Hs1
    iexact Hs2
  isplitl [HO]; · iexact HO
  iexact HB

end Tile

end Cert.Proof
-- ==== Proof.Tile.lean ====
/-
  A tile as the launch sees it: its own buffers and counters, what it is handed and hands back.
-/
module

public import proofs.«01_k».proof.Proof.BodyH

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

open Cert.Proof.Lanes Cert.Proof.Place Cert.Proof.Chunk

variable {F : FTy → Type}

local notation "𝕄" => MT nD τ sig (HIx 1) (Elt F) ℕ UU ℕ

variable [FloatOps F]

/-! ## A tile's own buffers and counters -/

/-- A family of distinct members pulled out of a product over a set. -/
theorem pull {κ : Type} [DecidableEq κ] {n : ℕ} {s : Finset κ} (f : Fin n → κ) (hf : Function.Injective f) (hs : ∀ i, f i ∈ s) (Φ : κ → sProp 𝕄) :
    bigSep s Φ = iprop((bigSep Finset.univ fun i : Fin n => Φ (f i)) ∗ bigSep (s \ Finset.univ.image f) Φ) := by
  have hsub : Finset.univ.image f ⊆ s := fun x hx => by
    obtain ⟨i, -, rfl⟩ := Finset.mem_image.mp hx
    exact hs i
  have e : s = Finset.univ.image f ∪ (s \ Finset.univ.image f) := (Finset.union_sdiff_of_subset hsub).symm
  conv_lhs => rw [e]
  rw [SparseCore.bigSep_union' Finset.disjoint_sdiff, SparseCore.bigSep_image_of_injOn (fun a _ b _ h => hf h) Φ]

theorem sep24 (Φ : Fin 24 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23) := by
  rw [show (Finset.univ : Finset (Fin 24)) = {0, 1, 2, 3, 4, 5, 6, 7, 8, 9, 10, 11, 12, 13, 14, 15, 16, 17, 18, 19, 20, 21, 22, 23} by decide]
  iterate 23 rw [SparseCore.bigSep_insert' (by decide)]
  rw [bigSep_singleton]

theorem sep4 (Φ : Fin 4 → sProp 𝕄) : bigSep Finset.univ Φ = iprop(Φ 0 ∗ Φ 1 ∗ Φ 2 ∗ Φ 3) := by
  rw [show (Finset.univ : Finset (Fin 4)) = {0, 1, 2, 3} by decide]
  iterate 3 rw [SparseCore.bigSep_insert' (by decide)]
  rw [bigSep_singleton]

/-- The tile's scratch buffers. -/
def scr : Fin 24 → Ref sig .scVector := ![cc0_scratch0, cc0_scratch1, cc0_scratch2, cc0_scratch3, cc0_scratch4, cc0_scratch5, cc0_scratch6, cc0_scratch7, cc0_scratch8, cc0_scratch9, cc0_scratch10, cc0_scratch11, cc0_scratch12, cc0_scratch13, cc0_scratch14, cc0_scratch15, cc0_scratch16, cc0_scratch17, cc0_scratch18, cc0_scratch19, cc0_scratch20, cc0_scratch21, cc0_scratch22, cc0_scratch23]
theorem scr_inj : Function.Injective scr := by decide

/-- The tile's transfer counters. -/
def cel : Fin 4 → SemLoc sig := ![.dma cc0_scratch24.sem, .dma cc0_scoped0.sem, .dma cc0_scoped1.sem, .dma cc0_scoped2.sem]
theorem cel_inj : Function.Injective cel := by decide
theorem cel_scoped : ∀ i, (cel i).isScoped .scVector = true := by decide

section Tile

variable (d : Dev nD) (L : grid0.Coords)

/-- The buffers and the counters of a tile beyond those its body uses. -/
def RestB : sProp 𝕄 := bigSep (ownRefs (τ := τ) (.scVector (cV L) (jV L)) \ Finset.univ.image fun i => (Proc.scVector (cV L) (jV L)).devRef (scr i)) fun b => iprop(∃ f, ((d, b) : Loc nD τ sig) ↦{fullShare} f)
def RestS : sProp 𝕄 := bigSep (ownCells (th d L) \ Finset.univ.image fun i => ((th d L, cel i) : GSem nD τ sig)) fun g => semVal g 0

theorem bufs_split : (ownBufs (th d L) : sProp 𝕄) = iprop((bigSep Finset.univ fun i : Fin 24 => iprop(∃ f, (th d L).loc (scr i) ↦{fullShare} f)) ∗ RestB (F := F) d L) := by
  unfold SparseCore.Cfg.ownBufs RestB
  exact pull (fun i => (Proc.scVector (cV L) (jV L)).devRef (scr i)) (fun a b h => scr_inj (Proc.devRef_injective _ h))
    (fun i => SparseCore.Cfg.mem_ownRefs_of_owner (p := Proc.scVector (cV L) (jV L)) (b := (Proc.scVector (cV L) (jV L)).devRef (scr i)) (by fin_cases i <;> rfl))
    (fun b => iprop(∃ f, ((d, b) : Loc nD τ sig) ↦{fullShare} f))

theorem sems_split : (ownSems0 (th d L) : sProp 𝕄) = iprop((bigSep Finset.univ fun i : Fin 4 => semVal (th d L, cel i) 0) ∗ RestS (F := F) d L) := by
  unfold SparseCore.Cfg.ownSems0 RestS
  exact pull (fun i => ((th d L, cel i) : GSem nD τ sig)) (fun a b h => cel_inj (Prod.mk.inj h).2)
    (fun i => mem_ownCells.mpr ⟨rfl, cel_scoped i⟩) (fun g => semVal g 0)

theorem scr_split :
    (iprop((bigSep Finset.univ fun i : Fin 24 => iprop(∃ f, (th d L).loc (scr i) ↦{fullShare} f)) ∗ (bigSep Finset.univ fun i : Fin 4 => semVal (th d L, cel i) 0)) : sProp 𝕄) ⊢ Scr (F := F) d L := by
  rw [sep24, sep4]
  unfold Scr Ints Accs
  simp only [owns_whole]
  iintro ⟨⟨⟨%x0, H0⟩, ⟨%x1, H1⟩, ⟨%x2, H2⟩, ⟨%x3, H3⟩, ⟨%x4, H4⟩, ⟨%x5, H5⟩, ⟨%x6, H6⟩, ⟨%x7, H7⟩, ⟨%x8, H8⟩, ⟨%x9, H9⟩, ⟨%x10, H10⟩, ⟨%x11, H11⟩, ⟨%x12, H12⟩, ⟨%x13, H13⟩, ⟨%x14, H14⟩, ⟨%x15, H15⟩, ⟨%x16, H16⟩, ⟨%x17, H17⟩, ⟨%x18, H18⟩, ⟨%x19, H19⟩, ⟨%x20, H20⟩, ⟨%x21, H21⟩, ⟨%x22, H22⟩, ⟨%x23, H23⟩⟩, HsA, Hs0, Hs1, Hs2⟩
  isplitl [H0]; · iexists x0; iexact H0
  isplitl [H1 H2 H3 H4 H5]
  · isplitl [H1]; · iexists x1; iexact H1
    isplitl [H4]; · iexists x4; iexact H4
    isplitl [H5]; · iexists x5; iexact H5
    iexists x2, x3
    isplitl [H2]; · iexact H2
    iexact H3
  isplitl [H6 H7 H8 H9 H10 H11 H12 H13 H14 H15 H16 H17 H18 H19 H20 H21]
  · iexists ![x6, x7, x8, x9, x10, x11, x12, x13], ![x14, x15, x16, x17, x18, x19, x20, x21]
    isplitl [H6]; · iexact H6
    isplitl [H14]; · iexact H14
    isplitl [H7]; · iexact H7
    isplitl [H15]; · iexact H15
    isplitl [H8]; · iexact H8
    isplitl [H16]; · iexact H16
    isplitl [H9]; · iexact H9
    isplitl [H17]; · iexact H17
    isplitl [H10]; · iexact H10
    isplitl [H18]; · iexact H18
    isplitl [H11]; · iexact H11
    isplitl [H19]; · iexact H19
    isplitl [H12]; · iexact H12
    isplitl [H20]; · iexact H20
    isplitl [H13]; · iexact H13
    iexact H21
  isplitl [H22]; · iexists x22; iexact H22
  isplitl [H23]; · iexists x23; iexact H23
  isplitl [HsA]; · iexact HsA
  isplitl [Hs0]; · iexact Hs0
  isplitl [Hs1]; · iexact Hs1
  iexact Hs2

theorem scr_join :
    (Scr (F := F) d L : sProp 𝕄) ⊢ iprop((bigSep Finset.univ fun i : Fin 24 => iprop(∃ f, (th d L).loc (scr i) ↦{fullShare} f)) ∗ (bigSep Finset.univ fun i : Fin 4 => semVal (th d L, cel i) 0)) := by
  rw [sep24, sep4]
  unfold Scr Ints Accs
  simp only [owns_whole]
  iintro ⟨⟨%x0, H0⟩, ⟨⟨%x1, H1⟩, ⟨%x4, H4⟩, ⟨%x5, H5⟩, %x2, %x3, H2, H3⟩, ⟨%XS, %XM, H6, H14, H7, H15, H8, H16, H9, H17, H10, H18, H11, H19, H12, H20, H13, H21⟩, ⟨%x22, H22⟩, ⟨%x23, H23⟩, HsA, Hs0, Hs1, Hs2⟩
  isplitr [HsA Hs0 Hs1 Hs2]
  · isplitl [H0]; · iexists _; iexact H0
    isplitl [H1]; · iexists _; iexact H1
    isplitl [H2]; · iexists _; iexact H2
    isplitl [H3]; · iexists _; iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    iexists _; iexact H23
  isplitl [HsA]; · iexact HsA
  isplitl [Hs0]; · iexact Hs0
  isplitl [Hs1]; · iexact Hs1
  iexact Hs2

variable (O : CellTallies nD τ sig (HIx 1)) (W : Waits sig (HIx 1)) (q : PosShare TreeShare)
  (X : S4x128x30x2048.Idx → F .f32) (Lb : S4x30x2048.Idx → BitVec 32) (R : S2056.Idx → F .f32)

/-- What a tile is handed and hands back: read shares of the three arrays it reads, and its rows of the result. -/
def TilePay (done : Prop) : sProp 𝕄 :=
  iprop(((SparseCore.T d).loc main_arg0 ↦{q} X) ∗ ((SparseCore.T d).loc main_arg1 ↦{q} Lb) ∗ ((SparseCore.T d).loc main_v8 ↦{q} R)
    ∗ bigSep (Finset.univ : Finset (Fin k0_t1_loop.trips)) (OutRow (F := F) d L X Lb R done))

theorem tile_body (hLb : ∀ x, (Lb x).toNat < 16) (hF : (K (F := F)).Facts) (hO : ∀ g, O g none = 0) :
    (iprop(levAts (K (F := F)).L (K (F := F)).lev ∗ emp ∗ TilePay (F := F) d L q X Lb R False ∗ scopedBufs (th d L) ∗ scopedSems0 (th d L) ∗ owes (th d L) O W) : sProp 𝕄)
      ⊢ wp frame (wpE (defs₀ (F := F)) 𝒱₀ (th d L) none) Set.univ (bSC (F := F) L)
          fun _ => iprop(TilePay (F := F) d L q X Lb R True ∗ scopedBufs (th d L) ∗ scopedSems0 (th d L)
            ∗ ∃ W', ⌜∀ p ∈ W', p ∈ W ∨ p.2 = none⌝ ∗ owes (th d L) O W') := by
  rw [(K (F := F)).scopedBufs_V hF d (cV L) (jV L), SparseCore.Cfg.scopedSems0_V (Val := Elt F) d (cV L) (jV L), bufs_split (F := F) d L, sems_split (F := F) d L]
  unfold TilePay
  iintro ⟨#Hlv, -, ⟨HF, HL, HR, HB⟩, ⟨Hbufs, HrB⟩, ⟨Hsems, HrS⟩, HO⟩
  ihave HS := (scr_split (F := F) d L) $$ [Hbufs Hsems]
  · isplitl [Hbufs] <;> iassumption
  iapply (wp_wand_r frame (wpE (defs₀ (F := F)) 𝒱₀ (th d L) none) Set.univ)
  isplitl [HF HL HR HB HS HO]
  · iapply (body_run (F := F) d L O W q q q X Lb R hLb)
    rw [owns_whole, owns_whole, owns_whole]
    isplitr; · iapply ((K (F := F)).mayWaits_none (thr := th d L) hO); iexact Hlv
    isplitl [HF]; · iexact HF
    isplitl [HL]; · iexact HL
    isplitl [HR]; · iexact HR
    isplitl [HS]; · iexact HS
    isplitl [HO]
    · iexists W; isplitr
      · ipureintro; exact fun p hp => .inl hp
      · iexact HO
    iexact HB
  rw [owns_whole, owns_whole, owns_whole]
  iintro %a ⟨HF, HL, HR, HS, HO, HB⟩
  ihave HS' := (scr_join (F := F) d L) $$ HS
  icases HS' with ⟨Hbufs, Hsems⟩
  isplitl [HF HL HR HB]
  · isplitl [HF]; · iexact HF
    isplitl [HL]; · iexact HL
    isplitl [HR]; · iexact HR
    iexact HB
  isplitl [Hbufs HrB]
  · isplitl [Hbufs] <;> iassumption
  isplitl [Hsems HrS]
  · isplitl [Hsems] <;> iassumption
  iexact HO

end Tile

end Cert.Proof
-- ==== Proof.Rows.lean ====
/-
  The rows of the result, dealt to the tiles and gathered.
-/
module

public import proofs.«01_k».proof.Proof.Tile

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

open Cert.Proof.Lanes Cert.Proof.Place Cert.Proof.Chunk

variable {F : FTy → Type}

local notation "𝕄" => MT nD τ sig (HIx 1) (Elt F) ℕ UU ℕ

variable [FloatOps F]

/-! ## The rows of the result -/

/-- A cell of the result. -/
def oix (n : Fin 120) (p : Fin 16) (c : Fin 128) : S120x16x128.Idx := fun a => match a with | 0 => n | 1 => p | 2 => c

theorem oix_eta (x : S120x16x128.Idx) : x = oix (x 0) (x 1) (x 2) := by
  funext a; match a with | 0 => rfl | 1 => rfl | 2 => rfl

/-- The row a cell of the result lies in. -/
def rowOf (x : S120x16x128.Idx) : Fin 120 := x 0

/-- Row `n` of the result. -/
def rowSet (n : Fin 120) : Finset S120x16x128.Idx := Finset.univ.filter fun x => rowOf x = n

theorem mem_rowSet {n : Fin 120} {x : S120x16x128.Idx} : x ∈ rowSet n ↔ rowOf x = n := by
  unfold rowSet; rw [Finset.mem_filter]; exact and_iff_right (Finset.mem_univ _)

def sx3o (p : Fin 16) (c : Fin 128) : S1x16x128.Idx := fun | 0 => (0 : Fin 1) | 1 => p | 2 => c | ⟨_ + 3, h⟩ => absurd h (Nat.not_lt.2 (Nat.le_add_left _ _))
theorem sc_o : S1x16x128.ShapeCasts S16x128 := by decide

/-- A trip has a row exactly when its number is below 120. -/
theorem cond_iff : ∀ (i : grid0.Coords) (t1 : Fin k0_t1_loop.trips), k0_cond1 i t1 = 1#1 ↔ rowN i t1 < 120 := by decide +kernel

section Row

variable (L : grid0.Coords) (t1 : Fin k0_t1_loop.trips)

theorem mOq_emb (h1 : k0_cond1 L t1 = 1#1) (p : Fin 16) (c : Fin 128) : (mOq L t1 h1).view.emb (ox p c) = oix (rowF L t1 h1) p c := by
  show shapeCast S16x128 (fun j => (Rect.unit (s := S120x16x128) (k0_off17 L t1) S1x16x128.size (k0_off17_inb L t1 h1)).emb j) sc_o (ox p c) = _
  refine (shapeCast_apply _ _ (ox p c) (sx3o p c) ?_).trans ?_
  · rw [Shape.rowMajor_val_two, Shape.rowMajor_val_three]
    show (0 * 16 + p.val) * 128 + c.val = p.val * 128 + c.val
    omega
  · have ho := k0_off17_eq L t1
    funext a
    apply Fin.ext
    have o0 : k0_off17 L t1 0 = rowN L t1 := congrFun ho 0
    have o1 : k0_off17 L t1 1 = 0 := congrFun ho 1
    have o2 : k0_off17 L t1 2 = 0 := congrFun ho 2
    match a with
    | 0 => show k0_off17 L t1 0 + 1 * 0 = rowN L t1; omega
    | 1 => show k0_off17 L t1 1 + 1 * p.val = p.val; omega
    | 2 => show k0_off17 L t1 2 + 1 * c.val = c.val; omega

theorem mOq_read (h1 : k0_cond1 L t1 = 1#1) (f : S120x16x128.Idx → F .f32) (p : Fin 16) (c : Fin 128) :
    (mOq L t1 h1).view.read (Elt F) f (ox p c) = f (oix (rowF L t1 h1) p c) :=
  congrArg f (mOq_emb L t1 h1 p c)

theorem mOq_set (h1 : k0_cond1 L t1 = 1#1) : (mOq L t1 h1).view.set = rowSet (rowF L t1 h1) := by
  ext x
  rw [mem_rowSet]
  unfold View.set
  rw [Finset.mem_map]
  constructor
  · rintro ⟨y, -, rfl⟩
    exact congrArg rowOf ((congrArg (mOq L t1 h1).view.emb (ox_eta y)).trans (mOq_emb L t1 h1 _ _))
  · intro e
    exact ⟨ox (x 1) (x 2), Finset.mem_univ _, (mOq_emb L t1 h1 _ _).trans (by rw [← e]; exact (oix_eta x).symm)⟩

/-- The cells a trip writes. -/
def tripSet : Finset S120x16x128.Idx := if h1 : k0_cond1 L t1 = 1#1 then rowSet (rowF L t1 h1) else ∅

end Row

/-- The coordinates of a tile. -/
def coordsV (c : Fin (grid0.bound 0)) (s : Fin (grid0.bound 1)) : grid0.Coords :=
  fun | 0 => c | 1 => s | ⟨_ + 2, h⟩ => absurd h (Nat.not_lt.2 (Nat.le_add_left _ _))

/-- The trips of all the tiles. -/
abbrev Trip : Type := Fin (grid0.bound 0) × Fin (grid0.bound 1) × Fin k0_t1_loop.trips
def tset (x : Trip) : Finset S120x16x128.Idx := tripSet (coordsV x.1 x.2.1) x.2.2

theorem trip_rowN (x : Trip) : rowN (coordsV x.1 x.2.1) x.2.2 = 2 * x.2.1.val + x.1.val + 32 * x.2.2.val := rfl

theorem mem_tset {x : Trip} {y : S120x16x128.Idx} : y ∈ tset x ↔ (rowOf y).val = 2 * x.2.1.val + x.1.val + 32 * x.2.2.val := by
  rw [← trip_rowN]
  unfold tset tripSet
  split
  · rename_i h; rw [mem_rowSet, Fin.ext_iff]; rfl
  · rename_i h; rw [cond_iff] at h
    constructor
    · intro h'; exact absurd h' (Finset.notMem_empty _)
    · intro e; exact absurd (e ▸ (rowOf y).isLt) h

theorem tset_disjoint : ∀ x ∈ (Finset.univ : Finset Trip), ∀ y ∈ (Finset.univ : Finset Trip), x ≠ y → Disjoint (tset x) (tset y) := by
  rintro ⟨c, s, t⟩ - ⟨c', s', t'⟩ - hne
  refine Finset.disjoint_left.mpr fun z h h' => hne ?_
  rw [mem_tset] at h h'
  dsimp only at h h'
  have := show c.val < 2 from c.isLt
  have := show c'.val < 2 from c'.isLt
  have := show s.val < 16 from s.isLt
  have := show s'.val < 16 from s'.isLt
  exact Prod.ext (Fin.ext (show c.val = c'.val by omega)) (Prod.ext (Fin.ext (show s.val = s'.val by omega)) (Fin.ext (show t.val = t'.val by omega)))

/-- The trip whose row is `n`. -/
def tripOf (n : Fin 120) : Trip := ⟨⟨n.val % 2, Nat.mod_lt _ (by decide)⟩, ⟨n.val % 32 / 2, show n.val % 32 / 2 < 16 by omega⟩, ⟨n.val / 32, show n.val / 32 < 4 by omega⟩⟩

theorem tripOf_row (n : Fin 120) : rowN (coordsV (tripOf n).1 (tripOf n).2.1) (tripOf n).2.2 = n.val := by
  rw [trip_rowN]
  show 2 * (n.val % 32 / 2) + n.val % 2 + 32 * (n.val / 32) = n.val
  omega

theorem tset_cover : (Finset.univ : Finset Trip).biUnion tset = Finset.univ := by
  refine Finset.eq_univ_of_forall fun y => Finset.mem_biUnion.mpr ⟨tripOf (rowOf y), Finset.mem_univ _, mem_tset.mpr ?_⟩
  exact ((trip_rowN (tripOf (rowOf y))).symm.trans (tripOf_row (rowOf y))).symm

/-- Pieces of one array at contents of their own, joined. -/
theorem gather {ι : Type} [Fintype ι] [DecidableEq ι] {ℓ : Loc nD τ sig} (P : ι → Finset (Idx ℓ)) (ok : ι → Buf (Elt F) ℓ → Prop) (f₀ : Buf (Elt F) ℓ)
    (hP : ∀ x ∈ (Finset.univ : Finset ι), ∀ y ∈ (Finset.univ : Finset ι), x ≠ y → Disjoint (P x) (P y)) :
    (bigSep Finset.univ fun x : ι => iprop(∃ f : Buf (Elt F) ℓ, ⌜ok x f⌝ ∗ ℓ ↦[P x]{fullShare} f))
      ⊢ (iprop(∃ (fs : ι → Buf (Elt F) ℓ) (g : Buf (Elt F) ℓ), ⌜(∀ x, ok x (fs x)) ∧ ∀ x, ∀ i ∈ P x, g i = fs x i⌝ ∗ ℓ ↦[Finset.univ.biUnion P]{fullShare} g) : sProp 𝕄) := by
  haveI : Nonempty (Buf (Elt F) ℓ) := ⟨f₀⟩
  refine (bigSep_exists_pi Finset.univ (fun x (f : Buf (Elt F) ℓ) => iprop(⌜ok x f⌝ ∗ ℓ ↦[P x]{fullShare} f))).trans ?_
  iintro ⟨%fs, H⟩
  ihave H' := (bigSep_pure_sep (Finset.univ : Finset ι) (fun x => ok x (fs x)) (fun x => (ℓ ↦[P x]{fullShare} fs x : sProp 𝕄))) $$ H
  icases H' with ⟨%hfs, H⟩
  ihave H' := (pointsTo_biUnion_join Finset.univ P fs f₀ hP) $$ H
  icases H' with ⟨%g, %hg, Hg⟩
  iexists fs, g
  isplitr
  swap
  · iexact Hg
  · ipureintro; exact ⟨fun x => hfs x (Finset.mem_univ _), fun x => hg x (Finset.mem_univ _)⟩

section Deal

variable (d : Dev nD) (X : S4x128x30x2048.Idx → F .f32) (Lb : S4x30x2048.Idx → BitVec 32) (R : S2056.Idx → F .f32)

abbrev oLoc : Loc nD τ sig := (SparseCore.T d).loc main_v9

theorem out_row (x : Trip) (f : Buf (Elt F) (oLoc d)) : (oLoc d ↦[tset x]{fullShare} f : sProp 𝕄) ⊢ OutRow (F := F) d (coordsV x.1 x.2.1) X Lb R False x.2.2 := by
  unfold OutRow tset tripSet
  split
  · rename_i h1
    rw [← mOq_set]
    iintro H
    iexists _
    isplitr
    swap
    · iapply (owns_intro (th d (coordsV x.1 x.2.1)) (mOq (coordsV x.1 x.2.1) x.2.2 h1) fullShare f) $$ H
    · ipureintro; exact False.elim
  · rw [pointsTo_empty]

theorem row_out (x : Trip) : OutRow (F := F) d (coordsV x.1 x.2.1) X Lb R True x.2.2
    ⊢ (iprop(∃ f : Buf (Elt F) (oLoc d), ⌜∀ n : Fin 120, n.val = rowN (coordsV x.1 x.2.1) x.2.2 → RowOK X Lb R n fun p c => f (oix n p c)⌝ ∗ oLoc d ↦[tset x]{fullShare} f) : sProp 𝕄) := by
  unfold OutRow tset tripSet
  split
  · rename_i h1
    rw [← mOq_set]
    iintro ⟨%Y, %hY, H⟩
    unfold owns
    icases H with ⟨%f, %hf, H⟩
    iexists f
    isplitr
    swap
    · iexact H
    · ipureintro
      intro n hn
      subst hf
      obtain rfl : n = rowF (coordsV x.1 x.2.1) x.2.2 h1 := Fin.ext hn
      exact Eq.mp (congrArg (RowOK X Lb R _) (funext fun p => funext fun c => mOq_read (coordsV x.1 x.2.1) x.2.2 h1 f p c)) (hY trivial)
  · rename_i h1
    iintro -
    iexists fun _ => (zM : F .f32)
    isplitr
    · ipureintro; intro n hn; rw [cond_iff] at h1; exact absurd (hn ▸ n.isLt) h1
    · rw [pointsTo_empty]; iempintro

theorem out_split (f : Buf (Elt F) (oLoc d)) : (oLoc d ↦{fullShare} f : sProp 𝕄)
    ⊢ bigSep Finset.univ fun x : Trip => OutRow (F := F) d (coordsV x.1 x.2.1) X Lb R False x.2.2 := by
  rw [show (oLoc d ↦{fullShare} f : sProp 𝕄) = bigSep Finset.univ fun x : Trip => oLoc d ↦[tset x]{fullShare} f by
    rw [← pointsTo_biUnion Finset.univ (ℓ := oLoc d) tset tset_disjoint, tset_cover]]
  exact sep_all fun x _ => out_row (F := F) d X Lb R x f

theorem out_join : (bigSep Finset.univ fun x : Trip => OutRow (F := F) d (coordsV x.1 x.2.1) X Lb R True x.2.2)
    ⊢ (iprop(∃ f : Buf (Elt F) (oLoc d), ⌜∀ n : Fin 120, RowOK X Lb R n fun p c => f (oix n p c)⌝ ∗ oLoc d ↦{fullShare} f) : sProp 𝕄) := by
  refine (sep_all fun x _ => row_out (F := F) d X Lb R x).trans ?_
  refine (gather (F := F) (ℓ := oLoc d) tset (fun x f => ∀ n : Fin 120, n.val = rowN (coordsV x.1 x.2.1) x.2.2 → RowOK X Lb R n fun p c => f (oix n p c))
    (fun _ => (zM : F .f32)) tset_disjoint).trans ?_
  rw [tset_cover]
  iintro ⟨%fs, %g, %h, Hg⟩
  iexists g
  isplitr
  swap
  · iexact Hg
  · ipureintro
    intro n
    have e : (fun p c => g (oix n p c)) = fun p c => fs (tripOf n) (oix n p c) := by
      funext p c
      exact h.2 (tripOf n) _ (mem_tset.mpr ((tripOf_row n).symm.trans (trip_rowN _)))
    rw [e]; exact h.1 (tripOf n) n (tripOf_row n).symm

end Deal

/-! ## Read shares -/

theorem sep_re {A B C : sProp 𝕄} : iprop((A ∗ B) ∗ C) = iprop(A ∗ B ∗ C) := by
  have h1 : iprop((A ∗ B) ∗ C) ⊢ iprop(A ∗ B ∗ C) := by
    iintro ⟨⟨HA, HB⟩, HC⟩
    isplitl [HA]; · iexact HA
    isplitl [HB] <;> iassumption
  have h2 : iprop(A ∗ B ∗ C) ⊢ iprop((A ∗ B) ∗ C) := by
    iintro ⟨HA, HB, HC⟩
    isplitr [HC]
    · isplitl [HA] <;> iassumption
    · iexact HC
  exact BI.equiv_iff.mp ⟨h1, h2⟩

/-- A tile's share of an array it reads. -/
def tq2 (c : Fin (grid0.bound 0)) (s : Fin (grid0.bound 1)) : PosShare TreeShare :=
  Transfers.shareTok (Transfers.shareTok fullShare (grid0.bound 0) c) (grid0.bound 1) s

section Reads

variable {ℓ : Loc nD τ sig} (f : Buf (Elt F) ℓ)

/-- What is left of an array when every tile has its share. -/
def Left : sProp 𝕄 :=
  iprop((ℓ ↦{Transfers.shareDrop fullShare (grid0.bound 0)} f) ∗ bigSep Finset.univ fun c : Fin (grid0.bound 0) => ℓ ↦{Transfers.shareDrop (Transfers.shareTok fullShare (grid0.bound 0) c) (grid0.bound 1)} f)

theorem reads_eq : (ℓ ↦{fullShare} f : sProp 𝕄)
    = iprop(Left f ∗ bigSep Finset.univ fun c : Fin (grid0.bound 0) => bigSep Finset.univ fun s : Fin (grid0.bound 1) => ℓ ↦{tq2 c s} f) := by
  have h := fun (q : PosShare TreeShare) (n : ℕ) =>
    BI.equiv_iff.mp ⟨(Transfers.pointsTo_toks (nD := nD) (τ := τ) (sig := sig) (Ix := HIx 1) (Val := Elt F) (Name := ℕ) (U := UU) (Lvl := ℕ) (ℓ := ℓ) (S := Finset.univ) (f := f) q n).1,
      (Transfers.pointsTo_toks (nD := nD) (τ := τ) (sig := sig) (Ix := HIx 1) (Val := Elt F) (Name := ℕ) (U := UU) (Lvl := ℕ) (ℓ := ℓ) (S := Finset.univ) (f := f) q n).2⟩
  unfold Left tq2
  rw [h fullShare (grid0.bound 0)]
  rw [bigSep_congr fun (c : Fin (grid0.bound 0)) _ => h (Transfers.shareTok fullShare (grid0.bound 0) c) (grid0.bound 1), bigSep_sep', ← sep_re]

end Reads

end Cert.Proof
-- ==== Proof.Deal.lean ====
/-
  What the tiles are handed, taken from whole arrays and put back.
-/
module

public import proofs.«01_k».proof.Proof.Rows

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

open Cert.Proof.Lanes Cert.Proof.Place Cert.Proof.Chunk

variable {F : FTy → Type}

local notation "𝕄" => MT nD τ sig (HIx 1) (Elt F) ℕ UU ℕ

variable [FloatOps F]

section Pays

variable (d : Dev nD) (X : S4x128x30x2048.Idx → F .f32) (Lb : S4x30x2048.Idx → BitVec 32) (R : S2056.Idx → F .f32)

/-- Every tile's payload. -/
def Pays (done : Prop) : sProp 𝕄 :=
  bigSep Finset.univ fun c : Fin (grid0.bound 0) => bigSep Finset.univ fun s : Fin (grid0.bound 1) => TilePay (F := F) d (coordsV c s) (tq2 c s) X Lb R done

abbrev xLoc : Loc nD τ sig := (SparseCore.T d).loc main_arg0
abbrev lLoc : Loc nD τ sig := (SparseCore.T d).loc main_arg1
abbrev rLoc : Loc nD τ sig := (SparseCore.T d).loc main_v8

theorem pays_eq (done : Prop) : (Pays (F := F) d X Lb R done : sProp 𝕄)
    = iprop((bigSep Finset.univ fun c : Fin (grid0.bound 0) => bigSep Finset.univ fun s : Fin (grid0.bound 1) => xLoc d ↦{tq2 c s} X)
      ∗ (bigSep Finset.univ fun c : Fin (grid0.bound 0) => bigSep Finset.univ fun s : Fin (grid0.bound 1) => lLoc d ↦{tq2 c s} Lb)
      ∗ (bigSep Finset.univ fun c : Fin (grid0.bound 0) => bigSep Finset.univ fun s : Fin (grid0.bound 1) => rLoc d ↦{tq2 c s} R)
      ∗ bigSep Finset.univ fun x : Trip => OutRow (F := F) d (coordsV x.1 x.2.1) X Lb R done x.2.2) := by
  unfold Pays TilePay
  simp only [bigSep_sep', BI.bigSep_univ_prod]

theorem deal (f : Buf (Elt F) (oLoc d)) :
    (iprop((xLoc d ↦{fullShare} X) ∗ (lLoc d ↦{fullShare} Lb) ∗ (rLoc d ↦{fullShare} R) ∗ (oLoc d ↦{fullShare} f)) : sProp 𝕄)
      ⊢ iprop((Left (ℓ := xLoc d) X ∗ Left (ℓ := lLoc d) Lb ∗ Left (ℓ := rLoc d) R) ∗ Pays (F := F) d X Lb R False) := by
  rw [pays_eq, reads_eq (ℓ := xLoc d) X, reads_eq (ℓ := lLoc d) Lb, reads_eq (ℓ := rLoc d) R]
  iintro ⟨⟨A1, A2⟩, ⟨B1, B2⟩, ⟨C1, C2⟩, HO⟩
  isplitl [A1 B1 C1]
  · isplitl [A1]; · iexact A1
    isplitl [B1] <;> iassumption
  isplitl [A2]; · iexact A2
  isplitl [B2]; · iexact B2
  isplitl [C2]; · iexact C2
  iapply (out_split (F := F) d X Lb R f); iexact HO

theorem collect :
    (iprop((Left (ℓ := xLoc d) X ∗ Left (ℓ := lLoc d) Lb ∗ Left (ℓ := rLoc d) R) ∗ Pays (F := F) d X Lb R True) : sProp 𝕄)
      ⊢ iprop((xLoc d ↦{fullShare} X) ∗ (lLoc d ↦{fullShare} Lb) ∗ (rLoc d ↦{fullShare} R)
        ∗ ∃ f : Buf (Elt F) (oLoc d), ⌜∀ n : Fin 120, RowOK X Lb R n fun p c => f (oix n p c)⌝ ∗ oLoc d ↦{fullShare} f) := by
  rw [pays_eq, reads_eq (ℓ := xLoc d) X, reads_eq (ℓ := lLoc d) Lb, reads_eq (ℓ := rLoc d) R]
  iintro ⟨⟨A1, B1, C1⟩, A2, B2, C2, HO⟩
  isplitl [A1 A2]
  · isplitl [A1] <;> iassumption
  isplitl [B1 B2]
  · isplitl [B1] <;> iassumption
  isplitl [C1 C2]
  · isplitl [C1] <;> iassumption
  iapply (out_join (F := F) d X Lb R); iexact HO

instance out_storable (L : grid0.Coords) (done : Prop) (t1 : Fin k0_t1_loop.trips) : BI.Storable (upEmb : UEmb _ 𝕄) (OutRow (F := F) d L X Lb R done t1) := by
  unfold OutRow
  split
  · haveI := fun (Y : S16x128.Idx → F .f32) (h1 : k0_cond1 L t1 = 1#1) => owns_storable (Ix := HIx 1) (Name := ℕ) (U := UU) (Lvl := ℕ) (Val := Elt F) (th d L) (mOq L t1 h1) fullShare Y
    infer_instance
  · infer_instance

instance tile_storable (L : grid0.Coords) (q : PosShare TreeShare) (done : Prop) : BI.Storable (upEmb : UEmb _ 𝕄) (TilePay (F := F) d L q X Lb R done) := by
  unfold TilePay
  infer_instance

end Pays

end Cert.Proof
-- ==== Proof.Launch.lean ====
/-
  The host's program around the call, and the launch.
-/
module

public import proofs.«01_k».proof.Proof.Deal
public import Idealize.ShloMosaic.Lib.Pipeline.Frame

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

open Cert.Proof.Lanes Cert.Proof.Place Cert.Proof.Chunk

variable {F : FTy → Type}

local notation "𝕄" => MT nD τ sig (HIx 1) (Elt F) ℕ UU ℕ

variable [FloatOps F]

/-! ## The host's operations around the call -/

/-- Before the call: the table of reciprocals. -/
def ops0 : List (HloOp τ sig (Elt F)) :=
  [StableHlo.nullary main_v0 (iotaInDim S2056 32 0),
    StableHlo.nullary main_c (constantI S_ 32 1#32),
    StableHlo.unary main_c main_v1 (broadcastInDim S2056 ![] bcast_S_S2056 : (⟨S_, .i32⟩ : BufTy).Contents (Elt F) → (⟨S2056, .i32⟩ : BufTy).Contents (Elt F)),
    StableHlo.binary main_v0 main_v1 main_v2 (maxsi : (⟨S2056, .i32⟩ : BufTy).Contents (Elt F) → (⟨S2056, .i32⟩ : BufTy).Contents (Elt F) → (⟨S2056, .i32⟩ : BufTy).Contents (Elt F)),
    StableHlo.unary main_v2 main_v3 (sitofp .f32 : (⟨S2056, .i32⟩ : BufTy).Contents (Elt F) → (⟨S2056, .f32⟩ : BufTy).Contents (Elt F)),
    StableHlo.nullary main_c_0 (constantI S_ 32 2048#32),
    StableHlo.unary main_c_0 main_v4 (broadcastInDim S2056 ![] bcast_S_S2056 : (⟨S_, .i32⟩ : BufTy).Contents (Elt F) → (⟨S2056, .i32⟩ : BufTy).Contents (Elt F)),
    StableHlo.binary main_v0 main_v4 main_v5 (cmpi .sle : (⟨S2056, .i32⟩ : BufTy).Contents (Elt F) → (⟨S2056, .i32⟩ : BufTy).Contents (Elt F) → (⟨S2056, .i1⟩ : BufTy).Contents (Elt F)),
    StableHlo.nullary main_cst (constant S_ .f32 0x3F800000#32),
    StableHlo.unary main_cst main_v6 (broadcastInDim S2056 ![] bcast_S_S2056 : (⟨S_, .f32⟩ : BufTy).Contents (Elt F) → (⟨S2056, .f32⟩ : BufTy).Contents (Elt F)),
    StableHlo.binary main_v6 main_v3 main_v7 (Host.divf : (⟨S2056, .f32⟩ : BufTy).Contents (Elt F) → (⟨S2056, .f32⟩ : BufTy).Contents (Elt F) → (⟨S2056, .f32⟩ : BufTy).Contents (Elt F)),
    StableHlo.nullary main_cst_1 (constant S_ .f32 0x00000000#32),
    StableHlo.TRef.unary (.of main_cst_1) main_call0.v0 id,
    StableHlo.TRef.unary main_call0.v0 main_call0.v1 (broadcastInDim S2056 ![] bcast_S_S2056),
    StableHlo.TRef.ternary (.of main_v5) (.of main_v7) main_call0.v1 main_call0.v2 select]

/-- After it: the rows put in the result's order. -/
def ops1 : List (HloOp τ sig (Elt F)) :=
  [StableHlo.reshape main_v9 main_v10 (rfl : (.f32 : EltTy) = .f32) shapeCasts_S120x16x128_S4x30x16x128,
    StableHlo.unary main_v10 main_v11 ((transpose S4x128x30x16 [0, 3, 1, 2] · transposes_S4x30x16x128_S4x128x30x16_0_3_1_2) : (⟨S4x30x16x128, .f32⟩ : BufTy).Contents (Elt F) → (⟨S4x128x30x16, .f32⟩ : BufTy).Contents (Elt F))]

theorem main_eq (d : Dev nD) : main (F := F) d = (StableHlo.seq ops0 >>= fun _ => (sc (F := F)).run d 0 >>= fun _ => StableHlo.seq ops1 >>= fun _ => pure ⟨⟩) := by
  unfold main fn_where.body ops0 ops1
  simp only [StableHlo.seq, bind_assoc, pure_bind]

/-- The table of reciprocals: `1 / max(i, 1)` up to `i = 2048`, zero after it. -/
def rcpV : S2056.Idx → F .f32 :=
  select (cmpi .sle (iotaInDim S2056 32 0) (broadcastInDim S2056 ![] bcast_S_S2056 (constantI S_ 32 2048#32)))
    (Host.divf (broadcastInDim S2056 ![] bcast_S_S2056 (constant S_ .f32 0x3F800000#32)) (sitofp .f32 (maxsi (iotaInDim S2056 32 0) (broadcastInDim S2056 ![] bcast_S_S2056 (constantI S_ 32 1#32)))))
    (broadcastInDim S2056 ![] bcast_S_S2056 (constant S_ .f32 0x00000000#32))

/-- The rows in the result's order. -/
def outV (f : S120x16x128.Idx → F .f32) : S4x128x30x16.Idx → F .f32 :=
  transpose S4x128x30x16 [0, 3, 1, 2] (shapeCast S4x30x16x128 f shapeCasts_S120x16x128_S4x30x16x128) transposes_S4x30x16x128_S4x128x30x16_0_3_1_2

variable (V : Valuation τ sig (Elt F))

theorem pre_rcp : StableHlo.after (ops0 (F := F)) V (Proc.devRef .tc main_v8) = rcpV (F := F) := by
  unfold ops0
  after_results
  rfl

theorem pre_x : StableHlo.after (ops0 (F := F)) V (Proc.devRef .tc main_arg0) = V (Proc.devRef .tc main_arg0) := by
  unfold ops0
  after_results

theorem pre_l : StableHlo.after (ops0 (F := F)) V (Proc.devRef .tc main_arg1) = V (Proc.devRef .tc main_arg1) := by
  unfold ops0
  after_results

theorem pre_m : StableHlo.after (ops0 (F := F)) V (Proc.devRef .tc main_arg2) = V (Proc.devRef .tc main_arg2) := by
  unfold ops0
  after_results

theorem post_out : StableHlo.after (ops1 (F := F)) V (Proc.devRef .tc main_v11) = outV (F := F) (V (Proc.devRef .tc main_v9)) := by
  unfold ops1
  after_results
  rfl

theorem post_x : StableHlo.after (ops1 (F := F)) V (Proc.devRef .tc main_arg0) = V (Proc.devRef .tc main_arg0) := by
  unfold ops1
  after_results

theorem post_l : StableHlo.after (ops1 (F := F)) V (Proc.devRef .tc main_arg1) = V (Proc.devRef .tc main_arg1) := by
  unfold ops1
  after_results

theorem post_m : StableHlo.after (ops1 (F := F)) V (Proc.devRef .tc main_arg2) = V (Proc.devRef .tc main_arg2) := by
  unfold ops1
  after_results

theorem sub0 : ∀ op ∈ ops0 (F := F), op.bufs ⊆ Pipeline.ucRefs τ sig := fun op h => Pipeline.sub_ucRefs op (List.forall_iff_forall_mem.1 (show List.Forall (fun op : HloOp τ sig (Elt F) => op.bufs ⊆ StableHlo.tcRefs τ sig) ops0 from
  ⟨StableHlo.nullary_bufs_sub .., StableHlo.nullary_bufs_sub .., StableHlo.unary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.unary_bufs_sub .., StableHlo.ternary_bufs_sub ..⟩) op h)

theorem sub1 : ∀ op ∈ ops1 (F := F), op.bufs ⊆ Pipeline.ucRefs τ sig := fun op h => Pipeline.sub_ucRefs op (List.forall_iff_forall_mem.1 (show List.Forall (fun op : HloOp τ sig (Elt F) => op.bufs ⊆ StableHlo.tcRefs τ sig) ops1 from
  ⟨StableHlo.reshape_bufs_sub .., StableHlo.unary_bufs_sub ..⟩) op h)

theorem fresh0 : ∀ op ∈ ops0 (F := F), op.fresh = ∅ := by
  intro op h
  unfold ops0 at h
  simp only [List.mem_cons, List.not_mem_nil, or_false] at h
  rcases h with rfl | rfl | rfl | rfl | rfl | rfl | rfl | rfl | rfl | rfl | rfl | rfl | rfl | rfl | rfl <;> rfl

theorem fresh1 : ∀ op ∈ ops1 (F := F), op.fresh = ∅ := by
  intro op h
  unfold ops1 at h
  simp only [List.mem_cons, List.not_mem_nil, or_false] at h
  rcases h with rfl | rfl <;> rfl

/-! ## The buffers around the call -/

abbrev x' : DevRef τ sig := Proc.devRef .tc (main_arg0 : Ref sig .tc)
abbrev l' : DevRef τ sig := Proc.devRef .tc (main_arg1 : Ref sig .tc)
abbrev m' : DevRef τ sig := Proc.devRef .tc (main_arg2 : Ref sig .tc)
abbrev r' : DevRef τ sig := Proc.devRef .tc (main_v8 : Ref sig .tc)
abbrev o' : DevRef τ sig := Proc.devRef .tc (main_v9 : Ref sig .tc)
abbrev w' : DevRef τ sig := Proc.devRef .tc (main_v11 : Ref sig .tc)

/-- What the call reads and writes. -/
abbrev SCall : Finset (DevRef τ sig) := {x', l', r', o'}
/-- What the claim is about. -/
abbrev SEnd : Finset (DevRef τ sig) := {x', l', m', w'}

theorem mem_uc (r : Ref sig .tc) (h : (Proc.devRef (τ := τ) .tc r).isScoped = false) : Proc.devRef .tc r ∈ Pipeline.ucRefs τ sig :=
  Finset.mem_filter.mpr ⟨StableHlo.devRef_mem_tcRefs r, by rw [h]; exact Bool.false_ne_true⟩

theorem SCall_sub : SCall ⊆ Pipeline.ucRefs τ sig := by
  intro b hb
  simp only [SCall, Finset.mem_insert, Finset.mem_singleton] at hb
  rcases hb with rfl | rfl | rfl | rfl <;> exact mem_uc _ rfl

theorem SEnd_sub : SEnd ⊆ Pipeline.ucRefs τ sig := by
  intro b hb
  simp only [SEnd, Finset.mem_insert, Finset.mem_singleton] at hb
  rcases hb with rfl | rfl | rfl | rfl <;> exact mem_uc _ rfl

theorem held_call (d : Dev nD) :
    (held (SparseCore.T d) SCall V : sProp 𝕄) = iprop((xLoc d ↦{fullShare} V x') ∗ (lLoc d ↦{fullShare} V l') ∗ (rLoc d ↦{fullShare} V r') ∗ oLoc d ↦{fullShare} V o') := by
  unfold held SCall
  rw [SparseCore.bigSep_insert' (by decide), SparseCore.bigSep_insert' (by decide), SparseCore.bigSep_insert' (by decide), bigSep_singleton]

abbrev mLoc (d : Dev nD) : Loc nD τ sig := (SparseCore.T d).loc main_arg2
abbrev wLoc (d : Dev nD) : Loc nD τ sig := (SparseCore.T d).loc main_v11

theorem held_end (d : Dev nD) :
    (held (SparseCore.T d) SEnd V : sProp 𝕄) = iprop((xLoc d ↦{fullShare} V x') ∗ (lLoc d ↦{fullShare} V l') ∗ (mLoc d ↦{fullShare} V m') ∗ wLoc d ↦{fullShare} V w') := by
  unfold held SEnd
  rw [SparseCore.bigSep_insert' (by decide), SparseCore.bigSep_insert' (by decide), SparseCore.bigSep_insert' (by decide), bigSep_singleton]

/-! ## The payloads and the launch theorem's obligations -/

section Claim

variable (m : (ℓ : Loc nD τ sig) → Buf (Elt F) ℓ) (ρ : Dev nD → PrngReg)

/-- What tile `(c, s)` is handed and hands back. -/
def tPay (done : Prop) (d : Dev nD) (c : Fin (grid0.bound 0)) (s : Fin (grid0.bound 1)) : sProp 𝕄 :=
  TilePay (F := F) d (coordsV c s) (tq2 c s) (m (xLoc d)) (m (lLoc d)) (rcpV (F := F)) done

instance tPay_storable (done : Prop) (d : Dev nD) (c : Fin (grid0.bound 0)) (s : Fin (grid0.bound 1)) : BI.Storable (upEmb : UEmb _ 𝕄) (tPay (F := F) m done d c s) := by
  unfold tPay
  exact tile_storable ..

/-- What SparseCore `c` is handed and hands back. -/
def cPay (done : Prop) (d : Dev nD) (c : Fin (grid0.bound 0)) : sProp 𝕄 := bigSep Finset.univ fun s : Fin (grid0.bound 1) => tPay (F := F) m done d c s

instance cPay_storable (done : Prop) (d : Dev nD) (c : Fin (grid0.bound 0)) : BI.Storable (upEmb : UEmb _ 𝕄) (cPay (F := F) m done d c) := by
  unfold cPay
  infer_instance

def P : (K (F := F)).Pay (nD := nD) (Val := Elt F) (Name := ℕ) (U := UU) where
  st := fun q d c => match q with | 0 => cPay (F := F) m False d c
  dn := fun q d c => match q with | 0 => cPay (F := F) m True d c
  go := fun q d c i => match q with | 0 => tPay (F := F) m False d c i
  td := fun q d c i => match q with | 0 => tPay (F := F) m True d c i
  x := fun _ _ => iprop(emp)

instance P_storable : (P (F := F) m).IsStorable where
  st q d c := match q with | 0 => cPay_storable (F := F) m False d c
  dn q d c := match q with | 0 => cPay_storable (F := F) m True d c
  go q d c i := match q with | 0 => tPay_storable (F := F) m False d c i
  td q d c i := match q with | 0 => tPay_storable (F := F) m True d c i

theorem defs₀_vector (c : Fin τ.nSC) (s : Fin τ.nSub) :
    defs₀ (F := F) (.scVector c s) 0 () = SparseCore.onTile hcore0 hsub0 (fun c s => bSC (F := F) (coordsV c s)) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) (hLb : ∀ d x, (m (lLoc d) x : BitVec 32).toNat < 16) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body (F := F) d (coordsV ⟨_, hc.1⟩ ⟨_, hc.2⟩) O W (tq2 c i) (m (xLoc d)) (m (lLoc d)) (rcpV (F := F)) (hLb d) hF hO).trans (wp_mono frame _ _ fun _ => obl_post)

theorem vecSplit : (K (F := F)).VecSplit' (P m) 0 := by
  intro d c
  show cPay (F := F) m False d c ⊢ |={Set.univ}=> iprop(cPay (F := F) m False d c ∗ (cPay (F := F) m True d c -∗ cPay (F := F) m True d c))
  iintro H; imodintro
  isplitl [H]; · iexact H
  iintro H; iexact H

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## The host's program -/

theorem st_eq (d : Dev nD) : (bigSep Finset.univ fun c : Fin ((K (F := F)).nCore 0) => (P m).st 0 d c) = Pays (F := F) d (m (xLoc d)) (m (lLoc d)) (rcpV (F := F)) False := by
  show (bigSep Finset.univ fun c : Fin (grid0.bound 0) => cPay (F := F) m False d c) = _
  unfold cPay tPay Pays
  rfl
theorem dn_eq (d : Dev nD) : (bigSep Finset.univ fun c : Fin ((K (F := F)).nCore 0) => (P m).dn 0 d c) = Pays (F := F) d (m (xLoc d)) (m (lLoc d)) (rcpV (F := F)) True := by
  show (bigSep Finset.univ fun c : Fin (grid0.bound 0) => cPay (F := F) m True d c) = _
  unfold cPay tPay Pays
  rfl

/-- The contents before the call and after it. -/
def V0 (d : Dev nD) : Valuation τ sig (Elt F) := fun b => m (d, b)
def V1 (d : Dev nD) : Valuation τ sig (Elt F) := StableHlo.after (ops0 (F := F)) (V0 m d)
def V2 (d : Dev nD) (f : S120x16x128.Idx → F .f32) : Valuation τ sig (Elt F) := Function.update (V1 m d) o' f

theorem V1_x (d : Dev nD) : V1 m d x' = m (xLoc d) := pre_x _
theorem V1_l (d : Dev nD) : V1 m d l' = m (lLoc d) := pre_l _
theorem V1_m (d : Dev nD) : V1 m d m' = m (mLoc d) := pre_m _
theorem V1_r (d : Dev nD) : V1 m d r' = rcpV (F := F) := pre_rcp _
theorem V2_o (d : Dev nD) (f : S120x16x128.Idx → F .f32) : V2 m d f o' = f := Function.update_self ..
theorem V2_x (d : Dev nD) (f : S120x16x128.Idx → F .f32) : V2 m d f x' = m (xLoc d) := (Function.update_of_ne (show x' ≠ o' by decide) _ _).trans (V1_x m d)
theorem V2_l (d : Dev nD) (f : S120x16x128.Idx → F .f32) : V2 m d f l' = m (lLoc d) := (Function.update_of_ne (show l' ≠ o' by decide) _ _).trans (V1_l m d)
theorem V2_m (d : Dev nD) (f : S120x16x128.Idx → F .f32) : V2 m d f m' = m (mLoc d) := (Function.update_of_ne (show m' ≠ o' by decide) _ _).trans (V1_m m d)
theorem V2_r (d : Dev nD) (f : S120x16x128.Idx → F .f32) : V2 m d f r' = rcpV (F := F) := (Function.update_of_ne (show r' ≠ o' by decide) _ _).trans (V1_r m d)

/-- What is known of the kernel's result. -/
def OutOK (d : Dev nD) (f : S120x16x128.Idx → F .f32) : Prop :=
  ∀ n : Fin 120, RowOK (m (xLoc d)) (m (lLoc d)) (rcpV (F := F)) n fun p c => f (oix n p c)

/-- What the host's program leaves. -/
def FIN (d : Dev nD) : sProp 𝕄 :=
  iprop(∃ f : S120x16x128.Idx → F .f32, ⌜OutOK m d f⌝ ∗ (xLoc d ↦{fullShare} m (xLoc d)) ∗ (lLoc d ↦{fullShare} m (lLoc d)) ∗ (mLoc d ↦{fullShare} m (mLoc d)) ∗ wLoc d ↦{fullShare} outV (F := F) f)

theorem before_call (d : Dev nD) : (held (SparseCore.T d) (Pipeline.ucRefs τ sig) (V1 m d) : sProp 𝕄)
    ⊢ iprop(held (SparseCore.T d) (Pipeline.ucRefs τ sig \ SCall) (V1 m d)
        ∗ (Left (ℓ := xLoc d) (m (xLoc d)) ∗ Left (ℓ := lLoc d) (m (lLoc d)) ∗ Left (ℓ := rLoc d) (rcpV (F := F)))
        ∗ Pays (F := F) d (m (xLoc d)) (m (lLoc d)) (rcpV (F := F)) False) := by
  rw [StableHlo.held_sub_split _ SCall_sub, held_call, V1_x, V1_l, V1_r]
  iintro ⟨Hc, Hr⟩
  isplitl [Hr]; · iexact Hr
  iapply (deal (F := F) d (m (xLoc d)) (m (lLoc d)) (rcpV (F := F)) _); iexact Hc

theorem after_call (d : Dev nD) : (iprop(held (SparseCore.T d) (Pipeline.ucRefs τ sig \ SCall) (V1 m d)
        ∗ (Left (ℓ := xLoc d) (m (xLoc d)) ∗ Left (ℓ := lLoc d) (m (lLoc d)) ∗ Left (ℓ := rLoc d) (rcpV (F := F)))
        ∗ Pays (F := F) d (m (xLoc d)) (m (lLoc d)) (rcpV (F := F)) True) : sProp 𝕄)
    ⊢ iprop(∃ f, ⌜OutOK m d f⌝ ∗ held (SparseCore.T d) (Pipeline.ucRefs τ sig) (V2 m d f)) := by
  iintro ⟨Hr, Hl, Hp⟩
  ihave H := (collect (F := F) d (m (xLoc d)) (m (lLoc d)) (rcpV (F := F))) $$ [Hl Hp]
  · isplitl [Hl] <;> iassumption
  icases H with ⟨Hx, Hl, HR, %f, %hf, Ho⟩
  iexists f
  isplitr
  · ipureintro; exact hf
  rw [StableHlo.held_sub_split _ SCall_sub, held_call, V2_x, V2_l, V2_r, V2_o]
  isplitr [Hr]
  · isplitl [Hx]; · iexact Hx
    isplitl [Hl]; · iexact Hl
    isplitl [HR] <;> iassumption
  · iapply (Entails.of_eq (StableHlo.held_congr (c := SparseCore.T d) (S := Pipeline.ucRefs τ sig \ SCall) (V := V1 m d) (V' := V2 m d f) fun b hb => (Function.update_of_ne (fun e => (Finset.mem_sdiff.mp hb).2 (by rw [e]; decide)) _ _).symm))
    iexact Hr

theorem at_end (d : Dev nD) (f : S120x16x128.Idx → F .f32) : (held (SparseCore.T d) (Pipeline.ucRefs τ sig) (StableHlo.after (ops1 (F := F)) (V2 m d f)) : sProp 𝕄)
    ⊢ iprop((xLoc d ↦{fullShare} m (xLoc d)) ∗ (lLoc d ↦{fullShare} m (lLoc d)) ∗ (mLoc d ↦{fullShare} m (mLoc d)) ∗ wLoc d ↦{fullShare} outV (F := F) f) := by
  rw [StableHlo.held_sub_split _ SEnd_sub, held_end, post_x, post_l, post_m, post_out, V2_o]
  rw [show V2 m d f (Proc.devRef .tc main_arg0) = m (xLoc d) from V2_x m d f, show V2 m d f (Proc.devRef .tc main_arg1) = m (lLoc d) from V2_l m d f, show V2 m d f (Proc.devRef .tc main_arg2) = m (mLoc d) from V2_m m d f]
  iintro ⟨H, -⟩
  iexact H

/-- The same, of the thread as the straight-line rule writes it. -/
theorem before_call' (d : Dev nD) : (held (d.tc : Thread nD τ) (Pipeline.ucRefs τ sig) (StableHlo.after (ops0 (F := F)) (V0 m d)) : sProp 𝕄)
    ⊢ iprop(held (SparseCore.T d) (Pipeline.ucRefs τ sig \ SCall) (V1 m d)
        ∗ (Left (ℓ := xLoc d) (m (xLoc d)) ∗ Left (ℓ := lLoc d) (m (lLoc d)) ∗ Left (ℓ := rLoc d) (rcpV (F := F)))
        ∗ Pays (F := F) d (m (xLoc d)) (m (lLoc d)) (rcpV (F := F)) False) := before_call (F := F) m d

theorem at_end' (d : Dev nD) (f : S120x16x128.Idx → F .f32) : (held (d.tc : Thread nD τ) (Pipeline.ucRefs τ sig) (StableHlo.after (ops1 (F := F)) (V2 m d f)) : sProp 𝕄)
    ⊢ iprop((xLoc d ↦{fullShare} m (xLoc d)) ∗ (lLoc d ↦{fullShare} m (lLoc d)) ∗ (mLoc d ↦{fullShare} m (mLoc d)) ∗ wLoc d ↦{fullShare} outV (F := F) f) := at_end (F := F) m d f

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = held (SparseCore.T d) (Pipeline.ucRefs τ sig) (V0 m d) from Pipeline.unscopedBufs_held d (V0 m d), main_eq]
  iintro ⟨#Hctx, Hst, ⟨Hb, Hheld, Hts, -⟩, -⟩
  iapply (StableHlo.wp_seq 𝒱 none Set.univ d (Pipeline.ucRefs τ sig) _ (ops0 (F := F)) sub0 fresh0 (V0 m d)) $$ [Hb Hheld]
  · isplitl [Hb] <;> iassumption
  iintro ⟨Hb, Hheld⟩
  ihave H := (before_call' (F := F) m d) $$ Hheld
  icases H with ⟨Hr, Hl, Hp⟩
  rw [wp_bind]
  iapply ((K (F := F)).wp_run (D (F := F)) 𝒱 (EH := EH) (P := P m) κ d 0) $$ [Hst Hp Hb Hr Hl Hts]
  isplitr; · iexact Hctx
  isplitl [Hst]; · iexact Hst
  isplitl [Hp]
  · rw [st_eq]; iexact Hp
  iintro ⟨Hst, Hdn⟩
  ihave Hp := (Entails.of_eq (dn_eq m d)) $$ Hdn
  ihave H := (after_call (F := F) m d) $$ [Hr Hl Hp]
  · isplitl [Hr]; · iexact Hr
    isplitl [Hl] <;> iassumption
  icases H with ⟨%f, %hf, Hheld⟩
  iapply (StableHlo.wp_seq 𝒱 none Set.univ d (Pipeline.ucRefs τ sig) _ (ops1 (F := F)) sub1 fresh1 (V2 m d f)) $$ [Hb Hheld]
  · isplitl [Hb] <;> iassumption
  iintro ⟨Hb, Hheld⟩
  ihave H := (at_end' (F := F) m d f) $$ Hheld
  rw [wp_pure]
  imodintro
  isplitl [Hst]; · iexact Hst
  isplitr [Hb Hts]
  · unfold FIN
    iexists f
    isplitr
    · ipureintro; exact hf
    iexact H
  isplitl [Hb] <;> iassumption

/-- What the run's memory is known to be. -/
def fq (d : Dev nD) (s' : Phys nD τ sig (Elt F)) : Prop :=
  ∃ f, OutOK m d f ∧ s'.mem.mem (xLoc d) = m (xLoc d) ∧ s'.mem.mem (lLoc d) = m (lLoc d) ∧ s'.mem.mem (mLoc d) = m (mLoc d) ∧ s'.mem.mem (wLoc d) = outV (F := F) f

theorem hfin (d : Dev nD) (s' : Phys nD τ sig (Elt F)) : iprop(FIN m d ∗ SI s') ⊢ (⌜fq m d s'⌝ : sProp 𝕄) := by
  unfold FIN
  iintro ⟨⟨%f, %hf, Hx, Hl, Hm, Hw⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (persistent_entails_right (SI_pointsTo_agree (st := s') (ℓ := lLoc d) (I := Finset.univ) (q := fullShare) (f := m (lLoc d)))) $$ [HSI Hl]
  · isplitl [HSI] <;> iassumption
  icases H with ⟨%h2, HSI, -⟩
  ihave H := (persistent_entails_right (SI_pointsTo_agree (st := s') (ℓ := mLoc d) (I := Finset.univ) (q := fullShare) (f := m (mLoc d)))) $$ [HSI Hm]
  · isplitl [HSI] <;> iassumption
  icases H with ⟨%h3, HSI, -⟩
  ihave H := (SI_pointsTo_agree (st := s') (ℓ := wLoc d) (I := Finset.univ) (q := fullShare) (f := outV (F := F) f)) $$ [HSI Hw]
  · isplitl [HSI] <;> iassumption
  icases H with %h4
  ipureintro
  exact ⟨f, hf, funext fun i => h1 i (Finset.mem_univ i), funext fun i => h2 i (Finset.mem_univ i), funext fun i => h3 i (Finset.mem_univ i), funext fun i => h4 i (Finset.mem_univ i)⟩

def QC : PUnit × MemSt nD τ sig (Elt F) → Prop := fun r =>
  (∀ d : Dev nD, ∃ f, OutOK m d f ∧ r.2.mem (xLoc d) = m (xLoc d) ∧ r.2.mem (lLoc d) = m (lLoc d) ∧ r.2.mem (mLoc d) = m (mLoc d) ∧ r.2.mem (wLoc d) = outV (F := F) f)
    ∧ r.2.sem = fun _ => 0

/-- The program's run, from any memory whose labels are parts. -/
theorem run_main [∀ e, Nonempty (Elt F e)] (hLb : ∀ d x, (m (lLoc d) x : BitVec 32).toNat < 16) :
    θ_run (Cert.KernelIdeal.defs (F := F)) (Cert.KernelIdeal.threads (F := F)) ⟨m, fun _ => 0, ρ⟩ (QC m) :=
  haveI : (EH : Emb UH (MT nD τ sig (HIx 1) (Elt F) ℕ UU ℕ)).LandsIn upEmb := by unfold EH; infer_instance
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hLb)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Claim

end Cert.Proof
-- ==== Proof.Frames.lean ====
/-
  The frames: what the precondition gives, and the claims that the programs run and leave their arguments.
-/
module

public import proofs.«01_k».proof.Defs
public import proofs.«01_k».proof.Proof.Launch
public import proofs.«01_k».proof.Proof.Gen.Kernel
public import proofs.«01_k».proof.Proof.Gen.ReferenceIdeal
public import proofs.«01_k».proof.Proof.Gen.Pre_labels_in_range
public import proofs.«01_k».proof.Proof.Gen.Pre_in_range_and_valid
public import Idealize.ShloMosaic.Lib.ReduceAll

@[expose] public section

noncomputable section

namespace Cert.Proof

open Idealize.ShloMosaic Idealize.SL.Sem

theorem andi_ofBool (p q : Bool) : IntOp.andi (BitVec.ofBool p) (BitVec.ofBool q) = BitVec.ofBool (p && q) := by
  cases p <;> cases q <;> decide

theorem ofBool_one (p : Bool) : (BitVec.ofBool p = 1#1) ↔ p = true := by cases p <;> decide

theorem and_one : ∀ a b : BitVec 1, IntOp.andi a b = 1#1 → a = 1#1 ∧ b = 1#1 := by decide

theorem part_of_word (v : BitVec 32) (e : IntOp.andi (IntOp.cmpi .sge v 0#32) (IntOp.cmpi .slt v 16#32) = 1#1) : v.toNat < 16 := by
  simp only [IntOp.cmpi, andi_ofBool, ofBool_one, Bool.and_eq_true, BitVec.sle_eq_decide, BitVec.slt_eq_decide,
    decide_eq_true_eq, BitVec.toInt_eq_toNat_cond, BitVec.toNat_ofNat, Nat.reducePow, Nat.reduceMod] at e
  omega

/-- The frames' precondition: every label is a part. -/
theorem parts_of_pre {F : FTy → Type} [FloatOps F] (x0 : FVec F Cert.Pre_labels_in_range.S4x128x30x2048 .f32) (x1 : IVec Cert.Pre_labels_in_range.S4x30x2048 32) (x2 : IVec Cert.Pre_labels_in_range.S4x30x2048 1)
    (h : Cert.Pre_labels_in_range.fn (F := F) x0 x1 x2 = fun _ => 1#1) (i : Cert.Pre_labels_in_range.S4x30x2048.Idx) : (x1 i).toNat < 16 := by
  have e := congrFun h (fun a => a.elim0)
  dsimp only [Cert.Pre_labels_in_range.fn] at e
  exact part_of_word _ (Host.reduce_andi_all _ _ _ _ _ e i)

/-- The equation's precondition: every label is a part and every mask word is one. -/
theorem ok_of_pre {F : FTy → Type} [FloatOps F] (x0 : FVec F Cert.Pre_in_range_and_valid.S4x128x30x2048 .f32) (x1 : IVec Cert.Pre_in_range_and_valid.S4x30x2048 32) (x2 : IVec Cert.Pre_in_range_and_valid.S4x30x2048 1)
    (h : Cert.Pre_in_range_and_valid.fn (F := F) x0 x1 x2 = fun _ => 1#1) : (∀ i, (x1 i).toNat < 16) ∧ ∀ i, x2 i = 1#1 := by
  have e := congrFun h (fun a => a.elim0)
  dsimp only [Cert.Pre_in_range_and_valid.fn] at e
  obtain ⟨e1, e2⟩ := and_one _ _ e
  exact ⟨fun i => part_of_word _ (Host.reduce_andi_all _ _ _ _ _ e1 i), fun i => Host.reduce_andi_all _ _ _ _ _ e2 i⟩

theorem frame_kernel : Cert.quiescent_Kernel := fun m ρ hpre =>
  (θ_run Cert.KernelIdeal.defs _ _).mono (fun _ h => ⟨fun c => by obtain ⟨f, -, h0, h1, h2, -⟩ := h.1 c; exact ⟨h0, h1, h2⟩, h.2⟩)
    (run_main (F := Bits) m ρ fun d x => parts_of_pre _ _ _ (hpre d) x)

theorem frame_kernelIdeal : Cert.quiescent_KernelIdeal := fun m ρ hpre =>
  (θ_run Cert.KernelIdeal.defs _ _).mono (fun _ h => ⟨fun c => by obtain ⟨f, -, h0, h1, h2, -⟩ := h.1 c; exact ⟨h0, h1, h2⟩, h.2⟩)
    (run_main (F := Ideal) m ρ fun d x => parts_of_pre _ _ _ (hpre d) x)

theorem frame_kernelIdeal_valid : Cert.quiescent_KernelIdeal_pre_in_range_and_valid := fun m ρ hpre =>
  (θ_run Cert.KernelIdeal.defs _ _).mono (fun _ h => ⟨fun c => by obtain ⟨f, -, h0, h1, h2, -⟩ := h.1 c; exact ⟨h0, h1, h2⟩, h.2⟩)
    (run_main (F := Ideal) m ρ fun d x => (ok_of_pre _ _ _ (hpre d)).1 x)

end Cert.Proof

end
-- ==== Proof.RefFrame.lean ====
/-
  The reference's frame: every operation runs, and the arguments are left alone.
-/
module

public import proofs.«01_k».proof.Defs
public import proofs.«01_k».proof.Proof.Gen.ReferenceIdeal.Run
public import Idealize.ShloMosaic.Lib.Claim

@[expose] public section

noncomputable section

namespace Cert.Proof

open Idealize.ShloMosaic Idealize.ShloMosaic.TcCoe Idealize.SL.Sem Idealize.ShloMosaic.StableHlo

theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

end Cert.Proof

end
-- ==== Proof.Sums.lean ====
/-
  A row's sums and maxima as extended reals: the tokens of each part, and the padding.
-/
module

public import proofs.«01_k».proof.Proof.BodyG
public import Idealize.ShloMosaic.PureOps.Ideal.Laws

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

open Cert.Proof.Lanes Cert.Proof.Place Cert.Proof.Chunk

variable {F : FTy → Type}

local notation "𝕄" => MT nD τ sig (HIx 1) (Elt F) ℕ UU ℕ

variable [FloatOps F]

/-! ## A chunk's slots, added up and compared -/

section Slots
variable {lab : Fin 512 → ℕ} {ids labs : S768.Idx → BitVec 32}

/-- What a slot below the total holds, by its number. -/
theorem good_at (h : Good lab ids labs) (t : ℕ) (ht : t < st lab 16) :
    ∃ p < 16, st lab p ≤ t ∧ t < st lab p + ceil lab p ∧ wordAt labs t = p
      ∧ ((wordAt ids t = 512 ∧ st lab p + hist lab p ≤ t) ∨ ∃ q : Fin 512, lab q = p ∧ t = pos lab q ∧ wordAt ids t = q.val) := by
  have h752 := st_le lab h.1 16 le_rfl
  have h768 : t < 768 := by omega
  obtain ⟨p, hp, h1, h2, h3, h4⟩ := h.slot (slot ⟨t, h768⟩) ht
  refine ⟨p, hp, h1, h2, ?_, ?_⟩
  · unfold wordAt; rw [dif_pos h768, h3, BitVec.toNat_ofNat]; omega
  · unfold wordAt; rw [dif_pos h768]
    rcases h4 with ⟨e, h5⟩ | ⟨q, e1, e2, e3⟩
    · exact Or.inl ⟨by rw [e]; rfl, h5⟩
    · refine Or.inr ⟨q, e1, e2, ?_⟩
      have := q.isLt
      rw [e3, BitVec.toNat_ofNat]; omega

/-- The slots of label `p` are its segment. -/
theorem seg_filter (h : Good lab ids labs) (p : ℕ) (hp : p < 16) :
    (Finset.range (st lab 16)).filter (fun t => wordAt labs t = p) = Finset.Ico (st lab p) (st lab p + ceil lab p) := by
  ext t
  rw [Finset.mem_filter, Finset.mem_range, Finset.mem_Ico]
  constructor
  · rintro ⟨h1, h2⟩
    obtain ⟨p', _, h3, h4, h5, _⟩ := good_at h t h1
    have e : p' = p := h5.symm.trans h2
    subst e; exact ⟨h3, h4⟩
  · rintro ⟨h1, h2⟩
    have hm : st lab (p + 1) ≤ st lab 16 := st_mono lab (by omega)
    rw [st_succ] at hm
    obtain ⟨p', _, h3, h4, h5, _⟩ := good_at h t (by omega)
    exact ⟨by omega, h5.trans (seg_unique lab h.1 h3 h4 h1 h2)⟩

/-- The number of a token's slot names the token. -/
theorem id_pos (h : Good lab ids labs) (q : Fin 512) : wordAt ids (pos lab q) = q.val := by
  have hp := pos_lt' lab h.1 q
  have e := (h.2.2 q q.isLt (slot ⟨pos lab q, by omega⟩) rfl).1
  have := q.isLt
  unfold wordAt; rw [dif_pos (by omega), e, BitVec.toNat_ofNat]; omega

/-- A slot behind the tokens of its segment is padding. -/
theorem id_pad (h : Good lab ids labs) (p : ℕ) (hp : p < 16) (t : ℕ) (h1 : st lab p + hist lab p ≤ t) (h2 : t < st lab p + ceil lab p) : wordAt ids t = 512 := by
  have hm : st lab (p + 1) ≤ st lab 16 := st_mono lab (by omega)
  rw [st_succ] at hm
  have h752 := st_le lab h.1 16 le_rfl
  have e := (h.2.1 p hp (slot ⟨t, by omega⟩) h1 h2).1
  unfold wordAt; rw [dif_pos (by omega), e]; rfl

/-- Sixteen slots of one group have one label. -/
theorem lab_group (h : Good lab ids labs) (v j : ℕ) (hv : 16 * v < st lab 16) (hj : j < 16) : wordAt labs (16 * v + j) = wordAt labs (16 * v) := by
  have h752 := st_le lab h.1 16 le_rfl
  obtain ⟨u, hu⟩ := st_dvd lab 16
  have h768 : 16 * v + j < 768 := by omega
  unfold wordAt
  rw [dif_pos h768, dif_pos (show 16 * v < 768 by omega)]
  exact congrArg BitVec.toNat (h.group _ _ v hv (show (16 * v + j) / 16 = v by omega) (show (16 * v) / 16 = v by omega))

/-- The sum over a label's slots: its tokens' values and the padding's. -/
theorem seg_sum {M : Type} [AddCommMonoid M] (h : Good lab ids labs) (p : ℕ) (hp : p < 16) (G : ℕ → M) :
    (∑ t ∈ Finset.range (st lab 16), if wordAt labs t = p then G (wordAt ids t) else 0)
      = (∑ q : Fin 512, if lab q = p then G q.val else 0) + (ceil lab p - hist lab p) • G 512 := by
  rw [← Finset.sum_filter, seg_filter h p hp, ← Finset.sum_Ico_consecutive _ (Nat.le_add_right (st lab p) (hist lab p)) (Nat.add_le_add_left (hist_le_ceil lab p) _)]
  congr 1
  · rw [← pos_image lab h.1 p, Finset.sum_image (fun a _ b _ e => pos_inj lab h.1 e), ← Finset.sum_filter]
    exact Finset.sum_congr rfl fun q _ => by rw [id_pos h q]
  · rw [Finset.sum_congr rfl (g := fun _ => G 512) fun t ht => by
      rw [Finset.mem_Ico] at ht
      rw [id_pad h p hp t ht.1 ht.2], Finset.sum_const, Nat.card_Ico]
    congr 1; omega

/-- A bound of a label's slots is a bound of its tokens, where it bounds the padding. -/
theorem seg_bound (h : Good lab ids labs) (p : ℕ) (hp : p < 16) (G : ℕ → EReal) (a : EReal) (ha : G 512 ≤ a) :
    (∀ t < st lab 16, wordAt labs t = p → G (wordAt ids t) ≤ a) ↔ ∀ q : Fin 512, lab q = p → G q.val ≤ a := by
  constructor
  · intro hb q hq
    have hi := (seg_filter h p hp).symm ▸ (Finset.mem_Ico.2 ⟨(by have := pos_lt lab h.1 q; rw [hq] at this; unfold pos; rw [hq]; omega), by
      have := pos_lt lab h.1 q; rw [hq] at this; have := hist_le_ceil lab p; omega⟩ : pos lab q ∈ Finset.Ico (st lab p) (st lab p + ceil lab p))
    rw [Finset.mem_filter, Finset.mem_range] at hi
    have := hb _ hi.1 hi.2
    rwa [id_pos h q] at this
  · intro hb t ht he
    obtain ⟨p', _, _, _, h5, h6⟩ := good_at h t ht
    rcases h6 with ⟨e, _⟩ | ⟨q, e1, _, e3⟩
    · rw [e]; exact ha
    · rw [e3]; exact hb q (e1.trans (h5.symm.trans he))

end Slots

/-! ## The state after a chunk, as extended reals -/

section Acc
variable (D : S128x529.Idx → Ideal .f32)

theorem zS_ideal : (zS : Ideal .f32) = 0 := Ideal.ofBits_zero_f32

theorem run_sum (ids : ℕ → ℕ) (c : Fin 128) : ∀ n, run (F := Ideal) fS zS D ids c n = ∑ j ∈ Finset.range n, (colAt D c (ids j) : EReal)
  | 0 => by rw [Finset.range_zero, Finset.sum_empty]; exact zS_ideal
  | n + 1 => by rw [Finset.sum_range_succ, ← run_sum ids c n]; rfl

theorem run_bound (ids : ℕ → ℕ) (c : Fin 128) (a : EReal) (ha : (zM : Ideal .f32) ≤ a) : ∀ n, (run (F := Ideal) fM zM D ids c n ≤ a ↔ ∀ j < n, (colAt D c (ids j) : EReal) ≤ a)
  | 0 => ⟨fun _ j hj => absurd hj (Nat.not_lt_zero j), fun _ => ha⟩
  | n + 1 => by
    have e : run (F := Ideal) fM zM D ids c (n + 1) = max (run (F := Ideal) fM zM D ids c n : EReal) (colAt D c (ids n)) := rfl
    rw [e, max_le_iff, run_bound ids c a ha n]
    constructor
    · rintro ⟨h1, h2⟩ j hj
      rcases Nat.lt_succ_iff_lt_or_eq.1 hj with h | h
      · exact h1 j h
      · rw [h]; exact h2
    · intro h; exact ⟨fun j hj => h j (by omega), h n (by omega)⟩

variable (ids labs : S768.Idx → BitVec 32)

theorem acc_sum (S : Fin 16 → Fin 128 → Ideal .f32) (p : Fin 16) (c : Fin 128) : ∀ m, (∀ v < m, ∀ j < 16, wordAt labs (16 * v + j) = wordAt labs (16 * v)) →
    accN (F := Ideal) fS zS D ids labs S m p c = (S p c : EReal) + ∑ t ∈ Finset.range (16 * m), if wordAt labs t = p.val then (colAt D c (wordAt ids t) : EReal) else 0
  | 0, _ => by rw [Nat.mul_zero, Finset.range_zero, Finset.sum_empty, add_zero]; rfl
  | m + 1, hg => by
    have ih := acc_sum S p c m fun v hv => hg v (by omega)
    rw [Nat.mul_succ, Finset.sum_range_add, ← add_assoc, ← ih]
    show (if p.val = wordAt labs (16 * m) then _ else _) = _
    by_cases hp : p.val = wordAt labs (16 * m)
    · rw [if_pos hp]
      show (_ : EReal) + run (F := Ideal) fS zS D (fun j => wordAt ids (16 * m + j)) c 16 = _
      rw [run_sum]
      congr 1
      refine Finset.sum_congr rfl fun j hj => ?_
      rw [if_pos ((hg m (by omega) j (Finset.mem_range.1 hj)).trans hp.symm)]
    · rw [if_neg hp, Finset.sum_eq_zero, add_zero]
      intro j hj
      rw [if_neg]
      intro e
      exact hp (e.symm.trans (hg m (by omega) j (Finset.mem_range.1 hj)))

theorem acc_bound (S : Fin 16 → Fin 128 → Ideal .f32) (p : Fin 16) (c : Fin 128) (a : EReal) (ha : (zM : Ideal .f32) ≤ a) : ∀ m, (∀ v < m, ∀ j < 16, wordAt labs (16 * v + j) = wordAt labs (16 * v)) →
    (accN (F := Ideal) fM zM D ids labs S m p c ≤ a ↔ (S p c : EReal) ≤ a ∧ ∀ t < 16 * m, wordAt labs t = p.val → (colAt D c (wordAt ids t) : EReal) ≤ a)
  | 0, _ => ⟨fun h => ⟨h, fun t ht => absurd ht (by omega)⟩, fun h => h.1⟩
  | m + 1, hg => by
    have ih := acc_bound S p c a ha m fun v hv => hg v (by omega)
    have split : (∀ t < 16 * (m + 1), wordAt labs t = p.val → (colAt D c (wordAt ids t) : EReal) ≤ a)
        ↔ (∀ t < 16 * m, wordAt labs t = p.val → (colAt D c (wordAt ids t) : EReal) ≤ a) ∧ ∀ j < 16, wordAt labs (16 * m + j) = p.val → (colAt D c (wordAt ids (16 * m + j)) : EReal) ≤ a := by
      constructor
      · intro h; exact ⟨fun t ht => h t (by omega), fun j hj => h _ (by omega)⟩
      · rintro ⟨h1, h2⟩ t ht
        by_cases hc : t < 16 * m
        · exact h1 t hc
        · have e : t = 16 * m + (t - 16 * m) := by omega
          rw [e]; exact h2 _ (by omega)
    rw [split, ← and_assoc, ← ih]
    show ((if p.val = wordAt labs (16 * m) then _ else _ : EReal) ≤ a) ↔ _
    by_cases hp : p.val = wordAt labs (16 * m)
    · rw [if_pos hp]
      show max (_ : EReal) _ ≤ a ↔ _
      rw [max_le_iff, run_bound D _ c a ha]
      refine and_congr_right fun _ => forall_congr' fun j => forall_congr' fun hj => ?_
      exact ⟨fun h _ => h, fun h => h ((hg m (by omega) j hj).trans hp.symm)⟩
    · rw [if_neg hp]
      refine (and_iff_left ?_).symm
      intro j hj e
      exact absurd (e.symm.trans (hg m (by omega) j hj)) hp

theorem acc_mono (S : Fin 16 → Fin 128 → Ideal .f32) (p : Fin 16) (c : Fin 128) : ∀ m, (S p c : EReal) ≤ accN (F := Ideal) fM zM D ids labs S m p c
  | 0 => le_rfl
  | m + 1 => by
    refine le_trans (acc_mono S p c m) ?_
    show _ ≤ (if p.val = wordAt labs (16 * m) then _ else _ : EReal)
    split
    · exact le_max_left _ _
    · exact le_rfl

end Acc

/-! ## A row's sums and maxima -/

section Row
variable (X : S4x128x30x2048.Idx → Ideal .f32) (Lb : S4x30x2048.Idx → BitVec 32) (n : Fin 120)

theorem dat_col {k : Fin 4} {D : S128x529.Idx → Ideal .f32} (hD : DatOK X n k D) (c : Fin 128) (q : Fin 512) : colAt D c q.val = fch X n k c q := by
  have := q.isLt
  unfold colAt; rw [dif_pos (by omega)]; exact hD.1 c q

theorem dat_pad {k : Fin 4} {D : S128x529.Idx → Ideal .f32} (hD : DatOK X n k D) (c : Fin 128) : colAt D c 512 = zM := by
  unfold colAt; rw [dif_pos (by omega)]; exact hD.2 c

/-- Chunk `j`'s part of the sum of part `p`, channel `c`. -/
def cs (p : Fin 16) (c : Fin 128) (j : ℕ) : EReal :=
  if h : j < 4 then ∑ q : Fin 512, if labOf (lch Lb n ⟨j, h⟩) q = p.val then (fch X n ⟨j, h⟩ c q : EReal) else 0 else 0

/-- After `k` chunks the sum is the tokens' and one −100 for each padding slot. -/
theorem reach_sum (p : Fin 16) (c : Fin 128) : ∀ (k : ℕ) (S M : Fin 16 → Fin 128 → Ideal .f32), Reach X Lb n k S M →
    (S p c : EReal) = (∑ j ∈ Finset.range k, cs X Lb n p c j) + pw Lb n k p.val • (zM : Ideal .f32)
  | 0, S, M, h => by
    rw [h.1, Finset.range_zero, Finset.sum_empty]
    unfold pw
    rw [Finset.range_zero, Finset.sum_empty, zero_smul, add_zero]
    exact zS_ideal
  | k + 1, S, M, h => by
    obtain ⟨hk, S0, M0, ids, labs, D, m, hr, hg, hm, hD, rfl, -⟩ := h
    have hG := seg_sum (M := EReal) hg p.val p.isLt (fun q => colAt D c q)
    rw [acc_sum D ids labs S0 p c m fun v hv j hj => lab_group hg v j (by omega) hj, ← hm, hG, reach_sum p c k S0 M0 hr, Finset.sum_range_succ]
    unfold pw
    rw [Finset.sum_range_succ, dif_pos hk, add_smul, dat_pad X n hD c]
    have e : cs X Lb n p c k = ∑ q : Fin 512, if labOf (lch Lb n ⟨k, hk⟩) q = p.val then (colAt D c q.val : EReal) else 0 := by
      unfold cs; rw [dif_pos hk]
      exact Finset.sum_congr rfl fun q _ => by rw [dat_col X n hD c q]
    rw [e]
    exact add_add_add_comm _ _ _ _

/-- After `k` chunks the maximum is the greatest of −100 and the tokens. -/
theorem reach_bound (p : Fin 16) (c : Fin 128) (a : EReal) : ∀ (k : ℕ) (S M : Fin 16 → Fin 128 → Ideal .f32), Reach X Lb n k S M →
    ((M p c : EReal) ≤ a ↔ (zM : Ideal .f32) ≤ a ∧ ∀ j (h : j < 4), j < k → ∀ q : Fin 512, labOf (lch Lb n ⟨j, h⟩) q = p.val → (fch X n ⟨j, h⟩ c q : EReal) ≤ a)
  | 0, S, M, h => by
    rw [h.2]
    exact ⟨fun h => ⟨h, fun j _ hj => absurd hj (Nat.not_lt_zero j)⟩, fun h => h.1⟩
  | k + 1, S, M, h => by
    obtain ⟨hk, S0, M0, ids, labs, D, m, hr, hg, hm, hD, -, rfl⟩ := h
    have ih := reach_bound p c a k S0 M0 hr
    have hgr : ∀ v < m, ∀ j < 16, wordAt labs (16 * v + j) = wordAt labs (16 * v) := fun v hv j hj => lab_group hg v j (by omega) hj
    have main : (zM : Ideal .f32) ≤ a → ((accN (F := Ideal) fM zM D ids labs M0 m p c : EReal) ≤ a ↔ (M0 p c : EReal) ≤ a ∧ ∀ q : Fin 512, labOf (lch Lb n ⟨k, hk⟩) q = p.val → (fch X n ⟨k, hk⟩ c q : EReal) ≤ a) := by
      intro ha
      rw [acc_bound D ids labs M0 p c a ha m hgr, ← hm, seg_bound hg p.val p.isLt (fun q => colAt D c q) a (by rw [dat_pad X n hD c]; exact ha)]
      refine and_congr_right fun _ => forall_congr' fun q => ?_
      rw [dat_col X n hD c q]
    constructor
    · intro hb
      have ha : (zM : Ideal .f32) ≤ a := by
        refine le_trans ?_ hb
        have hM0 : (zM : Ideal .f32) ≤ (M0 p c : EReal) := ((reach_bound p c (M0 p c) k S0 M0 hr).1 le_rfl).1
        exact le_trans hM0 (acc_mono D ids labs M0 p c m)
      obtain ⟨h1, h2⟩ := (main ha).1 hb
      refine ⟨ha, fun j h hj q hq => ?_⟩
      rcases Nat.lt_succ_iff_lt_or_eq.1 hj with h' | h'
      · exact (ih.1 h1).2 j h h' q hq
      · subst h'; exact h2 q hq
    · rintro ⟨ha, hb⟩
      exact (main ha).2 ⟨ih.2 ⟨ha, fun j h hj => hb j h (by omega)⟩, hb k hk (by omega)⟩

end Row

end Cert.Proof
-- ==== Proof.Value.lean ====
/-
  A row's results as extended reals: the mean of a part's tokens, and their maximum.
-/
module

public import proofs.«01_k».proof.Proof.Sums
public import proofs.«01_k».proof.Proof.Launch
public import Idealize.ShloMosaic.Lib.IdealHost

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

open Cert.Proof.Lanes Cert.Proof.Place Cert.Proof.Chunk

variable {F : FTy → Type}

local notation "𝕄" => MT nD τ sig (HIx 1) (Elt F) ℕ UU ℕ

variable [FloatOps F]

/-! ## Tokens by chunk -/

section Chunks

/-- Every token is one token of one chunk. -/
theorem sum_tok {M : Type} [AddCommMonoid M] (f : Fin 2048 → M) : ∑ t, f t = ∑ k : Fin 4, ∑ q : Fin 512, f (tq k q) := by
  rw [← Fintype.sum_prod_type']
  refine (Fintype.sum_equiv (finProdFinEquiv (m := 4) (n := 512)) _ _ fun x => ?_).symm
  exact congrArg f (Fin.ext (by show 512 * x.1.val + x.2.val = x.2.val + 512 * x.1.val; omega))

theorem tok_ex (t : Fin 2048) : ∃ k q, t = tq k q :=
  ⟨⟨t.val / 512, by omega⟩, ⟨t.val % 512, by omega⟩, Fin.ext (by show t.val = 512 * (t.val / 512) + t.val % 512; omega)⟩

/-- A sum over the four chunks, by number. -/
theorem sum_four {M : Type} [AddCommMonoid M] (f : Fin 4 → M) : (∑ j ∈ Finset.range 4, if h : j < 4 then f ⟨j, h⟩ else 0) = ∑ k, f k := by
  rw [Finset.sum_range]
  exact Finset.sum_congr rfl fun k _ => dif_pos k.isLt

end Chunks

section Row
variable (X : S4x128x30x2048.Idx → Ideal .f32) (Lb : S4x30x2048.Idx → BitVec 32) (n : Fin 120)

/-- Token `t` of the row is of part `p`. -/
abbrev OfPart (p : Fin 16) (t : Fin 2048) : Prop := Lb (lIx (rb n) (rs n) t) = BitVec.ofNat 32 p.val

theorem part_iff (p : Fin 16) (k : Fin 4) (q : Fin 512) : labOf (lch Lb n k) q = p.val ↔ OfPart Lb n p (tq k q) := by
  rw [labOf_lch]
  have := p.isLt
  constructor
  · intro h; apply BitVec.eq_of_toNat_eq; rw [h, BitVec.toNat_ofNat]; omega
  · intro h; rw [show Lb (lIx (rb n) (rs n) (tq k q)) = BitVec.ofNat 32 p.val from h, BitVec.toNat_ofNat]; omega

/-- The sum and the number of a part's tokens. -/
def tsum (p : Fin 16) (c : Fin 128) : EReal := ∑ t : Fin 2048, if OfPart Lb n p t then (X (fIx (rb n) c (rs n) t) : EReal) else 0
def cnum (p : Fin 16) : ℕ := (Finset.univ.filter fun t : Fin 2048 => OfPart Lb n p t).card

theorem cs_tsum (p : Fin 16) (c : Fin 128) : (∑ j ∈ Finset.range 4, cs X Lb n p c j) = tsum X Lb n p c := by
  unfold tsum cs
  rw [sum_tok, ← sum_four]
  refine Finset.sum_congr rfl fun j _ => ?_
  by_cases h : j < 4
  · rw [dif_pos h, dif_pos h]
    exact Finset.sum_congr rfl fun q _ => if_congr (part_iff Lb n p _ q) rfl rfl
  · rw [dif_neg h, dif_neg h]

theorem cw_num (p : Fin 16) : cw Lb n 4 p.val = cnum Lb n p := by
  unfold cnum cw
  rw [Finset.card_filter, sum_tok, ← sum_four]
  refine Finset.sum_congr rfl fun j _ => ?_
  by_cases h : j < 4
  · rw [dif_pos h, dif_pos h]
    unfold hist cntN
    rw [Finset.card_filter]
    refine Finset.sum_congr rfl fun q _ => if_congr ?_ rfl rfl
    rw [← part_iff]
    exact ⟨fun h => h.2, fun h => ⟨q.isLt, h⟩⟩
  · rw [dif_neg h, dif_neg h]

theorem cnum_le (p : Fin 16) : cnum Lb n p ≤ 2048 := (Finset.card_le_univ _).trans (by simp)

theorem pads_le (p : Fin 16) : pw Lb n 4 p.val ≤ 60 := by
  unfold pw
  rw [sum_four (fun k => ceil (labOf (lch Lb n k)) p.val - hist (labOf (lch Lb n k)) p.val)]
  refine (Finset.sum_le_card_nsmul _ _ 15 fun k _ => ?_).trans (by simp)
  have := ceil_le (labOf (lch Lb n k)) p.val
  omega

/-! ## The constants -/

theorem zM_ideal : (zM : Ideal .f32) = ((-100 : ℝ) : EReal) := by
  show Ideal.ofBits .f32 0xC2C80000#32 = _
  simp [Ideal.ofBits, Ideal.ieee, -EReal.coe_mul, -EReal.coe_neg]; norm_num

theorem hundred : Ideal.ofBits .f32 0x42C80000#32 = ((100 : ℝ) : EReal) := by
  simp [Ideal.ofBits, Ideal.ieee, -EReal.coe_mul]; norm_num

/-- One −100 for each padding slot, and 100 times their number. -/
theorem pad_cancel (A : EReal) (w : ℕ) : (A + w • (zM : Ideal .f32)) + Ideal.ofBits .f32 0x42C80000#32 * ((w : ℝ) : EReal) = A := by
  have e : w • (((-100 : ℝ)) : EReal) = ((w * (-100 : ℝ) : ℝ) : EReal) := by
    rw [← nsmul_eq_mul]; exact (EReal.coe_nsmul w _).symm
  rw [zM_ideal, hundred, e, add_assoc, ← EReal.coe_mul, ← EReal.coe_add, show (w * (-100 : ℝ) + 100 * w : ℝ) = 0 by ring, EReal.coe_zero, add_zero]

/-! ## The reciprocals -/

theorem toInt_small (N : ℕ) (h : N ≤ 2048) : (BitVec.ofNat 32 N).toInt = N := by
  rw [BitVec.toInt_eq_toNat_of_lt (by rw [BitVec.toNat_ofNat]; omega), BitVec.toNat_ofNat]; omega

theorem max_small (N : ℕ) (h : N ≤ 2048) : ((IntOp.maxsi (BitVec.ofNat 32 N) 1#32).toInt : ℝ) = max (N : ℝ) 1 := by
  have e := toInt_small N h
  unfold IntOp.maxsi
  rcases Nat.eq_zero_or_pos N with h0 | h0
  · subst h0; simp
  · have hm : max (N : ℝ) 1 = N := max_eq_left (by exact_mod_cast h0)
    rw [hm]
    split
    · rw [e]; simp
    · rename_i hc
      have h1 : (1#32).toInt = 1 := by decide
      simp only [BitVec.slt, e, h1, decide_eq_true_eq, not_lt] at hc
      have : N = 1 := by omega
      rw [h1, this]; simp

theorem rcp_at (N : ℕ) (h : N ≤ 2048) : rAt (rcpV (F := Ideal)) N = Ideal.div 1 ((max (N : ℝ) 1 : ℝ) : EReal) := by
  unfold rAt
  rw [dif_pos (by omega)]
  show Scalar.select (IntOp.cmpi .sle (BitVec.ofNat 32 N) 2048#32) (Ideal.div (Ideal.ofBits .f32 0x3F800000#32) (((IntOp.maxsi (BitVec.ofNat 32 N) 1#32).toInt : ℝ) : EReal)) _ = _
  rw [max_small N h, Ideal.ofBits_one_f32]
  unfold Scalar.select
  rw [if_pos]
  show BitVec.ofBool ((BitVec.ofNat 32 N).sle 2048#32) = 1#1
  rw [show (BitVec.ofNat 32 N).sle 2048#32 = true from by
    unfold BitVec.sle; rw [toInt_small N h, show (2048#32).toInt = 2048 from by decide]; exact decide_eq_true (by exact_mod_cast h)]
  rfl

/-! ## A row's results -/

/-- What the kernel leaves for a part and a channel: the mean, and the maximum where there is a token. -/
theorem row_val {out : Fin 16 → Fin 128 → Ideal .f32} (h : RowOK X Lb (rcpV (F := Ideal)) n out) (p : Fin 16) (c : Fin 128) :
    out p c = Ideal.div (tsum X Lb n p c) (max ((cnum Lb n p : ℝ) : EReal) 1)
      + if (0 : EReal) < ((cnum Lb n p : ℝ) : EReal) then
          max (Finset.univ.fold max (⊥ : EReal) fun t : Fin 2048 => if OfPart Lb n p t then (X (fIx (rb n) c (rs n) t) : EReal) else ⊥) (Ideal.ofBits .f32 0xC2C80000#32)
        else 0 := by
  obtain ⟨S, M, cnt, npad, hr, hc, hw, ho⟩ := h
  have hN := cnum_le Lb n p
  have hP := pads_le Lb n p
  have hcw : cnt (ln p) = BitVec.ofNat 32 (cnum Lb n p) := by rw [hc p, cw_num]
  have hmax : max ((cnum Lb n p : ℝ) : EReal) 1 = ((max (cnum Lb n p : ℝ) 1 : ℝ) : EReal) := by
    rw [← EReal.coe_one]; exact (EReal.coe_strictMono.monotone.map_max).symm
  have hd : (max (cnum Lb n p : ℝ) 1 : ℝ) ≠ 0 := (lt_of_lt_of_le zero_lt_one (le_max_right _ _)).ne'
  have hS := reach_sum X Lb n p c 4 S M hr
  rw [cs_tsum] at hS
  have hM : (M p c : EReal) = max (Finset.univ.fold max (⊥ : EReal) fun t : Fin 2048 => if OfPart Lb n p t then (X (fIx (rb n) c (rs n) t) : EReal) else ⊥) (Ideal.ofBits .f32 0xC2C80000#32) := by
    refine eq_of_forall_ge_iff fun a => ?_
    rw [reach_bound X Lb n p c a 4 S M hr, max_le_iff, Finset.fold_max_le, and_comm]
    refine and_congr_left fun _ => ?_
    constructor
    · intro hb
      refine ⟨bot_le, fun t _ => ?_⟩
      split
      · rename_i ht
        obtain ⟨k, q, rfl⟩ := tok_ex t
        exact hb k.val k.isLt k.isLt q ((part_iff Lb n p k q).2 ht)
      · exact bot_le
    · rintro ⟨-, hb⟩ j hj _ q hq
      have := hb (tq ⟨j, hj⟩ q) (Finset.mem_univ _)
      rw [if_pos ((part_iff Lb n p ⟨j, hj⟩ q).1 hq)] at this
      exact this
  rw [ho p c, hmax, ← hM]
  unfold fout
  have h1 : (FloatOps.sitofp (F := Ideal) .f32 (npad (ln p)) : EReal) = ((pw Lb n 4 p.val : ℝ) : EReal) := by
    show (((npad (ln p)).toInt : ℝ) : EReal) = _
    rw [hw p, toInt_small _ (by omega)]; simp
  have h2 : (cnt (ln p)).toNat = cnum Lb n p := by rw [hcw, BitVec.toNat_ofNat]; omega
  have h3 : (Scalar.cmpi .sgt (cnt (ln p)) 0#32 = 1#1) ↔ (0 : EReal) < ((cnum Lb n p : ℝ) : EReal) := by
    have e0 : (0#32).toInt = 0 := by decide
    have : Scalar.cmpi .sgt (cnt (ln p)) 0#32 = BitVec.ofBool (decide (0 < (cnum Lb n p : ℤ))) := by
      rw [hcw]
      show BitVec.ofBool ((0#32).slt _) = _
      unfold BitVec.slt; rw [e0, toInt_small _ hN]
    rw [this]
    have e1 : (0 : EReal) < ((cnum Lb n p : ℝ) : EReal) ↔ 0 < cnum Lb n p := by
      rw [← EReal.coe_zero, EReal.coe_lt_coe_iff]; exact_mod_cast Iff.rfl
    rw [e1]
    by_cases hz : 0 < cnum Lb n p
    · simp [hz]
    · simp [hz]
  rw [h2, rcp_at _ hN]
  show ((S p c : EReal) + Ideal.ofBits .f32 0x42C80000#32 * (FloatOps.sitofp (F := Ideal) .f32 (npad (ln p)) : EReal)) * Ideal.div 1 _ + (_ : EReal) = _
  rw [h1, hS, pad_cancel, Ideal.div_coe hd, Ideal.div_coe hd, one_mul]
  refine congrArg (fun z : EReal => _ * _ + z) ?_
  exact if_congr h3 rfl zS_ideal

end Row

end Cert.Proof
-- ==== Proof.RefAt.lean ====
/-
  The reference's result at an index.
-/
module

public import proofs.«01_k».proof.Proof.Gen.ReferenceIdeal.Run
public import Idealize.ShloMosaic.Lib.Pointwise

@[expose] public section

noncomputable section

namespace Cert.Proof.Ref

open Idealize.ShloMosaic Idealize.ShloMosaic.TcCoe Cert.ReferenceIdeal Cert.ReferenceIdeal.Gen Cert.ReferenceIdeal.Value

variable (X : FVec Ideal S4x128x30x2048 .f32) (Lb : IVec S4x30x2048 32) (Mk : IVec S4x30x2048 1)

/-- Whether a token is of a part. -/
def mem : IVec S4x1x30x16x2048 1 :=
  cmpi .eq (broadcastInDim S4x1x30x16x2048 ![0, 1, 2, 3, 4] bcast_S4x1x30x1x2048_S4x1x30x16x2048_0_1_2_3_4 (broadcastInDim S4x1x30x1x2048 ![0, 2, 4] bcast_S4x30x2048_S4x1x30x1x2048_0_2_4 Lb))
    (broadcastInDim S4x1x30x16x2048 ![0, 1, 2, 3, 4] bcast_S1x1x1x16x1_S4x1x30x16x2048_0_1_2_3_4 (broadcastInDim S1x1x1x16x1 ![3] bcast_S16_S1x1x1x16x1_3 (iotaInDim S16 32 0)))

/-- A number in every place. -/
def all1 (w : BitVec 32) : FVec Ideal S4x1x30x16x2048 .f32 := broadcastInDim S4x1x30x16x2048 ![] bcast_S_S4x1x30x16x2048 (constant S_ .f32 w)
def all128 (w : BitVec 32) : FVec Ideal S4x128x30x16x2048 .f32 := broadcastInDim S4x128x30x16x2048 ![] bcast_S_S4x128x30x16x2048 (constant S_ .f32 w)

def mem128 : IVec S4x128x30x16x2048 1 := broadcastInDim S4x128x30x16x2048 ![0, 1, 2, 3, 4] bcast_S4x1x30x16x2048_S4x128x30x16x2048_0_1_2_3_4 (mem Lb)

theorem mem_at (b : Fin 4) (s : Fin 30) (p : Fin 16) (t : Fin 2048) (z : Fin 1) : mem Lb (ix5 b z s p t) = IntOp.cmpi .eq (Lb (ix3 b s t)) (BitVec.ofNat 32 p.val) := by
  pointwise [mem]

theorem mem128_at (b : Fin 4) (c : Fin 128) (s : Fin 30) (p : Fin 16) (t : Fin 2048) : mem128 Lb (ix5 b c s p t) = IntOp.cmpi .eq (Lb (ix3 b s t)) (BitVec.ofNat 32 p.val) := by
  rw [← mem_at Lb b s p t 0]
  pointwise [mem128]

theorem all1_at (w : BitVec 32) (j) : all1 w j = Ideal.ofBits .f32 w := by
  pointwise [all1]
theorem all128_at (w : BitVec 32) (j) : all128 w j = Ideal.ofBits .f32 w := by
  pointwise [all128]

/-- The features with the mask. -/
def feat : FVec Ideal S4x128x30x16x2048 .f32 :=
  broadcastInDim S4x128x30x16x2048 ![0, 1, 2, 3, 4] bcast_S4x128x30x1x2048_S4x128x30x16x2048_0_1_2_3_4 (broadcastInDim S4x128x30x1x2048 ![0, 1, 2, 4] bcast_S4x128x30x2048_S4x128x30x1x2048_0_1_2_4 X)

theorem feat_at (b : Fin 4) (c : Fin 128) (s : Fin 30) (p : Fin 16) (t : Fin 2048) : feat X (ix5 b c s p t) = X (ix4 b c s t) := by
  pointwise [feat]

def mask1 : FVec Ideal S4x1x30x16x2048 .f32 :=
  broadcastInDim S4x1x30x16x2048 ![0, 1, 2, 3, 4] bcast_S4x1x30x1x2048_S4x1x30x16x2048_0_1_2_3_4 (broadcastInDim S4x1x30x1x2048 ![0, 2, 4] bcast_S4x30x2048_S4x1x30x1x2048_0_2_4 (uitofp .f32 Mk))

theorem mask1_at (b : Fin 4) (s : Fin 30) (p : Fin 16) (t : Fin 2048) (z : Fin 1) : mask1 Mk (ix5 b z s p t) = FloatOps.uitofp (F := Ideal) .f32 (Mk (ix3 b s t)) := by
  pointwise [mask1]

def masked : FVec Ideal S4x128x30x2048 .f32 :=
  mulf X (broadcastInDim S4x128x30x2048 ![0, 1, 2, 3] bcast_S4x1x30x2048_S4x128x30x2048_0_1_2_3 (broadcastInDim S4x1x30x2048 ![0, 2, 3] bcast_S4x30x2048_S4x1x30x2048_0_2_3 (uitofp .f32 Mk)))

theorem masked_at (b : Fin 4) (c : Fin 128) (s : Fin 30) (t : Fin 2048) : masked X Mk (ix4 b c s t) = X (ix4 b c s t) * FloatOps.uitofp (F := Ideal) .f32 (Mk (ix3 b s t)) := by
  pointwise [masked]

/-! ## The reductions -/

def sum128 (Y : FVec Ideal S4x128x30x16x2048 .f32) : FVec Ideal S4x128x30x16 .f32 := Host.reduceAdd Y (constant S_ .f32 0x00000000#32) reducesTo_S4x128x30x16x2048_S4x128x30x16_d4 h_S_
def sum1 (Y : FVec Ideal S4x1x30x16x2048 .f32) : FVec Ideal S4x1x30x16 .f32 := Host.reduceAdd Y (constant S_ .f32 0x00000000#32) reducesTo_S4x1x30x16x2048_S4x1x30x16_d4 h_S_
def max128 (Y : FVec Ideal S4x128x30x16x2048 .f32) : FVec Ideal S4x128x30x16 .f32 := Host.reduce FloatOps.maximumf Y (constant S_ .f32 0xFF800000#32) reducesTo_S4x128x30x16x2048_S4x128x30x16_d4 h_S_

theorem sum128_at (Y : FVec Ideal S4x128x30x16x2048 .f32) (b : Fin 4) (c : Fin 128) (s : Fin 30) (p : Fin 16) : sum128 Y (ix4 b c s p) = ∑ t : Fin 2048, Y (ix5 b c s p t) := by
  pointwise [sum128]
theorem sum1_at (Y : FVec Ideal S4x1x30x16x2048 .f32) (b : Fin 4) (s : Fin 30) (p : Fin 16) : sum1 Y (ix4 b 0 s p) = ∑ t : Fin 2048, Y (ix5 b 0 s p t) := by
  pointwise [sum1]
theorem max128_at (Y : FVec Ideal S4x128x30x16x2048 .f32) (b : Fin 4) (c : Fin 128) (s : Fin 30) (p : Fin 16) :
    max128 Y (ix4 b c s p) = Finset.univ.fold max (Ideal.ofBits .f32 0xFF800000#32) fun t : Fin 2048 => Y (ix5 b c s p t) := by
  pointwise [max128]

/-- The number of tokens that the mask keeps, no less than one; and whether there is any token. -/
def den : FVec Ideal S4x1x30x16 .f32 := maximumf (sum1 (select (mem Lb) (mask1 Mk) (all1 0x00000000#32))) (broadcastInDim S4x1x30x16 ![] bcast_S_S4x1x30x16 (constant S_ .f32 0x3F800000#32))
def some1 : IVec S4x1x30x16 1 := cmpf .ogt (sum1 (select (mem Lb) (all1 0x3F800000#32) (all1 0x00000000#32))) (broadcastInDim S4x1x30x16 ![] bcast_S_S4x1x30x16 (constant S_ .f32 0x00000000#32))

/-- A number in every place of the result. -/
def num128 (w : BitVec 32) : FVec Ideal S4x128x30x16 .f32 := broadcastInDim S4x128x30x16 ![] bcast_S_S4x128x30x16 (constant S_ .f32 w)

theorem num128_at (w : BitVec 32) (j) : num128 w j = Ideal.ofBits .f32 w := by
  pointwise [num128]

/-- The mean, and the maximum where there is a token. -/
def mean : FVec Ideal S4x128x30x16 .f32 :=
  Host.divf (sum128 (select (mem128 Lb) (feat (masked X Mk)) (all128 0x00000000#32))) (broadcastInDim S4x128x30x16 ![0, 1, 2, 3] bcast_S4x1x30x16_S4x128x30x16_0_1_2_3 (den Lb Mk))
def top : FVec Ideal S4x128x30x16 .f32 :=
  select (broadcastInDim S4x128x30x16 ![0, 1, 2, 3] bcast_S4x1x30x16_S4x128x30x16_0_1_2_3 (some1 Lb))
    (maximumf (max128 (select (mem128 Lb) (feat X) (all128 0xFF800000#32))) (num128 0xC2C80000#32))
    (num128 0x00000000#32)

theorem den_at (b : Fin 4) (s : Fin 30) (p : Fin 16) : den Lb Mk (ix4 b 0 s p) = max (sum1 (select (mem Lb) (mask1 Mk) (all1 0x00000000#32)) (ix4 b 0 s p) : EReal) 1 := by
  unfold den
  generalize sum1 (select (mem Lb) (mask1 Mk) (all1 0x00000000#32)) = Y
  pointwise

theorem some1_at (b : Fin 4) (s : Fin 30) (p : Fin 16) : some1 Lb (ix4 b 0 s p) = Ideal.cmp .ogt (sum1 (select (mem Lb) (all1 0x3F800000#32) (all1 0x00000000#32)) (ix4 b 0 s p)) 0 := by
  unfold some1
  generalize sum1 (select (mem Lb) (all1 0x3F800000#32) (all1 0x00000000#32)) = Y
  pointwise

theorem mean_at (b : Fin 4) (c : Fin 128) (s : Fin 30) (p : Fin 16) :
    mean X Lb Mk (ix4 b c s p) = Ideal.div (sum128 (select (mem128 Lb) (feat (masked X Mk)) (all128 0x00000000#32)) (ix4 b c s p)) (den Lb Mk (ix4 b 0 s p)) := by
  unfold mean
  generalize sum128 (select (mem128 Lb) (feat (masked X Mk)) (all128 0x00000000#32)) = Y
  generalize den Lb Mk = Z
  pointwise

theorem sel_at (Z : IVec S4x1x30x16 1) (Y V W : FVec Ideal S4x128x30x16 .f32) (b : Fin 4) (c : Fin 128) (s : Fin 30) (p : Fin 16) :
    select (broadcastInDim S4x128x30x16 ![0, 1, 2, 3] bcast_S4x1x30x16_S4x128x30x16_0_1_2_3 Z) (maximumf Y V) W (ix4 b c s p) = Scalar.select (Z (ix4 b 0 s p)) (max (Y (ix4 b c s p) : EReal) (V (ix4 b c s p))) (W (ix4 b c s p)) := by
  pointwise

theorem top_at (b : Fin 4) (c : Fin 128) (s : Fin 30) (p : Fin 16) :
    top X Lb (ix4 b c s p) = Scalar.select (some1 Lb (ix4 b 0 s p)) (max (max128 (select (mem128 Lb) (feat X) (all128 0xFF800000#32)) (ix4 b c s p) : EReal) (num128 0xC2C80000#32 (ix4 b c s p))) (num128 0x00000000#32 (ix4 b c s p)) :=
  sel_at _ _ _ _ b c s p

theorem res_eq (m : (ℓ : Loc nD τ sig) → Buf (Elt Ideal) ℓ) (d : Dev nD) :
    res_main_v32 (F := Ideal) m d = addf (mean (m (d.tc.loc main_arg0)) (m (d.tc.loc main_arg1)) (m (d.tc.loc main_arg2))) (top (m (d.tc.loc main_arg0)) (m (d.tc.loc main_arg1))) := by
  unfold res_main_v32; rfl

/-! ## The result at an index -/

/-- Whether token `t` of a sequence is of part `p`. -/
abbrev In (b : Fin 4) (s : Fin 30) (p : Fin 16) (t : Fin 2048) : Prop := Lb (ix3 b s t) = BitVec.ofNat 32 p.val

/-- How many are. -/
def num (b : Fin 4) (s : Fin 30) (p : Fin 16) : ℕ := (Finset.univ.filter fun t => In Lb b s p t).card

theorem sel_in {α : Type} (b : Fin 4) (s : Fin 30) (p : Fin 16) (t : Fin 2048) (x y : α) :
    Scalar.select (IntOp.cmpi .eq (Lb (ix3 b s t)) (BitVec.ofNat 32 p.val)) x y = if In Lb b s p t then x else y := by
  unfold Scalar.select IntOp.cmpi In
  by_cases h : Lb (ix3 b s t) = BitVec.ofNat 32 p.val
  · simp [h]
  · rw [if_neg h, if_neg]
    rw [show (Lb (ix3 b s t) == BitVec.ofNat 32 p.val) = false from beq_eq_false_iff_ne.2 h]
    exact (by decide : ¬ BitVec.ofBool false = 1#1)

theorem sel_pos (x u v : EReal) : Scalar.select (Ideal.cmp .ogt x 0) u v = if 0 < x then u else v := by
  unfold Scalar.select Ideal.cmp
  by_cases h : 0 < x
  · simp [h]
  · simp [h]

theorem ofBits_bot : Ideal.ofBits .f32 0xFF800000#32 = (⊥ : EReal) := by simp [Ideal.ofBits, Ideal.ieee]

theorem sum_num (b : Fin 4) (s : Fin 30) (p : Fin 16) : (∑ t : Fin 2048, if In Lb b s p t then (1 : EReal) else 0) = ((num Lb b s p : ℝ) : EReal) := by
  rw [Finset.sum_boole]; rfl

/-- The reference's result where the mask keeps every token. -/
theorem res_at (hM : ∀ i, Mk i = 1#1) (b : Fin 4) (c : Fin 128) (s : Fin 30) (p : Fin 16) :
    (mean X Lb Mk (ix4 b c s p) : EReal) + top X Lb (ix4 b c s p)
      = Ideal.div (∑ t : Fin 2048, if In Lb b s p t then (X (ix4 b c s t) : EReal) else 0) (max ((num Lb b s p : ℝ) : EReal) 1)
        + if (0 : EReal) < ((num Lb b s p : ℝ) : EReal) then
            max (Finset.univ.fold max (⊥ : EReal) fun t : Fin 2048 => if In Lb b s p t then (X (ix4 b c s t) : EReal) else ⊥) (Ideal.ofBits .f32 0xC2C80000#32)
          else 0 := by
  have hu : ∀ i, FloatOps.uitofp (F := Ideal) .f32 (Mk i) = (1 : EReal) := fun i => by
    rw [hM i]; show (((1#1 : BitVec 1).toNat : ℝ) : EReal) = 1; simp
  have h1 : sum1 (select (mem Lb) (mask1 Mk) (all1 0x00000000#32)) (ix4 b 0 s p) = ((num Lb b s p : ℝ) : EReal) := by
    rw [sum1_at, ← sum_num]
    refine Finset.sum_congr rfl fun t _ => ?_
    show Scalar.select (mem Lb _) (mask1 Mk _) (all1 _ _) = _
    rw [mem_at, mask1_at, all1_at, sel_in, hu, Ideal.ofBits_zero_f32]
  have h2 : sum1 (select (mem Lb) (all1 0x3F800000#32) (all1 0x00000000#32)) (ix4 b 0 s p) = ((num Lb b s p : ℝ) : EReal) := by
    rw [sum1_at, ← sum_num]
    refine Finset.sum_congr rfl fun t _ => ?_
    show Scalar.select (mem Lb _) (all1 _ _) (all1 _ _) = _
    rw [mem_at, all1_at, all1_at, sel_in, Ideal.ofBits_one_f32, Ideal.ofBits_zero_f32]
  have h3 : sum128 (select (mem128 Lb) (feat (masked X Mk)) (all128 0x00000000#32)) (ix4 b c s p) = ∑ t : Fin 2048, if In Lb b s p t then (X (ix4 b c s t) : EReal) else 0 := by
    rw [sum128_at]
    refine Finset.sum_congr rfl fun t _ => ?_
    show Scalar.select (mem128 Lb _) (feat _ _) (all128 _ _) = _
    rw [mem128_at, feat_at, masked_at, all128_at, sel_in, hu, Ideal.ofBits_zero_f32, mul_one]
  have h4 : max128 (select (mem128 Lb) (feat X) (all128 0xFF800000#32)) (ix4 b c s p) = Finset.univ.fold max (⊥ : EReal) fun t : Fin 2048 => if In Lb b s p t then (X (ix4 b c s t) : EReal) else ⊥ := by
    rw [max128_at, ofBits_bot]
    refine Finset.fold_congr fun t _ => ?_
    show Scalar.select (mem128 Lb _) (feat _ _) (all128 _ _) = _
    rw [mem128_at, feat_at, all128_at, sel_in, ofBits_bot]
  rw [mean_at, den_at, top_at, num128_at, num128_at, Ideal.ofBits_zero_f32, some1_at, h1, h2, h3, h4]
  generalize Ideal.ofBits .f32 0xC2C80000#32 = w
  generalize Ideal.div _ _ = u
  refine congrArg (fun z : EReal => u + z) ?_
  exact sel_pos _ _ _

end Cert.Proof.Ref

end
-- ==== Proof.Algebra.lean ====
/-
  The kernel's result is the reference's, as extended reals.
-/
module

public import proofs.«01_k».proof.Defs
public import proofs.«01_k».proof.Proof.Value
public import proofs.«01_k».proof.Proof.RefAt
public import proofs.«01_k».proof.Proof.Frames

@[expose] public section

noncomputable section

namespace Cert.Proof

open Idealize.ShloMosaic Idealize.ShloMosaic.TcCoe Idealize.SL.Sem

section Output
open Cert.KernelIdeal Cert.KernelIdeal.Gen

/-- The row of a batch and a sequence. -/
def rowOfBS (b : Fin 4) (s : Fin 30) : Fin 120 := ⟨30 * b.val + s.val, by omega⟩

theorem rb_row (b : Fin 4) (s : Fin 30) : rb (rowOfBS b s) = b := Fin.ext (by show (30 * b.val + s.val) / 30 = b.val; omega)
theorem rs_row (b : Fin 4) (s : Fin 30) : rs (rowOfBS b s) = s := Fin.ext (by show (30 * b.val + s.val) % 30 = s.val; omega)

theorem out_at (f : S120x16x128.Idx → Ideal .f32) (b : Fin 4) (c : Fin 128) (s : Fin 30) (p : Fin 16) :
    outV (F := Ideal) f (ix4 b c s p) = f (oix (rowOfBS b s) p c) := by
  have e : oix (rowOfBS b s) p c = ix3 (rowOfBS b s) p c := by
    funext a; match a with | 0 => rfl | 1 => rfl | 2 => rfl
  rw [e]
  pointwise [outV]
  exact congrArg (fun n => f (ix3 n p c)) (Fin.ext (by show b.val * 30 + s.val = 30 * b.val + s.val; omega))

end Output

theorem fIx_ix (b : Fin 4) (c : Fin 128) (s : Fin 30) (t : Fin 2048) : fIx b c s t = ix4 b c s t := by
  funext a; match a with | 0 => rfl | 1 => rfl | 2 => rfl | 3 => rfl
theorem lIx_ix (b : Fin 4) (s : Fin 30) (t : Fin 2048) : lIx b s t = ix3 b s t := by
  funext a; match a with | 0 => rfl | 1 => rfl | 2 => rfl

/-- The kernel's result from the features, the labels and a mask of ones. -/
theorem out_eq (X : Cert.KernelIdeal.S4x128x30x2048.Idx → Ideal .f32) (Lb : Cert.KernelIdeal.S4x30x2048.Idx → BitVec 32) (Mk : Cert.ReferenceIdeal.S4x30x2048.Idx → BitVec 1) (hM : ∀ i, Mk i = 1#1)
    (f : Cert.KernelIdeal.S120x16x128.Idx → Ideal .f32) (hf : ∀ n : Fin 120, RowOK X Lb (rcpV (F := Ideal)) n fun p c => f (oix n p c)) :
    outV (F := Ideal) f = addf (F := Ideal) (Ref.mean X Lb Mk) (Ref.top X Lb) := by
  funext i
  obtain ⟨b, c, s, p, rfl⟩ : ∃ (b : Fin 4) (c : Fin 128) (s : Fin 30) (p : Fin 16), i = ix4 b c s p :=
    ⟨i 0, i 1, i 2, i 3, by funext a; match a with | 0 => rfl | 1 => rfl | 2 => rfl | 3 => rfl⟩
  refine (out_at f b c s p).trans ?_
  refine (row_val X Lb (rowOfBS b s) (hf _) p c).trans ?_
  refine Eq.trans ?_ (Ref.res_at X Lb Mk hM b c s p).symm
  unfold tsum cnum Ref.num OfPart Ref.In
  simp only [rb_row, rs_row, fIx_ix, lIx_ix]

theorem algebraic : Cert.algebraic_KernelIdeal_ReferenceIdeal_pre_in_range_and_valid := by
  intro m g m' g' hpre hag
  have hok := fun d => ok_of_pre _ _ _ (hpre d)
  refine ⟨fun d => addf (F := Ideal) (Ref.mean (m (xLoc d)) (m (lLoc d)) (m (mLoc d))) (Ref.top (m (xLoc d)) (m (lLoc d))), ?_, ?_⟩
  · refine (θ_run Cert.KernelIdeal.defs _ _).mono (fun r h d => ?_) (run_main (F := Ideal) m g fun d x => (hok d).1 x)
    obtain ⟨f, hf, h0, h1, h2, h3⟩ := h.1 d
    exact ⟨h3.trans (out_eq _ _ _ (hok d).2 f hf), h0, h1, h2⟩
  · refine (θ_run Cert.ReferenceIdeal.defs _ _).mono (fun r h d => ?_) (Cert.ReferenceIdeal.Value.run (F := Ideal) m' g')
    obtain ⟨h3, h0, h1, h2⟩ := h d
    obtain ⟨e0, e1, e2⟩ := hag d
    refine ⟨h3.trans ((Ref.res_eq m' d).trans ?_), h0, h1, h2⟩
    rw [e0, e1, e2]

end Cert.Proof

end
-- ==== Proof.lean ====
/-
  The claims about the kernel: the frames of its two readings and of the reference, and what relates them.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_labels_in_range
public import proofs.«01_k».proof.Proof.Gen.Pre_in_range_and_valid
public import proofs.«01_k».proof.Proof.Frames
public import proofs.«01_k».proof.Proof.RefFrame
public import proofs.«01_k».proof.Proof.Algebra

@[expose] public section

noncomputable section

namespace Cert.Proof

open Idealize.ShloMosaic Idealize.SL.Sem

theorem frame_reference_valid : Cert.quiescent_ReferenceIdeal_pre_in_range_and_valid := fun m ρ _ => frame_reference m ρ trivial

theorem claim : Cert.Claim := ⟨Cert.Kernel.Gen.facts, Cert.KernelIdeal.Gen.facts, Cert.ReferenceIdeal.Gen.facts, Cert.Pre_labels_in_range.Gen.facts, Cert.Pre_in_range_and_valid.Gen.facts,
  frame_kernel, frame_kernelIdeal, frame_kernelIdeal_valid, frame_reference, frame_reference_valid, trivial, algebraic⟩

end Cert.Proof

end
